-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_samplable [hPre_samplable : Cert.Pre_samplable.Facts] (m : (ℓ : Loc Cert.KernelIdeal.nD Cert.KernelIdeal.τ Cert.KernelIdeal.sig) → Buf (Elt Ideal) ℓ) : Prop :=
  ∀ c : Dev Cert.KernelIdeal.nD,
    (Cert.Pre_samplable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_samplable [hPre_samplable : Cert.Pre_samplable.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_samplable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_samplable [hKernelIdeal : Cert.KernelIdeal.Facts] [hPre_samplable : Cert.Pre_samplable.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_samplable m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_samplable [hReferenceIdeal : Cert.ReferenceIdeal.Facts] [hPre_samplable : Cert.Pre_samplable.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_samplable m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_samplable [hKernelIdeal : Cert.KernelIdeal.Facts] [hReferenceIdeal : Cert.ReferenceIdeal.Facts] [hPre_samplable : Cert.Pre_samplable.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_samplable m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_samplable : Cert.Pre_samplable.Facts),
    quiescent_Kernel (hKernel := hKernel)
    ∧ quiescent_KernelIdeal (hKernelIdeal := hKernelIdeal)
    ∧ quiescent_KernelIdeal_pre_samplable (hKernelIdeal := hKernelIdeal) (hPre_samplable := hPre_samplable)
    ∧ quiescent_ReferenceIdeal (hReferenceIdeal := hReferenceIdeal)
    ∧ quiescent_ReferenceIdeal_pre_samplable (hReferenceIdeal := hReferenceIdeal) (hPre_samplable := hPre_samplable)
    ∧ preserves_Kernel_KernelIdeal
    ∧ algebraic_KernelIdeal_ReferenceIdeal_pre_samplable (hKernelIdeal := hKernelIdeal) (hReferenceIdeal := hReferenceIdeal) (hPre_samplable := hPre_samplable)
-- ==== Pre_samplable.lean ====
abbrev S1024x5x4x128 : Shape := ⟨4, ![1024, 5, 4, 128]⟩
abbrev S1024x5x4 : Shape := ⟨3, ![1024, 5, 4]⟩
abbrev S1000x128 : Shape := ⟨2, ![1000, 128]⟩
abbrev S1000 : Shape := ⟨1, ![1000]⟩
abbrev S_ : Shape := ⟨0, ![]⟩

class Facts : Prop where
  bcast_S_S1024x5x4 : S_.BroadcastsInDim S1024x5x4 (![] : Fin 0 → Fin S1024x5x4.rank)
  reducesTo_S1024x5x4_S_d0_1_2 : S1024x5x4.ReducesTo [0, 1, 2] S_
  h_S_ : 0 < S_.numel
  bcast_S_S1000 : S_.BroadcastsInDim S1000 (![] : Fin 0 → Fin S1000.rank)
  reducesTo_S1000_S_d0 : S1000.ReducesTo [0] S_

variable [Facts]

def fn_where {F : FTy → Type} [FloatOps F] (arg0 : IVec S1000 1) (arg1 : FVec F S_ .f32) (arg2 : FVec F S_ .f32) : FVec F S1000 .f32 :=
  let v0 : FVec F S1000 .f32 := broadcastInDim S1000 ![] bcast_S_S1000 arg1
  let v1 : FVec F S1000 .f32 := broadcastInDim S1000 ![] bcast_S_S1000 arg2
  let v2 : FVec F S1000 .f32 := select arg0 v0 v1
  v2

def fn_part1 {F : FTy → Type} [FloatOps F] (main_v5 : IVec S_ 1) (main_v9 : IVec S_ 1) (main_v14 : FVec F S_ .f32) : IVec S_ 1 :=
  let main_cst_7 : FVec F S_ .f32 := constant S_ .f32 0x40C00000#32
  let main_v15 : IVec S_ 1 := cmpf .oge main_v14 main_cst_7
  let main_v16 : IVec S_ 1 := andi main_v5 main_v9
  let main_v17 : IVec S_ 1 := andi main_v16 main_v15
  main_v17

def fn {F : FTy → Type} [FloatOps F] (main_arg0 : FVec F S1024x5x4x128 .f32) (main_arg1 : IVec S1024x5x4 32) (main_arg2 : FVec F S1000x128 .f32) (main_arg3 : FVec F S1000 .f32) : IVec S_ 1 :=
  let main_c : IVec S_ 32 := constantI S_ 32 0#32
  let main_v0 : IVec S1024x5x4 32 := broadcastInDim S1024x5x4 ![] bcast_S_S1024x5x4 main_c
  let main_v1 : IVec S1024x5x4 1 := cmpi .sge main_arg1 main_v0
  let main_c_0 : IVec S_ 32 := constantI S_ 32 1000#32
  let main_v2 : IVec S1024x5x4 32 := broadcastInDim S1024x5x4 ![] bcast_S_S1024x5x4 main_c_0
  let main_v3 : IVec S1024x5x4 1 := cmpi .slt main_arg1 main_v2
  let main_v4 : IVec S1024x5x4 1 := andi main_v1 main_v3
  let main_c_1 : IVec S_ 1 := constantI S_ 1 1#1
  let main_v5 : IVec S_ 1 := (fun x v => Host.reduce IntOp.andi x v reducesTo_S1024x5x4_S_d0_1_2 h_S_) main_v4 main_c_1
  let main_v6 : FVec F S1000 .f32 := Host.absf main_arg3
  let main_cst : FVec F S_ .f32 := constant S_ .f32 0x7F800000#32
  let main_v7 : FVec F S1000 .f32 := broadcastInDim S1000 ![] bcast_S_S1000 main_cst
  let main_v8 : IVec S1000 1 := cmpf .olt main_v6 main_v7
  let main_c_2 : IVec S_ 1 := constantI S_ 1 1#1
  let main_v9 : IVec S_ 1 := (fun x v => Host.reduce IntOp.andi x v reducesTo_S1000_S_d0 h_S_) main_v8 main_c_2
  let main_cst_3 : FVec F S_ .f32 := constant S_ .f32 0x00000000#32
  let main_v10 : FVec F S1000 .f32 := broadcastInDim S1000 ![] bcast_S_S1000 main_cst_3
  let main_v11 : IVec S1000 1 := cmpf .ogt main_arg3 main_v10
  let main_cst_4 : FVec F S_ .f32 := constant S_ .f32 0x3F800000#32
  let main_cst_5 : FVec F S_ .f32 := constant S_ .f32 0x00000000#32
  let main_v12 : FVec F S1000 .f32 := fn_where (F := F) main_v11 main_cst_4 main_cst_5
  let main_v13 : FVec F S1000 .f32 := id main_v12
  let main_cst_6 : FVec F S_ .f32 := constant S_ .f32 0x00000000#32
  let main_v14 : FVec F S_ .f32 := (fun x v => Host.reduceAdd x v reducesTo_S1000_S_d0 h_S_) main_v13 main_cst_6
  fn_part1 (F := F) main_v5 main_v9 main_v14
-- ==== Kernel.lean ====
abbrev S1024x5x4x128 : Shape := ⟨4, ![1024, 5, 4, 128]⟩
abbrev S1024x5x4 : Shape := ⟨3, ![1024, 5, 4]⟩
abbrev S1000x128 : Shape := ⟨2, ![1000, 128]⟩
abbrev S1000 : Shape := ⟨1, ![1000]⟩
abbrev S20480x128 : Shape := ⟨2, ![20480, 128]⟩
abbrev S20x1x1024 : Shape := ⟨3, ![20, 1, 1024]⟩
abbrev S_ : Shape := ⟨0, ![]⟩
abbrev S1024x128 : Shape := ⟨2, ![1024, 128]⟩
abbrev S1 : Shape := ⟨1, ![1]⟩
abbrev S1024 : Shape := ⟨1, ![1024]⟩
abbrev S1024x1 : Shape := ⟨2, ![1024, 1]⟩
abbrev S2 : Shape := ⟨1, ![2]⟩
abbrev S1x1 : Shape := ⟨2, ![1, 1]⟩
abbrev S20480x1000 : Shape := ⟨2, ![20480, 1000]⟩
abbrev S1024x20480 : Shape := ⟨2, ![1024, 20480]⟩
abbrev S1000x20480 : Shape := ⟨2, ![1000, 20480]⟩
abbrev S1024x20x1024 : Shape := ⟨3, ![1024, 20, 1024]⟩
abbrev S20x1024x1024 : Shape := ⟨3, ![20, 1024, 1024]⟩
abbrev S8x128 : Shape := ⟨2, ![8, 128]⟩
abbrev S1x1x1024 : Shape := ⟨3, ![1, 1, 1024]⟩
abbrev S1x1024x1024 : Shape := ⟨3, ![1, 1024, 1024]⟩
abbrev S1x1024x1 : Shape := ⟨3, ![1, 1024, 1]⟩
abbrev S1x1x1 : Shape := ⟨3, ![1, 1, 1]⟩
abbrev S1x1024 : Shape := ⟨2, ![1, 1024]⟩
abbrev S1024x1024 : Shape := ⟨2, ![1024, 1024]⟩

abbrev nBuf : Space → Nat
  | .hbm => 304
  | .vmem => 9
  | .smem => 0
  | _ => 0

abbrev hbmTy0_0 (i : Nat) : BufTy := match i % 128 with
  | 0 => ⟨S1024x5x4x128, .f32⟩
  | 1 => ⟨S1024x5x4, .i32⟩
  | 2 => ⟨S1000x128, .f32⟩
  | 3 => ⟨S1000, .f32⟩
  | 4 => ⟨S20480x128, .f32⟩
  | 5 => ⟨S20x1x1024, .i32⟩
  | 6 => ⟨S_, .f32⟩
  | 7 => ⟨S1024x128, .f32⟩
  | 8 => ⟨S_, .i32⟩
  | 9 => ⟨S1, .i32⟩
  | 10 => ⟨S1024x128, .f32⟩
  | 11 => ⟨S_, .i32⟩
  | 12 => ⟨S_, .f32⟩
  | 13 => ⟨S1024, .f32⟩
  | 14 => ⟨S1024x1, .f32⟩
  | 15 => ⟨S1024x128, .f32⟩
  | 16 => ⟨S_, .i32⟩
  | 17 => ⟨S_, .i32⟩
  | 18 => ⟨S_, .i32⟩
  | 19 => ⟨S_, .i32⟩
  | 20 => ⟨S1, .i32⟩
  | 21 => ⟨S_, .i32⟩
  | 22 => ⟨S_, .i32⟩
  | 23 => ⟨S_, .i32⟩
  | 24 => ⟨S1, .i32⟩
  | 25 => ⟨S2, .i32⟩
  | 26 => ⟨S_, .f32⟩
  | 27 => ⟨S_, .f32⟩
  | 28 => ⟨S_, .f32⟩
  | 29 => ⟨S1x1, .f32⟩
  | 30 => ⟨S1x1, .f32⟩
  | 31 => ⟨S1, .i32⟩
  | 32 => ⟨S_, .i32⟩
  | 33 => ⟨S1, .i32⟩
  | 34 => ⟨S_, .i32⟩
  | 35 => ⟨S20480x1000, .i64⟩
  | 36 => ⟨S20480x1000, .i64⟩
  | 37 => ⟨S_, .i64⟩
  | 38 => ⟨S20480x1000, .i64⟩
  | 39 => ⟨S20480x1000, .i64⟩
  | 40 => ⟨S_, .i64⟩
  | 41 => ⟨S20480x1000, .i64⟩
  | 42 => ⟨S20480x1000, .i64⟩
  | 43 => ⟨S20480x1000, .i64⟩
  | 44 => ⟨S_, .i64⟩
  | 45 => ⟨S20480x1000, .i64⟩
  | 46 => ⟨S20480x1000, .i64⟩
  | 47 => ⟨S20480x1000, .i32⟩
  | 48 => ⟨S20480x1000, .i32⟩
  | 49 => ⟨S_, .i32⟩
  | 50 => ⟨S_, .i32⟩
  | 51 => ⟨S_, .i32⟩
  | 52 => ⟨S20480x1000, .i32⟩
  | 53 => ⟨S20480x1000, .i32⟩
  | 54 => ⟨S20480x1000, .i32⟩
  | 55 => ⟨S20480x1000, .i32⟩
  | 56 => ⟨S20480x1000, .i32⟩
  | 57 => ⟨S_, .i32⟩
  | 58 => ⟨S20480x1000, .i32⟩
  | 59 => ⟨S20480x1000, .i32⟩
  | 60 => ⟨S_, .i32⟩
  | 61 => ⟨S20480x1000, .i32⟩
  | 62 => ⟨S20480x1000, .i32⟩
  | 63 => ⟨S20480x1000, .i32⟩
  | 64 => ⟨S20480x1000, .i32⟩
  | 65 => ⟨S20480x1000, .i32⟩
  | 66 => ⟨S_, .i32⟩
  | 67 => ⟨S20480x1000, .i32⟩
  | 68 => ⟨S20480x1000, .i32⟩
  | 69 => ⟨S_, .i32⟩
  | 70 => ⟨S20480x1000, .i32⟩
  | 71 => ⟨S20480x1000, .i32⟩
  | 72 => ⟨S20480x1000, .i32⟩
  | 73 => ⟨S20480x1000, .i32⟩
  | 74 => ⟨S20480x1000, .i32⟩
  | 75 => ⟨S_, .i32⟩
  | 76 => ⟨S20480x1000, .i32⟩
  | 77 => ⟨S20480x1000, .i32⟩
  | 78 => ⟨S_, .i32⟩
  | 79 => ⟨S20480x1000, .i32⟩
  | 80 => ⟨S20480x1000, .i32⟩
  | 81 => ⟨S20480x1000, .i32⟩
  | 82 => ⟨S20480x1000, .i32⟩
  | 83 => ⟨S20480x1000, .i32⟩
  | 84 => ⟨S_, .i32⟩
  | 85 => ⟨S20480x1000, .i32⟩
  | 86 => ⟨S20480x1000, .i32⟩
  | 87 => ⟨S_, .i32⟩
  | 88 => ⟨S20480x1000, .i32⟩
  | 89 => ⟨S20480x1000, .i32⟩
  | 90 => ⟨S20480x1000, .i32⟩
  | 91 => ⟨S20480x1000, .i32⟩
  | 92 => ⟨S20480x1000, .i32⟩
  | 93 => ⟨S20480x1000, .i32⟩
  | 94 => ⟨S20480x1000, .i32⟩
  | 95 => ⟨S20480x1000, .i32⟩
  | 96 => ⟨S_, .i32⟩
  | 97 => ⟨S20480x1000, .i32⟩
  | 98 => ⟨S20480x1000, .i32⟩
  | 99 => ⟨S20480x1000, .i32⟩
  | 100 => ⟨S_, .i32⟩
  | 101 => ⟨S20480x1000, .i32⟩
  | 102 => ⟨S20480x1000, .i32⟩
  | 103 => ⟨S_, .i32⟩
  | 104 => ⟨S20480x1000, .i32⟩
  | 105 => ⟨S20480x1000, .i32⟩
  | 106 => ⟨S20480x1000, .i32⟩
  | 107 => ⟨S20480x1000, .i32⟩
  | 108 => ⟨S20480x1000, .i32⟩
  | 109 => ⟨S_, .i32⟩
  | 110 => ⟨S20480x1000, .i32⟩
  | 111 => ⟨S20480x1000, .i32⟩
  | 112 => ⟨S_, .i32⟩
  | 113 => ⟨S20480x1000, .i32⟩
  | 114 => ⟨S20480x1000, .i32⟩
  | 115 => ⟨S20480x1000, .i32⟩
  | 116 => ⟨S20480x1000, .i32⟩
  | 117 => ⟨S20480x1000, .i32⟩
  | 118 => ⟨S_, .i32⟩
  | 119 => ⟨S20480x1000, .i32⟩
  | 120 => ⟨S20480x1000, .i32⟩
  | 121 => ⟨S_, .i32⟩
  | 122 => ⟨S20480x1000, .i32⟩
  | 123 => ⟨S20480x1000, .i32⟩
  | 124 => ⟨S20480x1000, .i32⟩
  | 125 => ⟨S20480x1000, .i32⟩
  | 126 => ⟨S20480x1000, .i32⟩
  | 127 => ⟨S_, .i32⟩
  | _ => ⟨S1024x5x4x128, .f32⟩

abbrev hbmTy0_1 (i : Nat) : BufTy := match i % 128 with
  | 0 => ⟨S20480x1000, .i32⟩
  | 1 => ⟨S20480x1000, .i32⟩
  | 2 => ⟨S_, .i32⟩
  | 3 => ⟨S20480x1000, .i32⟩
  | 4 => ⟨S20480x1000, .i32⟩
  | 5 => ⟨S20480x1000, .i32⟩
  | 6 => ⟨S20480x1000, .i32⟩
  | 7 => ⟨S20480x1000, .i32⟩
  | 8 => ⟨S20480x1000, .i32⟩
  | 9 => ⟨S20480x1000, .i32⟩
  | 10 => ⟨S20480x1000, .i32⟩
  | 11 => ⟨S_, .i32⟩
  | 12 => ⟨S20480x1000, .i32⟩
  | 13 => ⟨S20480x1000, .i32⟩
  | 14 => ⟨S20480x1000, .i32⟩
  | 15 => ⟨S_, .i32⟩
  | 16 => ⟨S20480x1000, .i32⟩
  | 17 => ⟨S20480x1000, .i32⟩
  | 18 => ⟨S_, .i32⟩
  | 19 => ⟨S20480x1000, .i32⟩
  | 20 => ⟨S20480x1000, .i32⟩
  | 21 => ⟨S20480x1000, .i32⟩
  | 22 => ⟨S20480x1000, .i32⟩
  | 23 => ⟨S20480x1000, .i32⟩
  | 24 => ⟨S_, .i32⟩
  | 25 => ⟨S20480x1000, .i32⟩
  | 26 => ⟨S20480x1000, .i32⟩
  | 27 => ⟨S_, .i32⟩
  | 28 => ⟨S20480x1000, .i32⟩
  | 29 => ⟨S20480x1000, .i32⟩
  | 30 => ⟨S20480x1000, .i32⟩
  | 31 => ⟨S20480x1000, .i32⟩
  | 32 => ⟨S20480x1000, .i32⟩
  | 33 => ⟨S_, .i32⟩
  | 34 => ⟨S20480x1000, .i32⟩
  | 35 => ⟨S20480x1000, .i32⟩
  | 36 => ⟨S_, .i32⟩
  | 37 => ⟨S20480x1000, .i32⟩
  | 38 => ⟨S20480x1000, .i32⟩
  | 39 => ⟨S20480x1000, .i32⟩
  | 40 => ⟨S20480x1000, .i32⟩
  | 41 => ⟨S20480x1000, .i32⟩
  | 42 => ⟨S_, .i32⟩
  | 43 => ⟨S20480x1000, .i32⟩
  | 44 => ⟨S20480x1000, .i32⟩
  | 45 => ⟨S_, .i32⟩
  | 46 => ⟨S20480x1000, .i32⟩
  | 47 => ⟨S20480x1000, .i32⟩
  | 48 => ⟨S20480x1000, .i32⟩
  | 49 => ⟨S20480x1000, .i32⟩
  | 50 => ⟨S20480x1000, .i32⟩
  | 51 => ⟨S20480x1000, .i32⟩
  | 52 => ⟨S20480x1000, .i32⟩
  | 53 => ⟨S20480x1000, .i32⟩
  | 54 => ⟨S_, .i32⟩
  | 55 => ⟨S20480x1000, .i32⟩
  | 56 => ⟨S20480x1000, .i32⟩
  | 57 => ⟨S20480x1000, .i32⟩
  | 58 => ⟨S_, .i32⟩
  | 59 => ⟨S20480x1000, .i32⟩
  | 60 => ⟨S20480x1000, .i32⟩
  | 61 => ⟨S_, .i32⟩
  | 62 => ⟨S20480x1000, .i32⟩
  | 63 => ⟨S20480x1000, .i32⟩
  | 64 => ⟨S20480x1000, .i32⟩
  | 65 => ⟨S20480x1000, .i32⟩
  | 66 => ⟨S20480x1000, .i32⟩
  | 67 => ⟨S_, .i32⟩
  | 68 => ⟨S20480x1000, .i32⟩
  | 69 => ⟨S20480x1000, .i32⟩
  | 70 => ⟨S_, .i32⟩
  | 71 => ⟨S20480x1000, .i32⟩
  | 72 => ⟨S20480x1000, .i32⟩
  | 73 => ⟨S20480x1000, .i32⟩
  | 74 => ⟨S20480x1000, .i32⟩
  | 75 => ⟨S20480x1000, .i32⟩
  | 76 => ⟨S_, .i32⟩
  | 77 => ⟨S20480x1000, .i32⟩
  | 78 => ⟨S20480x1000, .i32⟩
  | 79 => ⟨S_, .i32⟩
  | 80 => ⟨S20480x1000, .i32⟩
  | 81 => ⟨S20480x1000, .i32⟩
  | 82 => ⟨S20480x1000, .i32⟩
  | 83 => ⟨S20480x1000, .i32⟩
  | 84 => ⟨S20480x1000, .i32⟩
  | 85 => ⟨S_, .i32⟩
  | 86 => ⟨S20480x1000, .i32⟩
  | 87 => ⟨S20480x1000, .i32⟩
  | 88 => ⟨S_, .i32⟩
  | 89 => ⟨S20480x1000, .i32⟩
  | 90 => ⟨S20480x1000, .i32⟩
  | 91 => ⟨S20480x1000, .i32⟩
  | 92 => ⟨S20480x1000, .i32⟩
  | 93 => ⟨S20480x1000, .i32⟩
  | 94 => ⟨S20480x1000, .i32⟩
  | 95 => ⟨S20480x1000, .i32⟩
  | 96 => ⟨S20480x1000, .i32⟩
  | 97 => ⟨S_, .i32⟩
  | 98 => ⟨S20480x1000, .i32⟩
  | 99 => ⟨S20480x1000, .i32⟩
  | 100 => ⟨S20480x1000, .i32⟩
  | 101 => ⟨S_, .i32⟩
  | 102 => ⟨S20480x1000, .i32⟩
  | 103 => ⟨S20480x1000, .i32⟩
  | 104 => ⟨S_, .i32⟩
  | 105 => ⟨S20480x1000, .i32⟩
  | 106 => ⟨S20480x1000, .i32⟩
  | 107 => ⟨S20480x1000, .i32⟩
  | 108 => ⟨S20480x1000, .i32⟩
  | 109 => ⟨S20480x1000, .i32⟩
  | 110 => ⟨S_, .i32⟩
  | 111 => ⟨S20480x1000, .i32⟩
  | 112 => ⟨S20480x1000, .i32⟩
  | 113 => ⟨S_, .i32⟩
  | 114 => ⟨S20480x1000, .i32⟩
  | 115 => ⟨S20480x1000, .i32⟩
  | 116 => ⟨S20480x1000, .i32⟩
  | 117 => ⟨S20480x1000, .i32⟩
  | 118 => ⟨S20480x1000, .i32⟩
  | 119 => ⟨S_, .i32⟩
  | 120 => ⟨S20480x1000, .i32⟩
  | 121 => ⟨S20480x1000, .i32⟩
  | 122 => ⟨S_, .i32⟩
  | 123 => ⟨S20480x1000, .i32⟩
  | 124 => ⟨S20480x1000, .i32⟩
  | 125 => ⟨S20480x1000, .i32⟩
  | 126 => ⟨S20480x1000, .i32⟩
  | 127 => ⟨S20480x1000, .i32⟩
  | _ => ⟨S1024x5x4x128, .f32⟩

abbrev hbmTy0_2 (i : Nat) : BufTy := match i % 128 with
  | 0 => ⟨S_, .i32⟩
  | 1 => ⟨S20480x1000, .i32⟩
  | 2 => ⟨S20480x1000, .i32⟩
  | 3 => ⟨S_, .i32⟩
  | 4 => ⟨S20480x1000, .i32⟩
  | 5 => ⟨S20480x1000, .i32⟩
  | 6 => ⟨S20480x1000, .i32⟩
  | 7 => ⟨S20480x1000, .i32⟩
  | 8 => ⟨S20480x1000, .i32⟩
  | 9 => ⟨S20480x1000, .i32⟩
  | 10 => ⟨S20480x1000, .i32⟩
  | 11 => ⟨S20480x1000, .i32⟩
  | 12 => ⟨S_, .i32⟩
  | 13 => ⟨S20480x1000, .i32⟩
  | 14 => ⟨S20480x1000, .i32⟩
  | 15 => ⟨S20480x1000, .i32⟩
  | 16 => ⟨S_, .i32⟩
  | 17 => ⟨S20480x1000, .i32⟩
  | 18 => ⟨S20480x1000, .i32⟩
  | 19 => ⟨S_, .i32⟩
  | 20 => ⟨S20480x1000, .i32⟩
  | 21 => ⟨S20480x1000, .i32⟩
  | 22 => ⟨S20480x1000, .f32⟩
  | 23 => ⟨S_, .f32⟩
  | 24 => ⟨S20480x1000, .f32⟩
  | 25 => ⟨S20480x1000, .f32⟩
  | 26 => ⟨S1x1, .f32⟩
  | 27 => ⟨S20480x1000, .f32⟩
  | 28 => ⟨S20480x1000, .f32⟩
  | 29 => ⟨S20480x1000, .f32⟩
  | 30 => ⟨S20480x1000, .f32⟩
  | 31 => ⟨S20480x1000, .f32⟩
  | 32 => ⟨S20480x1000, .f32⟩
  | 33 => ⟨S20480x1000, .f32⟩
  | 34 => ⟨S20480x1000, .f32⟩
  | 35 => ⟨S20480x1000, .f32⟩
  | 36 => ⟨S20480x1000, .f32⟩
  | 37 => ⟨S_, .f32⟩
  | 38 => ⟨S1024x20480, .f32⟩
  | 39 => ⟨S1000x20480, .f32⟩
  | 40 => ⟨S_, .i32⟩
  | 41 => ⟨S1, .i32⟩
  | 42 => ⟨S1024x20480, .f32⟩
  | 43 => ⟨S1024x20x1024, .f32⟩
  | 44 => ⟨S20x1024x1024, .f32⟩
  | 45 => ⟨S8x128, .f32⟩
  | 46 => ⟨S1x1, .f32⟩
  | 47 => ⟨S_, .f32⟩
  | _ => ⟨S1024x5x4x128, .f32⟩

abbrev hbmTy (i : Nat) : BufTy := match i / 128 with
  | 0 => hbmTy0_0 i
  | 1 => hbmTy0_1 i
  | 2 => hbmTy0_2 i
  | _ => ⟨S1024x5x4x128, .f32⟩

abbrev bufTy : (tb : Table) → Fin (tcTables nBuf tb) → BufTy
  | .hbm, ⟨i, _⟩ => hbmTy i
  | .local _ .vmem, ⟨0, _⟩ => ⟨S1x1x1024, .i32⟩
  | .local _ .vmem, ⟨1, _⟩ => ⟨S1x1x1024, .i32⟩
  | .local _ .vmem, ⟨2, _⟩ => ⟨S1x1024x1024, .f32⟩
  | .local _ .vmem, ⟨3, _⟩ => ⟨S1x1024x1024, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S8x128, .f32⟩
  | _, _ => ⟨S1024x5x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_c_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_call1_cst : Ref sig .tc := ⟨.hbm, 26, rfl⟩
abbrev main_call1_cst_0 : Ref sig .tc := ⟨.hbm, 27, rfl⟩
abbrev main_call1_call0_v0 : Ref sig .tc := ⟨.hbm, 28, rfl⟩
abbrev main_call1_call0_v1 : Ref sig .tc := ⟨.hbm, 29, rfl⟩
abbrev main_call1_call0_v2 : Ref sig .tc := ⟨.hbm, 30, rfl⟩
abbrev main_call1_call0_v3 : Ref sig .tc := ⟨.hbm, 31, rfl⟩
abbrev main_call1_call0_v4 : Ref sig .tc := ⟨.hbm, 32, rfl⟩
abbrev main_call1_call0_v5 : Ref sig .tc := ⟨.hbm, 33, rfl⟩
abbrev main_call1_call0_v6 : Ref sig .tc := ⟨.hbm, 34, rfl⟩
abbrev main_call1_call0_v7 : Ref sig .tc := ⟨.hbm, 35, rfl⟩
abbrev main_call1_call0_v8 : Ref sig .tc := ⟨.hbm, 36, rfl⟩
abbrev main_call1_call0_c : Ref sig .tc := ⟨.hbm, 37, rfl⟩
abbrev main_call1_call0_v9 : Ref sig .tc := ⟨.hbm, 38, rfl⟩
abbrev main_call1_call0_v10 : Ref sig .tc := ⟨.hbm, 39, rfl⟩
abbrev main_call1_call0_c_0 : Ref sig .tc := ⟨.hbm, 40, rfl⟩
abbrev main_call1_call0_v11 : Ref sig .tc := ⟨.hbm, 41, rfl⟩
abbrev main_call1_call0_v12 : Ref sig .tc := ⟨.hbm, 42, rfl⟩
abbrev main_call1_call0_v13 : Ref sig .tc := ⟨.hbm, 43, rfl⟩
abbrev main_call1_call0_c_1 : Ref sig .tc := ⟨.hbm, 44, rfl⟩
abbrev main_call1_call0_v14 : Ref sig .tc := ⟨.hbm, 45, rfl⟩
abbrev main_call1_call0_v15 : Ref sig .tc := ⟨.hbm, 46, rfl⟩
abbrev main_call1_call0_v16 : Ref sig .tc := ⟨.hbm, 47, rfl⟩
abbrev main_call1_call0_v17 : Ref sig .tc := ⟨.hbm, 48, rfl⟩
abbrev main_call1_call0_call0_v0 : Ref sig .tc := ⟨.hbm, 49, rfl⟩
abbrev main_call1_call0_call0_c : Ref sig .tc := ⟨.hbm, 50, rfl⟩
abbrev main_call1_call0_call0_v1 : Ref sig .tc := ⟨.hbm, 51, rfl⟩
abbrev main_call1_call0_call0_v2 : Ref sig .tc := ⟨.hbm, 52, rfl⟩
abbrev main_call1_call0_call0_v3 : Ref sig .tc := ⟨.hbm, 53, rfl⟩
abbrev main_call1_call0_call0_v4 : Ref sig .tc := ⟨.hbm, 54, rfl⟩
abbrev main_call1_call0_call0_v5 : Ref sig .tc := ⟨.hbm, 55, rfl⟩
abbrev main_call1_call0_call0_v6 : Ref sig .tc := ⟨.hbm, 56, rfl⟩
abbrev main_call1_call0_call0_c_0 : Ref sig .tc := ⟨.hbm, 57, rfl⟩
abbrev main_call1_call0_call0_v7 : Ref sig .tc := ⟨.hbm, 58, rfl⟩
abbrev main_call1_call0_call0_v8 : Ref sig .tc := ⟨.hbm, 59, rfl⟩
abbrev main_call1_call0_call0_c_1 : Ref sig .tc := ⟨.hbm, 60, rfl⟩
abbrev main_call1_call0_call0_v9 : Ref sig .tc := ⟨.hbm, 61, rfl⟩
abbrev main_call1_call0_call0_v10 : Ref sig .tc := ⟨.hbm, 62, rfl⟩
abbrev main_call1_call0_call0_v11 : Ref sig .tc := ⟨.hbm, 63, rfl⟩
abbrev main_call1_call0_call0_v12 : Ref sig .tc := ⟨.hbm, 64, rfl⟩
abbrev main_call1_call0_call0_v13 : Ref sig .tc := ⟨.hbm, 65, rfl⟩
abbrev main_call1_call0_call0_c_2 : Ref sig .tc := ⟨.hbm, 66, rfl⟩
abbrev main_call1_call0_call0_v14 : Ref sig .tc := ⟨.hbm, 67, rfl⟩
abbrev main_call1_call0_call0_v15 : Ref sig .tc := ⟨.hbm, 68, rfl⟩
abbrev main_call1_call0_call0_c_3 : Ref sig .tc := ⟨.hbm, 69, rfl⟩
abbrev main_call1_call0_call0_v16 : Ref sig .tc := ⟨.hbm, 70, rfl⟩
abbrev main_call1_call0_call0_v17 : Ref sig .tc := ⟨.hbm, 71, rfl⟩
abbrev main_call1_call0_call0_v18 : Ref sig .tc := ⟨.hbm, 72, rfl⟩
abbrev main_call1_call0_call0_v19 : Ref sig .tc := ⟨.hbm, 73, rfl⟩
abbrev main_call1_call0_call0_v20 : Ref sig .tc := ⟨.hbm, 74, rfl⟩
abbrev main_call1_call0_call0_c_4 : Ref sig .tc := ⟨.hbm, 75, rfl⟩
abbrev main_call1_call0_call0_v21 : Ref sig .tc := ⟨.hbm, 76, rfl⟩
abbrev main_call1_call0_call0_v22 : Ref sig .tc := ⟨.hbm, 77, rfl⟩
abbrev main_call1_call0_call0_c_5 : Ref sig .tc := ⟨.hbm, 78, rfl⟩
abbrev main_call1_call0_call0_v23 : Ref sig .tc := ⟨.hbm, 79, rfl⟩
abbrev main_call1_call0_call0_v24 : Ref sig .tc := ⟨.hbm, 80, rfl⟩
abbrev main_call1_call0_call0_v25 : Ref sig .tc := ⟨.hbm, 81, rfl⟩
abbrev main_call1_call0_call0_v26 : Ref sig .tc := ⟨.hbm, 82, rfl⟩
abbrev main_call1_call0_call0_v27 : Ref sig .tc := ⟨.hbm, 83, rfl⟩
abbrev main_call1_call0_call0_c_6 : Ref sig .tc := ⟨.hbm, 84, rfl⟩
abbrev main_call1_call0_call0_v28 : Ref sig .tc := ⟨.hbm, 85, rfl⟩
abbrev main_call1_call0_call0_v29 : Ref sig .tc := ⟨.hbm, 86, rfl⟩
abbrev main_call1_call0_call0_c_7 : Ref sig .tc := ⟨.hbm, 87, rfl⟩
abbrev main_call1_call0_call0_v30 : Ref sig .tc := ⟨.hbm, 88, rfl⟩
abbrev main_call1_call0_call0_v31 : Ref sig .tc := ⟨.hbm, 89, rfl⟩
abbrev main_call1_call0_call0_v32 : Ref sig .tc := ⟨.hbm, 90, rfl⟩
abbrev main_call1_call0_call0_v33 : Ref sig .tc := ⟨.hbm, 91, rfl⟩
abbrev main_call1_call0_call0_v34 : Ref sig .tc := ⟨.hbm, 92, rfl⟩
abbrev main_call1_call0_call0_v35 : Ref sig .tc := ⟨.hbm, 93, rfl⟩
abbrev main_call1_call0_call0_v36 : Ref sig .tc := ⟨.hbm, 94, rfl⟩
abbrev main_call1_call0_call0_v37 : Ref sig .tc := ⟨.hbm, 95, rfl⟩
abbrev main_call1_call0_call0_c_8 : Ref sig .tc := ⟨.hbm, 96, rfl⟩
abbrev main_call1_call0_call0_v38 : Ref sig .tc := ⟨.hbm, 97, rfl⟩
abbrev main_call1_call0_call0_v39 : Ref sig .tc := ⟨.hbm, 98, rfl⟩
abbrev main_call1_call0_call0_v40 : Ref sig .tc := ⟨.hbm, 99, rfl⟩
abbrev main_call1_call0_call0_c_9 : Ref sig .tc := ⟨.hbm, 100, rfl⟩
abbrev main_call1_call0_call0_v41 : Ref sig .tc := ⟨.hbm, 101, rfl⟩
abbrev main_call1_call0_call0_v42 : Ref sig .tc := ⟨.hbm, 102, rfl⟩
abbrev main_call1_call0_call0_c_10 : Ref sig .tc := ⟨.hbm, 103, rfl⟩
abbrev main_call1_call0_call0_v43 : Ref sig .tc := ⟨.hbm, 104, rfl⟩
abbrev main_call1_call0_call0_v44 : Ref sig .tc := ⟨.hbm, 105, rfl⟩
abbrev main_call1_call0_call0_v45 : Ref sig .tc := ⟨.hbm, 106, rfl⟩
abbrev main_call1_call0_call0_v46 : Ref sig .tc := ⟨.hbm, 107, rfl⟩
abbrev main_call1_call0_call0_v47 : Ref sig .tc := ⟨.hbm, 108, rfl⟩
abbrev main_call1_call0_call0_c_11 : Ref sig .tc := ⟨.hbm, 109, rfl⟩
abbrev main_call1_call0_call0_v48 : Ref sig .tc := ⟨.hbm, 110, rfl⟩
abbrev main_call1_call0_call0_v49 : Ref sig .tc := ⟨.hbm, 111, rfl⟩
abbrev main_call1_call0_call0_c_12 : Ref sig .tc := ⟨.hbm, 112, rfl⟩
abbrev main_call1_call0_call0_v50 : Ref sig .tc := ⟨.hbm, 113, rfl⟩
abbrev main_call1_call0_call0_v51 : Ref sig .tc := ⟨.hbm, 114, rfl⟩
abbrev main_call1_call0_call0_v52 : Ref sig .tc := ⟨.hbm, 115, rfl⟩
abbrev main_call1_call0_call0_v53 : Ref sig .tc := ⟨.hbm, 116, rfl⟩
abbrev main_call1_call0_call0_v54 : Ref sig .tc := ⟨.hbm, 117, rfl⟩
abbrev main_call1_call0_call0_c_13 : Ref sig .tc := ⟨.hbm, 118, rfl⟩
abbrev main_call1_call0_call0_v55 : Ref sig .tc := ⟨.hbm, 119, rfl⟩
abbrev main_call1_call0_call0_v56 : Ref sig .tc := ⟨.hbm, 120, rfl⟩
abbrev main_call1_call0_call0_c_14 : Ref sig .tc := ⟨.hbm, 121, rfl⟩
abbrev main_call1_call0_call0_v57 : Ref sig .tc := ⟨.hbm, 122, rfl⟩
abbrev main_call1_call0_call0_v58 : Ref sig .tc := ⟨.hbm, 123, rfl⟩
abbrev main_call1_call0_call0_v59 : Ref sig .tc := ⟨.hbm, 124, rfl⟩
abbrev main_call1_call0_call0_v60 : Ref sig .tc := ⟨.hbm, 125, rfl⟩
abbrev main_call1_call0_call0_v61 : Ref sig .tc := ⟨.hbm, 126, rfl⟩
abbrev main_call1_call0_call0_c_15 : Ref sig .tc := ⟨.hbm, 127, rfl⟩
abbrev main_call1_call0_call0_v62 : Ref sig .tc := ⟨.hbm, 128, rfl⟩
abbrev main_call1_call0_call0_v63 : Ref sig .tc := ⟨.hbm, 129, rfl⟩
abbrev main_call1_call0_call0_c_16 : Ref sig .tc := ⟨.hbm, 130, rfl⟩
abbrev main_call1_call0_call0_v64 : Ref sig .tc := ⟨.hbm, 131, rfl⟩
abbrev main_call1_call0_call0_v65 : Ref sig .tc := ⟨.hbm, 132, rfl⟩
abbrev main_call1_call0_call0_v66 : Ref sig .tc := ⟨.hbm, 133, rfl⟩
abbrev main_call1_call0_call0_v67 : Ref sig .tc := ⟨.hbm, 134, rfl⟩
abbrev main_call1_call0_call0_v68 : Ref sig .tc := ⟨.hbm, 135, rfl⟩
abbrev main_call1_call0_call0_v69 : Ref sig .tc := ⟨.hbm, 136, rfl⟩
abbrev main_call1_call0_call0_v70 : Ref sig .tc := ⟨.hbm, 137, rfl⟩
abbrev main_call1_call0_call0_v71 : Ref sig .tc := ⟨.hbm, 138, rfl⟩
abbrev main_call1_call0_call0_c_17 : Ref sig .tc := ⟨.hbm, 139, rfl⟩
abbrev main_call1_call0_call0_v72 : Ref sig .tc := ⟨.hbm, 140, rfl⟩
abbrev main_call1_call0_call0_v73 : Ref sig .tc := ⟨.hbm, 141, rfl⟩
abbrev main_call1_call0_call0_v74 : Ref sig .tc := ⟨.hbm, 142, rfl⟩
abbrev main_call1_call0_call0_c_18 : Ref sig .tc := ⟨.hbm, 143, rfl⟩
abbrev main_call1_call0_call0_v75 : Ref sig .tc := ⟨.hbm, 144, rfl⟩
abbrev main_call1_call0_call0_v76 : Ref sig .tc := ⟨.hbm, 145, rfl⟩
abbrev main_call1_call0_call0_c_19 : Ref sig .tc := ⟨.hbm, 146, rfl⟩
abbrev main_call1_call0_call0_v77 : Ref sig .tc := ⟨.hbm, 147, rfl⟩
abbrev main_call1_call0_call0_v78 : Ref sig .tc := ⟨.hbm, 148, rfl⟩
abbrev main_call1_call0_call0_v79 : Ref sig .tc := ⟨.hbm, 149, rfl⟩
abbrev main_call1_call0_call0_v80 : Ref sig .tc := ⟨.hbm, 150, rfl⟩
abbrev main_call1_call0_call0_v81 : Ref sig .tc := ⟨.hbm, 151, rfl⟩
abbrev main_call1_call0_call0_c_20 : Ref sig .tc := ⟨.hbm, 152, rfl⟩
abbrev main_call1_call0_call0_v82 : Ref sig .tc := ⟨.hbm, 153, rfl⟩
abbrev main_call1_call0_call0_v83 : Ref sig .tc := ⟨.hbm, 154, rfl⟩
abbrev main_call1_call0_call0_c_21 : Ref sig .tc := ⟨.hbm, 155, rfl⟩
abbrev main_call1_call0_call0_v84 : Ref sig .tc := ⟨.hbm, 156, rfl⟩
abbrev main_call1_call0_call0_v85 : Ref sig .tc := ⟨.hbm, 157, rfl⟩
abbrev main_call1_call0_call0_v86 : Ref sig .tc := ⟨.hbm, 158, rfl⟩
abbrev main_call1_call0_call0_v87 : Ref sig .tc := ⟨.hbm, 159, rfl⟩
abbrev main_call1_call0_call0_v88 : Ref sig .tc := ⟨.hbm, 160, rfl⟩
abbrev main_call1_call0_call0_c_22 : Ref sig .tc := ⟨.hbm, 161, rfl⟩
abbrev main_call1_call0_call0_v89 : Ref sig .tc := ⟨.hbm, 162, rfl⟩
abbrev main_call1_call0_call0_v90 : Ref sig .tc := ⟨.hbm, 163, rfl⟩
abbrev main_call1_call0_call0_c_23 : Ref sig .tc := ⟨.hbm, 164, rfl⟩
abbrev main_call1_call0_call0_v91 : Ref sig .tc := ⟨.hbm, 165, rfl⟩
abbrev main_call1_call0_call0_v92 : Ref sig .tc := ⟨.hbm, 166, rfl⟩
abbrev main_call1_call0_call0_v93 : Ref sig .tc := ⟨.hbm, 167, rfl⟩
abbrev main_call1_call0_call0_v94 : Ref sig .tc := ⟨.hbm, 168, rfl⟩
abbrev main_call1_call0_call0_v95 : Ref sig .tc := ⟨.hbm, 169, rfl⟩
abbrev main_call1_call0_call0_c_24 : Ref sig .tc := ⟨.hbm, 170, rfl⟩
abbrev main_call1_call0_call0_v96 : Ref sig .tc := ⟨.hbm, 171, rfl⟩
abbrev main_call1_call0_call0_v97 : Ref sig .tc := ⟨.hbm, 172, rfl⟩
abbrev main_call1_call0_call0_c_25 : Ref sig .tc := ⟨.hbm, 173, rfl⟩
abbrev main_call1_call0_call0_v98 : Ref sig .tc := ⟨.hbm, 174, rfl⟩
abbrev main_call1_call0_call0_v99 : Ref sig .tc := ⟨.hbm, 175, rfl⟩
abbrev main_call1_call0_call0_v100 : Ref sig .tc := ⟨.hbm, 176, rfl⟩
abbrev main_call1_call0_call0_v101 : Ref sig .tc := ⟨.hbm, 177, rfl⟩
abbrev main_call1_call0_call0_v102 : Ref sig .tc := ⟨.hbm, 178, rfl⟩
abbrev main_call1_call0_call0_v103 : Ref sig .tc := ⟨.hbm, 179, rfl⟩
abbrev main_call1_call0_call0_v104 : Ref sig .tc := ⟨.hbm, 180, rfl⟩
abbrev main_call1_call0_call0_v105 : Ref sig .tc := ⟨.hbm, 181, rfl⟩
abbrev main_call1_call0_call0_c_26 : Ref sig .tc := ⟨.hbm, 182, rfl⟩
abbrev main_call1_call0_call0_v106 : Ref sig .tc := ⟨.hbm, 183, rfl⟩
abbrev main_call1_call0_call0_v107 : Ref sig .tc := ⟨.hbm, 184, rfl⟩
abbrev main_call1_call0_call0_v108 : Ref sig .tc := ⟨.hbm, 185, rfl⟩
abbrev main_call1_call0_call0_c_27 : Ref sig .tc := ⟨.hbm, 186, rfl⟩
abbrev main_call1_call0_call0_v109 : Ref sig .tc := ⟨.hbm, 187, rfl⟩
abbrev main_call1_call0_call0_v110 : Ref sig .tc := ⟨.hbm, 188, rfl⟩
abbrev main_call1_call0_call0_c_28 : Ref sig .tc := ⟨.hbm, 189, rfl⟩
abbrev main_call1_call0_call0_v111 : Ref sig .tc := ⟨.hbm, 190, rfl⟩
abbrev main_call1_call0_call0_v112 : Ref sig .tc := ⟨.hbm, 191, rfl⟩
abbrev main_call1_call0_call0_v113 : Ref sig .tc := ⟨.hbm, 192, rfl⟩
abbrev main_call1_call0_call0_v114 : Ref sig .tc := ⟨.hbm, 193, rfl⟩
abbrev main_call1_call0_call0_v115 : Ref sig .tc := ⟨.hbm, 194, rfl⟩
abbrev main_call1_call0_call0_c_29 : Ref sig .tc := ⟨.hbm, 195, rfl⟩
abbrev main_call1_call0_call0_v116 : Ref sig .tc := ⟨.hbm, 196, rfl⟩
abbrev main_call1_call0_call0_v117 : Ref sig .tc := ⟨.hbm, 197, rfl⟩
abbrev main_call1_call0_call0_c_30 : Ref sig .tc := ⟨.hbm, 198, rfl⟩
abbrev main_call1_call0_call0_v118 : Ref sig .tc := ⟨.hbm, 199, rfl⟩
abbrev main_call1_call0_call0_v119 : Ref sig .tc := ⟨.hbm, 200, rfl⟩
abbrev main_call1_call0_call0_v120 : Ref sig .tc := ⟨.hbm, 201, rfl⟩
abbrev main_call1_call0_call0_v121 : Ref sig .tc := ⟨.hbm, 202, rfl⟩
abbrev main_call1_call0_call0_v122 : Ref sig .tc := ⟨.hbm, 203, rfl⟩
abbrev main_call1_call0_call0_c_31 : Ref sig .tc := ⟨.hbm, 204, rfl⟩
abbrev main_call1_call0_call0_v123 : Ref sig .tc := ⟨.hbm, 205, rfl⟩
abbrev main_call1_call0_call0_v124 : Ref sig .tc := ⟨.hbm, 206, rfl⟩
abbrev main_call1_call0_call0_c_32 : Ref sig .tc := ⟨.hbm, 207, rfl⟩
abbrev main_call1_call0_call0_v125 : Ref sig .tc := ⟨.hbm, 208, rfl⟩
abbrev main_call1_call0_call0_v126 : Ref sig .tc := ⟨.hbm, 209, rfl⟩
abbrev main_call1_call0_call0_v127 : Ref sig .tc := ⟨.hbm, 210, rfl⟩
abbrev main_call1_call0_call0_v128 : Ref sig .tc := ⟨.hbm, 211, rfl⟩
abbrev main_call1_call0_call0_v129 : Ref sig .tc := ⟨.hbm, 212, rfl⟩
abbrev main_call1_call0_call0_c_33 : Ref sig .tc := ⟨.hbm, 213, rfl⟩
abbrev main_call1_call0_call0_v130 : Ref sig .tc := ⟨.hbm, 214, rfl⟩
abbrev main_call1_call0_call0_v131 : Ref sig .tc := ⟨.hbm, 215, rfl⟩
abbrev main_call1_call0_call0_c_34 : Ref sig .tc := ⟨.hbm, 216, rfl⟩
abbrev main_call1_call0_call0_v132 : Ref sig .tc := ⟨.hbm, 217, rfl⟩
abbrev main_call1_call0_call0_v133 : Ref sig .tc := ⟨.hbm, 218, rfl⟩
abbrev main_call1_call0_call0_v134 : Ref sig .tc := ⟨.hbm, 219, rfl⟩
abbrev main_call1_call0_call0_v135 : Ref sig .tc := ⟨.hbm, 220, rfl⟩
abbrev main_call1_call0_call0_v136 : Ref sig .tc := ⟨.hbm, 221, rfl⟩
abbrev main_call1_call0_call0_v137 : Ref sig .tc := ⟨.hbm, 222, rfl⟩
abbrev main_call1_call0_call0_v138 : Ref sig .tc := ⟨.hbm, 223, rfl⟩
abbrev main_call1_call0_call0_v139 : Ref sig .tc := ⟨.hbm, 224, rfl⟩
abbrev main_call1_call0_call0_c_35 : Ref sig .tc := ⟨.hbm, 225, rfl⟩
abbrev main_call1_call0_call0_v140 : Ref sig .tc := ⟨.hbm, 226, rfl⟩
abbrev main_call1_call0_call0_v141 : Ref sig .tc := ⟨.hbm, 227, rfl⟩
abbrev main_call1_call0_call0_v142 : Ref sig .tc := ⟨.hbm, 228, rfl⟩
abbrev main_call1_call0_call0_c_36 : Ref sig .tc := ⟨.hbm, 229, rfl⟩
abbrev main_call1_call0_call0_v143 : Ref sig .tc := ⟨.hbm, 230, rfl⟩
abbrev main_call1_call0_call0_v144 : Ref sig .tc := ⟨.hbm, 231, rfl⟩
abbrev main_call1_call0_call0_c_37 : Ref sig .tc := ⟨.hbm, 232, rfl⟩
abbrev main_call1_call0_call0_v145 : Ref sig .tc := ⟨.hbm, 233, rfl⟩
abbrev main_call1_call0_call0_v146 : Ref sig .tc := ⟨.hbm, 234, rfl⟩
abbrev main_call1_call0_call0_v147 : Ref sig .tc := ⟨.hbm, 235, rfl⟩
abbrev main_call1_call0_call0_v148 : Ref sig .tc := ⟨.hbm, 236, rfl⟩
abbrev main_call1_call0_call0_v149 : Ref sig .tc := ⟨.hbm, 237, rfl⟩
abbrev main_call1_call0_call0_c_38 : Ref sig .tc := ⟨.hbm, 238, rfl⟩
abbrev main_call1_call0_call0_v150 : Ref sig .tc := ⟨.hbm, 239, rfl⟩
abbrev main_call1_call0_call0_v151 : Ref sig .tc := ⟨.hbm, 240, rfl⟩
abbrev main_call1_call0_call0_c_39 : Ref sig .tc := ⟨.hbm, 241, rfl⟩
abbrev main_call1_call0_call0_v152 : Ref sig .tc := ⟨.hbm, 242, rfl⟩
abbrev main_call1_call0_call0_v153 : Ref sig .tc := ⟨.hbm, 243, rfl⟩
abbrev main_call1_call0_call0_v154 : Ref sig .tc := ⟨.hbm, 244, rfl⟩
abbrev main_call1_call0_call0_v155 : Ref sig .tc := ⟨.hbm, 245, rfl⟩
abbrev main_call1_call0_call0_v156 : Ref sig .tc := ⟨.hbm, 246, rfl⟩
abbrev main_call1_call0_call0_c_40 : Ref sig .tc := ⟨.hbm, 247, rfl⟩
abbrev main_call1_call0_call0_v157 : Ref sig .tc := ⟨.hbm, 248, rfl⟩
abbrev main_call1_call0_call0_v158 : Ref sig .tc := ⟨.hbm, 249, rfl⟩
abbrev main_call1_call0_call0_c_41 : Ref sig .tc := ⟨.hbm, 250, rfl⟩
abbrev main_call1_call0_call0_v159 : Ref sig .tc := ⟨.hbm, 251, rfl⟩
abbrev main_call1_call0_call0_v160 : Ref sig .tc := ⟨.hbm, 252, rfl⟩
abbrev main_call1_call0_call0_v161 : Ref sig .tc := ⟨.hbm, 253, rfl⟩
abbrev main_call1_call0_call0_v162 : Ref sig .tc := ⟨.hbm, 254, rfl⟩
abbrev main_call1_call0_call0_v163 : Ref sig .tc := ⟨.hbm, 255, rfl⟩
abbrev main_call1_call0_call0_c_42 : Ref sig .tc := ⟨.hbm, 256, rfl⟩
abbrev main_call1_call0_call0_v164 : Ref sig .tc := ⟨.hbm, 257, rfl⟩
abbrev main_call1_call0_call0_v165 : Ref sig .tc := ⟨.hbm, 258, rfl⟩
abbrev main_call1_call0_call0_c_43 : Ref sig .tc := ⟨.hbm, 259, rfl⟩
abbrev main_call1_call0_call0_v166 : Ref sig .tc := ⟨.hbm, 260, rfl⟩
abbrev main_call1_call0_call0_v167 : Ref sig .tc := ⟨.hbm, 261, rfl⟩
abbrev main_call1_call0_call0_v168 : Ref sig .tc := ⟨.hbm, 262, rfl⟩
abbrev main_call1_call0_call0_v169 : Ref sig .tc := ⟨.hbm, 263, rfl⟩
abbrev main_call1_call0_call0_v170 : Ref sig .tc := ⟨.hbm, 264, rfl⟩
abbrev main_call1_call0_v18_0 : Ref sig .tc := ⟨.hbm, 265, rfl⟩
abbrev main_call1_call0_call0_v172 : Ref sig .tc := ⟨.hbm, 266, rfl⟩
abbrev main_call1_call0_call0_v173 : Ref sig .tc := ⟨.hbm, 267, rfl⟩
abbrev main_call1_call0_call0_c_44 : Ref sig .tc := ⟨.hbm, 268, rfl⟩
abbrev main_call1_call0_call0_v174 : Ref sig .tc := ⟨.hbm, 269, rfl⟩
abbrev main_call1_call0_v18_1 : Ref sig .tc := ⟨.hbm, 270, rfl⟩
abbrev main_call1_call0_v19 : Ref sig .tc := ⟨.hbm, 271, rfl⟩
abbrev main_call1_call0_c_2 : Ref sig .tc := ⟨.hbm, 272, rfl⟩
abbrev main_call1_call0_v20 : Ref sig .tc := ⟨.hbm, 273, rfl⟩
abbrev main_call1_call0_v21 : Ref sig .tc := ⟨.hbm, 274, rfl⟩
abbrev main_call1_call0_c_3 : Ref sig .tc := ⟨.hbm, 275, rfl⟩
abbrev main_call1_call0_v22 : Ref sig .tc := ⟨.hbm, 276, rfl⟩
abbrev main_call1_call0_v23 : Ref sig .tc := ⟨.hbm, 277, rfl⟩
abbrev main_call1_call0_v24 : Ref sig .tc := ⟨.hbm, 278, rfl⟩
abbrev main_call1_call0_cst : Ref sig .tc := ⟨.hbm, 279, rfl⟩
abbrev main_call1_call0_v25 : Ref sig .tc := ⟨.hbm, 280, rfl⟩
abbrev main_call1_call0_v26 : Ref sig .tc := ⟨.hbm, 281, rfl⟩
abbrev main_call1_call0_v27 : Ref sig .tc := ⟨.hbm, 282, rfl⟩
abbrev main_call1_call0_v28 : Ref sig .tc := ⟨.hbm, 283, rfl⟩
abbrev main_call1_call0_v29 : Ref sig .tc := ⟨.hbm, 284, rfl⟩
abbrev main_call1_call0_v30 : Ref sig .tc := ⟨.hbm, 285, rfl⟩
abbrev main_call1_call0_v31 : Ref sig .tc := ⟨.hbm, 286, rfl⟩
abbrev main_call1_call0_v32 : Ref sig .tc := ⟨.hbm, 287, rfl⟩
abbrev main_call1_v0 : Ref sig .tc := ⟨.hbm, 288, rfl⟩
abbrev main_call1_v1 : Ref sig .tc := ⟨.hbm, 289, rfl⟩
abbrev main_call1_v2 : Ref sig .tc := ⟨.hbm, 290, rfl⟩
abbrev main_call1_v3 : Ref sig .tc := ⟨.hbm, 291, rfl⟩
abbrev main_v15 : Ref sig .tc := ⟨.hbm, 292, rfl⟩
abbrev main_cst_4 : Ref sig .tc := ⟨.hbm, 293, rfl⟩
abbrev main_v16 : Ref sig .tc := ⟨.hbm, 294, rfl⟩
abbrev main_v17 : Ref sig .tc := ⟨.hbm, 295, rfl⟩
abbrev main_c_5 : Ref sig .tc := ⟨.hbm, 296, rfl⟩
abbrev main_v18 : Ref sig .tc := ⟨.hbm, 297, rfl⟩
abbrev main_v19 : Ref sig .tc := ⟨.hbm, 298, rfl⟩
abbrev main_v20 : Ref sig .tc := ⟨.hbm, 299, rfl⟩
abbrev main_v21 : Ref sig .tc := ⟨.hbm, 300, rfl⟩
abbrev main_v22 : Ref sig .tc := ⟨.hbm, 301, rfl⟩
abbrev main_v23 : Ref sig .tc := ⟨.hbm, 302, rfl⟩
abbrev main_v24 : Ref sig .tc := ⟨.hbm, 303, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![20], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S1024x5x4x128 : Shape := ⟨4, ![1024, 5, 4, 128]⟩
abbrev S1024x5x4 : Shape := ⟨3, ![1024, 5, 4]⟩
abbrev S1000x128 : Shape := ⟨2, ![1000, 128]⟩
abbrev S1000 : Shape := ⟨1, ![1000]⟩
abbrev S_ : Shape := ⟨0, ![]⟩
abbrev S1024x5x4x1 : Shape := ⟨4, ![1024, 5, 4, 1]⟩
abbrev S1 : Shape := ⟨1, ![1]⟩
abbrev S1x1x1x1 : Shape := ⟨4, ![1, 1, 1, 1]⟩
abbrev S2 : Shape := ⟨1, ![2]⟩
abbrev S20480 : Shape := ⟨1, ![20480]⟩
abbrev S1x1000 : Shape := ⟨2, ![1, 1000]⟩
abbrev S1x1x1x1000 : Shape := ⟨4, ![1, 1, 1, 1000]⟩
abbrev S20480x1x1x1000 : Shape := ⟨4, ![20480, 1, 1, 1000]⟩
abbrev S20480x1000 : Shape := ⟨2, ![20480, 1000]⟩
abbrev S20480x1 : Shape := ⟨2, ![20480, 1]⟩
abbrev S20480x2 : Shape := ⟨2, ![20480, 2]⟩
abbrev S1x1 : Shape := ⟨2, ![1, 1]⟩
abbrev S20480x5 : Shape := ⟨2, ![20480, 5]⟩
abbrev S1024x5x4x5 : Shape := ⟨4, ![1024, 5, 4, 5]⟩
abbrev S1024x5x4x5x1 : Shape := ⟨5, ![1024, 5, 4, 5, 1]⟩
abbrev S1x1x1x1x1 : Shape := ⟨5, ![1, 1, 1, 1, 1]⟩
abbrev S1024x5x4x5x128 : Shape := ⟨5, ![1024, 5, 4, 5, 128]⟩

abbrev nBuf : Space → Nat
  | .hbm => 418
  | .vmem => 0
  | .smem => 0
  | _ => 0

abbrev hbmTy0_0 (i : Nat) : BufTy := match i % 128 with
  | 0 => ⟨S1024x5x4x128, .f32⟩
  | 1 => ⟨S1024x5x4, .i32⟩
  | 2 => ⟨S1000x128, .f32⟩
  | 3 => ⟨S1000, .f32⟩
  | 4 => ⟨S_, .f32⟩
  | 5 => ⟨S1000, .f32⟩
  | 6 => ⟨S1000, .f32⟩
  | 7 => ⟨S1000, .f32⟩
  | 8 => ⟨S_, .f32⟩
  | 9 => ⟨S_, .f32⟩
  | 10 => ⟨S1000, .f32⟩
  | 11 => ⟨S1000, .f32⟩
  | 12 => ⟨S_, .i32⟩
  | 13 => ⟨S1024x5x4, .i32⟩
  | 14 => ⟨S1024x5x4, .i1⟩
  | 15 => ⟨S_, .i32⟩
  | 16 => ⟨S1024x5x4, .i32⟩
  | 17 => ⟨S1024x5x4, .i32⟩
  | 18 => ⟨S1024x5x4, .i32⟩
  | 19 => ⟨S1024x5x4x1, .i32⟩
  | 20 => ⟨S1, .i32⟩
  | 21 => ⟨S_, .i32⟩
  | 22 => ⟨S1024x5x4x1, .i32⟩
  | 23 => ⟨S1024x5x4x1, .i1⟩
  | 24 => ⟨S1x1x1x1, .i32⟩
  | 25 => ⟨S1024x5x4x1, .i32⟩
  | 26 => ⟨S1024x5x4x1, .i1⟩
  | 27 => ⟨S1024x5x4x1, .i1⟩
  | 28 => ⟨S_, .i1⟩
  | 29 => ⟨S1024x5x4, .i1⟩
  | 30 => ⟨S1024x5x4x128, .f32⟩
  | 31 => ⟨S1024x5x4x128, .i1⟩
  | 32 => ⟨S_, .f32⟩
  | 33 => ⟨S1024x5x4x128, .f32⟩
  | 34 => ⟨S1024x5x4x128, .f32⟩
  | 35 => ⟨S1024x5x4, .f32⟩
  | 36 => ⟨S_, .i32⟩
  | 37 => ⟨S_, .i32⟩
  | 38 => ⟨S_, .i32⟩
  | 39 => ⟨S_, .i32⟩
  | 40 => ⟨S1, .i32⟩
  | 41 => ⟨S_, .i32⟩
  | 42 => ⟨S_, .i32⟩
  | 43 => ⟨S_, .i32⟩
  | 44 => ⟨S1, .i32⟩
  | 45 => ⟨S2, .i32⟩
  | 46 => ⟨S20480, .i32⟩
  | 47 => ⟨S1x1000, .f32⟩
  | 48 => ⟨S1x1x1x1000, .f32⟩
  | 49 => ⟨S20480x1x1x1000, .f32⟩
  | 50 => ⟨S20480x1000, .f32⟩
  | 51 => ⟨S20480, .i32⟩
  | 52 => ⟨S_, .i32⟩
  | 53 => ⟨S20480, .i32⟩
  | 54 => ⟨S20480, .i1⟩
  | 55 => ⟨S_, .i32⟩
  | 56 => ⟨S20480, .i32⟩
  | 57 => ⟨S20480, .i32⟩
  | 58 => ⟨S20480, .i32⟩
  | 59 => ⟨S_, .i32⟩
  | 60 => ⟨S20480, .i32⟩
  | 61 => ⟨S20480, .i1⟩
  | 62 => ⟨S_, .i32⟩
  | 63 => ⟨S20480, .i32⟩
  | 64 => ⟨S20480, .i32⟩
  | 65 => ⟨S20480, .i32⟩
  | 66 => ⟨S20480x1, .i32⟩
  | 67 => ⟨S20480x1, .i32⟩
  | 68 => ⟨S20480x2, .i32⟩
  | 69 => ⟨S_, .f32⟩
  | 70 => ⟨S20480, .f32⟩
  | 71 => ⟨S20480x1000, .f32⟩
  | 72 => ⟨S_, .f32⟩
  | 73 => ⟨S20480x1000, .f32⟩
  | 74 => ⟨S20480x1000, .i1⟩
  | 75 => ⟨S_, .f32⟩
  | 76 => ⟨S20480x1000, .f32⟩
  | 77 => ⟨S20480x1000, .i1⟩
  | 78 => ⟨S_, .f32⟩
  | 79 => ⟨S_, .f32⟩
  | 80 => ⟨S20480x1000, .f32⟩
  | 81 => ⟨S20480x1000, .f32⟩
  | 82 => ⟨S20480x1000, .f32⟩
  | 83 => ⟨S_, .f32⟩
  | 84 => ⟨S_, .f32⟩
  | 85 => ⟨S20480x1000, .f32⟩
  | 86 => ⟨S20480x1000, .f32⟩
  | 87 => ⟨S_, .f32⟩
  | 88 => ⟨S_, .f32⟩
  | 89 => ⟨S_, .f32⟩
  | 90 => ⟨S1x1, .f32⟩
  | 91 => ⟨S1x1, .f32⟩
  | 92 => ⟨S1, .i32⟩
  | 93 => ⟨S_, .i32⟩
  | 94 => ⟨S1, .i32⟩
  | 95 => ⟨S_, .i32⟩
  | 96 => ⟨S20480x1000, .i64⟩
  | 97 => ⟨S20480x1000, .i64⟩
  | 98 => ⟨S_, .i64⟩
  | 99 => ⟨S20480x1000, .i64⟩
  | 100 => ⟨S20480x1000, .i64⟩
  | 101 => ⟨S_, .i64⟩
  | 102 => ⟨S20480x1000, .i64⟩
  | 103 => ⟨S20480x1000, .i64⟩
  | 104 => ⟨S20480x1000, .i64⟩
  | 105 => ⟨S_, .i64⟩
  | 106 => ⟨S20480x1000, .i64⟩
  | 107 => ⟨S20480x1000, .i64⟩
  | 108 => ⟨S20480x1000, .i32⟩
  | 109 => ⟨S20480x1000, .i32⟩
  | 110 => ⟨S_, .i32⟩
  | 111 => ⟨S_, .i32⟩
  | 112 => ⟨S_, .i32⟩
  | 113 => ⟨S20480x1000, .i32⟩
  | 114 => ⟨S20480x1000, .i32⟩
  | 115 => ⟨S20480x1000, .i32⟩
  | 116 => ⟨S20480x1000, .i32⟩
  | 117 => ⟨S20480x1000, .i32⟩
  | 118 => ⟨S_, .i32⟩
  | 119 => ⟨S20480x1000, .i32⟩
  | 120 => ⟨S20480x1000, .i32⟩
  | 121 => ⟨S_, .i32⟩
  | 122 => ⟨S20480x1000, .i32⟩
  | 123 => ⟨S20480x1000, .i32⟩
  | 124 => ⟨S20480x1000, .i32⟩
  | 125 => ⟨S20480x1000, .i32⟩
  | 126 => ⟨S20480x1000, .i32⟩
  | 127 => ⟨S_, .i32⟩
  | _ => ⟨S1024x5x4x128, .f32⟩

abbrev hbmTy0_1 (i : Nat) : BufTy := match i % 128 with
  | 0 => ⟨S20480x1000, .i32⟩
  | 1 => ⟨S20480x1000, .i32⟩
  | 2 => ⟨S_, .i32⟩
  | 3 => ⟨S20480x1000, .i32⟩
  | 4 => ⟨S20480x1000, .i32⟩
  | 5 => ⟨S20480x1000, .i32⟩
  | 6 => ⟨S20480x1000, .i32⟩
  | 7 => ⟨S20480x1000, .i32⟩
  | 8 => ⟨S_, .i32⟩
  | 9 => ⟨S20480x1000, .i32⟩
  | 10 => ⟨S20480x1000, .i32⟩
  | 11 => ⟨S_, .i32⟩
  | 12 => ⟨S20480x1000, .i32⟩
  | 13 => ⟨S20480x1000, .i32⟩
  | 14 => ⟨S20480x1000, .i32⟩
  | 15 => ⟨S20480x1000, .i32⟩
  | 16 => ⟨S20480x1000, .i32⟩
  | 17 => ⟨S_, .i32⟩
  | 18 => ⟨S20480x1000, .i32⟩
  | 19 => ⟨S20480x1000, .i32⟩
  | 20 => ⟨S_, .i32⟩
  | 21 => ⟨S20480x1000, .i32⟩
  | 22 => ⟨S20480x1000, .i32⟩
  | 23 => ⟨S20480x1000, .i32⟩
  | 24 => ⟨S20480x1000, .i32⟩
  | 25 => ⟨S20480x1000, .i32⟩
  | 26 => ⟨S20480x1000, .i32⟩
  | 27 => ⟨S20480x1000, .i32⟩
  | 28 => ⟨S20480x1000, .i32⟩
  | 29 => ⟨S_, .i32⟩
  | 30 => ⟨S20480x1000, .i32⟩
  | 31 => ⟨S20480x1000, .i32⟩
  | 32 => ⟨S20480x1000, .i32⟩
  | 33 => ⟨S_, .i32⟩
  | 34 => ⟨S20480x1000, .i32⟩
  | 35 => ⟨S20480x1000, .i32⟩
  | 36 => ⟨S_, .i32⟩
  | 37 => ⟨S20480x1000, .i32⟩
  | 38 => ⟨S20480x1000, .i32⟩
  | 39 => ⟨S20480x1000, .i32⟩
  | 40 => ⟨S20480x1000, .i32⟩
  | 41 => ⟨S20480x1000, .i32⟩
  | 42 => ⟨S_, .i32⟩
  | 43 => ⟨S20480x1000, .i32⟩
  | 44 => ⟨S20480x1000, .i32⟩
  | 45 => ⟨S_, .i32⟩
  | 46 => ⟨S20480x1000, .i32⟩
  | 47 => ⟨S20480x1000, .i32⟩
  | 48 => ⟨S20480x1000, .i32⟩
  | 49 => ⟨S20480x1000, .i32⟩
  | 50 => ⟨S20480x1000, .i32⟩
  | 51 => ⟨S_, .i32⟩
  | 52 => ⟨S20480x1000, .i32⟩
  | 53 => ⟨S20480x1000, .i32⟩
  | 54 => ⟨S_, .i32⟩
  | 55 => ⟨S20480x1000, .i32⟩
  | 56 => ⟨S20480x1000, .i32⟩
  | 57 => ⟨S20480x1000, .i32⟩
  | 58 => ⟨S20480x1000, .i32⟩
  | 59 => ⟨S20480x1000, .i32⟩
  | 60 => ⟨S_, .i32⟩
  | 61 => ⟨S20480x1000, .i32⟩
  | 62 => ⟨S20480x1000, .i32⟩
  | 63 => ⟨S_, .i32⟩
  | 64 => ⟨S20480x1000, .i32⟩
  | 65 => ⟨S20480x1000, .i32⟩
  | 66 => ⟨S20480x1000, .i32⟩
  | 67 => ⟨S20480x1000, .i32⟩
  | 68 => ⟨S20480x1000, .i32⟩
  | 69 => ⟨S20480x1000, .i32⟩
  | 70 => ⟨S20480x1000, .i32⟩
  | 71 => ⟨S20480x1000, .i32⟩
  | 72 => ⟨S_, .i32⟩
  | 73 => ⟨S20480x1000, .i32⟩
  | 74 => ⟨S20480x1000, .i32⟩
  | 75 => ⟨S20480x1000, .i32⟩
  | 76 => ⟨S_, .i32⟩
  | 77 => ⟨S20480x1000, .i32⟩
  | 78 => ⟨S20480x1000, .i32⟩
  | 79 => ⟨S_, .i32⟩
  | 80 => ⟨S20480x1000, .i32⟩
  | 81 => ⟨S20480x1000, .i32⟩
  | 82 => ⟨S20480x1000, .i32⟩
  | 83 => ⟨S20480x1000, .i32⟩
  | 84 => ⟨S20480x1000, .i32⟩
  | 85 => ⟨S_, .i32⟩
  | 86 => ⟨S20480x1000, .i32⟩
  | 87 => ⟨S20480x1000, .i32⟩
  | 88 => ⟨S_, .i32⟩
  | 89 => ⟨S20480x1000, .i32⟩
  | 90 => ⟨S20480x1000, .i32⟩
  | 91 => ⟨S20480x1000, .i32⟩
  | 92 => ⟨S20480x1000, .i32⟩
  | 93 => ⟨S20480x1000, .i32⟩
  | 94 => ⟨S_, .i32⟩
  | 95 => ⟨S20480x1000, .i32⟩
  | 96 => ⟨S20480x1000, .i32⟩
  | 97 => ⟨S_, .i32⟩
  | 98 => ⟨S20480x1000, .i32⟩
  | 99 => ⟨S20480x1000, .i32⟩
  | 100 => ⟨S20480x1000, .i32⟩
  | 101 => ⟨S20480x1000, .i32⟩
  | 102 => ⟨S20480x1000, .i32⟩
  | 103 => ⟨S_, .i32⟩
  | 104 => ⟨S20480x1000, .i32⟩
  | 105 => ⟨S20480x1000, .i32⟩
  | 106 => ⟨S_, .i32⟩
  | 107 => ⟨S20480x1000, .i32⟩
  | 108 => ⟨S20480x1000, .i32⟩
  | 109 => ⟨S20480x1000, .i32⟩
  | 110 => ⟨S20480x1000, .i32⟩
  | 111 => ⟨S20480x1000, .i32⟩
  | 112 => ⟨S20480x1000, .i32⟩
  | 113 => ⟨S20480x1000, .i32⟩
  | 114 => ⟨S20480x1000, .i32⟩
  | 115 => ⟨S_, .i32⟩
  | 116 => ⟨S20480x1000, .i32⟩
  | 117 => ⟨S20480x1000, .i32⟩
  | 118 => ⟨S20480x1000, .i32⟩
  | 119 => ⟨S_, .i32⟩
  | 120 => ⟨S20480x1000, .i32⟩
  | 121 => ⟨S20480x1000, .i32⟩
  | 122 => ⟨S_, .i32⟩
  | 123 => ⟨S20480x1000, .i32⟩
  | 124 => ⟨S20480x1000, .i32⟩
  | 125 => ⟨S20480x1000, .i32⟩
  | 126 => ⟨S20480x1000, .i32⟩
  | 127 => ⟨S20480x1000, .i32⟩
  | _ => ⟨S1024x5x4x128, .f32⟩

abbrev hbmTy0_2 (i : Nat) : BufTy := match i % 128 with
  | 0 => ⟨S_, .i32⟩
  | 1 => ⟨S20480x1000, .i32⟩
  | 2 => ⟨S20480x1000, .i32⟩
  | 3 => ⟨S_, .i32⟩
  | 4 => ⟨S20480x1000, .i32⟩
  | 5 => ⟨S20480x1000, .i32⟩
  | 6 => ⟨S20480x1000, .i32⟩
  | 7 => ⟨S20480x1000, .i32⟩
  | 8 => ⟨S20480x1000, .i32⟩
  | 9 => ⟨S_, .i32⟩
  | 10 => ⟨S20480x1000, .i32⟩
  | 11 => ⟨S20480x1000, .i32⟩
  | 12 => ⟨S_, .i32⟩
  | 13 => ⟨S20480x1000, .i32⟩
  | 14 => ⟨S20480x1000, .i32⟩
  | 15 => ⟨S20480x1000, .i32⟩
  | 16 => ⟨S20480x1000, .i32⟩
  | 17 => ⟨S20480x1000, .i32⟩
  | 18 => ⟨S_, .i32⟩
  | 19 => ⟨S20480x1000, .i32⟩
  | 20 => ⟨S20480x1000, .i32⟩
  | 21 => ⟨S_, .i32⟩
  | 22 => ⟨S20480x1000, .i32⟩
  | 23 => ⟨S20480x1000, .i32⟩
  | 24 => ⟨S20480x1000, .i32⟩
  | 25 => ⟨S20480x1000, .i32⟩
  | 26 => ⟨S20480x1000, .i32⟩
  | 27 => ⟨S20480x1000, .i32⟩
  | 28 => ⟨S20480x1000, .i32⟩
  | 29 => ⟨S20480x1000, .i32⟩
  | 30 => ⟨S_, .i32⟩
  | 31 => ⟨S20480x1000, .i32⟩
  | 32 => ⟨S20480x1000, .i32⟩
  | 33 => ⟨S20480x1000, .i32⟩
  | 34 => ⟨S_, .i32⟩
  | 35 => ⟨S20480x1000, .i32⟩
  | 36 => ⟨S20480x1000, .i32⟩
  | 37 => ⟨S_, .i32⟩
  | 38 => ⟨S20480x1000, .i32⟩
  | 39 => ⟨S20480x1000, .i32⟩
  | 40 => ⟨S20480x1000, .i32⟩
  | 41 => ⟨S20480x1000, .i32⟩
  | 42 => ⟨S20480x1000, .i32⟩
  | 43 => ⟨S_, .i32⟩
  | 44 => ⟨S20480x1000, .i32⟩
  | 45 => ⟨S20480x1000, .i32⟩
  | 46 => ⟨S_, .i32⟩
  | 47 => ⟨S20480x1000, .i32⟩
  | 48 => ⟨S20480x1000, .i32⟩
  | 49 => ⟨S20480x1000, .i32⟩
  | 50 => ⟨S20480x1000, .i32⟩
  | 51 => ⟨S20480x1000, .i32⟩
  | 52 => ⟨S_, .i32⟩
  | 53 => ⟨S20480x1000, .i32⟩
  | 54 => ⟨S20480x1000, .i32⟩
  | 55 => ⟨S_, .i32⟩
  | 56 => ⟨S20480x1000, .i32⟩
  | 57 => ⟨S20480x1000, .i32⟩
  | 58 => ⟨S20480x1000, .i32⟩
  | 59 => ⟨S20480x1000, .i32⟩
  | 60 => ⟨S20480x1000, .i32⟩
  | 61 => ⟨S_, .i32⟩
  | 62 => ⟨S20480x1000, .i32⟩
  | 63 => ⟨S20480x1000, .i32⟩
  | 64 => ⟨S_, .i32⟩
  | 65 => ⟨S20480x1000, .i32⟩
  | 66 => ⟨S20480x1000, .i32⟩
  | 67 => ⟨S20480x1000, .i32⟩
  | 68 => ⟨S20480x1000, .i32⟩
  | 69 => ⟨S20480x1000, .i32⟩
  | 70 => ⟨S20480x1000, .i32⟩
  | 71 => ⟨S20480x1000, .i32⟩
  | 72 => ⟨S20480x1000, .i32⟩
  | 73 => ⟨S_, .i32⟩
  | 74 => ⟨S20480x1000, .i32⟩
  | 75 => ⟨S20480x1000, .i32⟩
  | 76 => ⟨S20480x1000, .i32⟩
  | 77 => ⟨S_, .i32⟩
  | 78 => ⟨S20480x1000, .i32⟩
  | 79 => ⟨S20480x1000, .i32⟩
  | 80 => ⟨S_, .i32⟩
  | 81 => ⟨S20480x1000, .i32⟩
  | 82 => ⟨S20480x1000, .i32⟩
  | 83 => ⟨S20480x1000, .f32⟩
  | 84 => ⟨S_, .f32⟩
  | 85 => ⟨S20480x1000, .f32⟩
  | 86 => ⟨S20480x1000, .f32⟩
  | 87 => ⟨S1x1, .f32⟩
  | 88 => ⟨S20480x1000, .f32⟩
  | 89 => ⟨S20480x1000, .f32⟩
  | 90 => ⟨S20480x1000, .f32⟩
  | 91 => ⟨S20480x1000, .f32⟩
  | 92 => ⟨S20480x1000, .f32⟩
  | 93 => ⟨S20480x1000, .f32⟩
  | 94 => ⟨S20480x1000, .f32⟩
  | 95 => ⟨S20480x1000, .f32⟩
  | 96 => ⟨S20480x1000, .f32⟩
  | 97 => ⟨S20480x1000, .f32⟩
  | 98 => ⟨S20480x1000, .f32⟩
  | 99 => ⟨S20480x5, .f32⟩
  | 100 => ⟨S20480x5, .i32⟩
  | 101 => ⟨S1024x5x4x5, .i32⟩
  | 102 => ⟨S_, .i32⟩
  | 103 => ⟨S1024x5x4x5, .i32⟩
  | 104 => ⟨S1024x5x4x5, .i1⟩
  | 105 => ⟨S_, .i32⟩
  | 106 => ⟨S1024x5x4x5, .i32⟩
  | 107 => ⟨S1024x5x4x5, .i32⟩
  | 108 => ⟨S1024x5x4x5, .i32⟩
  | 109 => ⟨S1024x5x4x5x1, .i32⟩
  | 110 => ⟨S1, .i32⟩
  | 111 => ⟨S_, .i32⟩
  | 112 => ⟨S1024x5x4x5x1, .i32⟩
  | 113 => ⟨S1024x5x4x5x1, .i1⟩
  | 114 => ⟨S1x1x1x1x1, .i32⟩
  | 115 => ⟨S1024x5x4x5x1, .i32⟩
  | 116 => ⟨S1024x5x4x5x1, .i1⟩
  | 117 => ⟨S1024x5x4x5x1, .i1⟩
  | 118 => ⟨S_, .i1⟩
  | 119 => ⟨S1024x5x4x5, .i1⟩
  | 120 => ⟨S1024x5x4x5x128, .f32⟩
  | 121 => ⟨S1024x5x4x5x128, .i1⟩
  | 122 => ⟨S_, .f32⟩
  | 123 => ⟨S1024x5x4x5x128, .f32⟩
  | 124 => ⟨S1024x5x4x5x128, .f32⟩
  | 125 => ⟨S1024x5x4x5, .f32⟩
  | 126 => ⟨S1024x5x4, .f32⟩
  | 127 => ⟨S_, .f32⟩
  | _ => ⟨S1024x5x4x128, .f32⟩

abbrev hbmTy0_3 (i : Nat) : BufTy := match i % 128 with
  | 0 => ⟨S1024x5x4, .f32⟩
  | 1 => ⟨S1024x5x4, .f32⟩
  | 2 => ⟨S1024x5x4, .f32⟩
  | 3 => ⟨S1024x5x4, .f32⟩
  | 4 => ⟨S1024x5x4, .i1⟩
  | 5 => ⟨S1024x5x4, .f32⟩
  | 6 => ⟨S1024x5x4, .f32⟩
  | 7 => ⟨S1024x5x4, .f32⟩
  | 8 => ⟨S1024x5x4, .f32⟩
  | 9 => ⟨S1024x5x4, .f32⟩
  | 10 => ⟨S1024x5x4, .f32⟩
  | 11 => ⟨S1024x5x4, .f32⟩
  | 12 => ⟨S1024x5x4, .f32⟩
  | 13 => ⟨S_, .f32⟩
  | 14 => ⟨S_, .f32⟩
  | 15 => ⟨S_, .f32⟩
  | 16 => ⟨S1024x5x4x5, .f32⟩
  | 17 => ⟨S1024x5x4x5, .f32⟩
  | 18 => ⟨S1024x5x4x5, .f32⟩
  | 19 => ⟨S1024x5x4x5, .f32⟩
  | 20 => ⟨S1024x5x4x5, .i1⟩
  | 21 => ⟨S1024x5x4x5, .f32⟩
  | 22 => ⟨S1024x5x4x5, .f32⟩
  | 23 => ⟨S1024x5x4x5, .f32⟩
  | 24 => ⟨S1024x5x4x5, .f32⟩
  | 25 => ⟨S1024x5x4x5, .f32⟩
  | 26 => ⟨S1024x5x4x5, .f32⟩
  | 27 => ⟨S1024x5x4x5, .f32⟩
  | 28 => ⟨S1024x5x4x5, .f32⟩
  | 29 => ⟨S_, .f32⟩
  | 30 => ⟨S_, .f32⟩
  | 31 => ⟨S_, .f32⟩
  | 32 => ⟨S_, .f32⟩
  | 33 => ⟨S_, .f32⟩
  | _ => ⟨S1024x5x4x128, .f32⟩

abbrev hbmTy (i : Nat) : BufTy := match i / 128 with
  | 0 => hbmTy0_0 i
  | 1 => hbmTy0_1 i
  | 2 => hbmTy0_2 i
  | 3 => hbmTy0_3 i
  | _ => ⟨S1024x5x4x128, .f32⟩

abbrev bufTy : (tb : Table) → Fin (tcTables nBuf tb) → BufTy
  | .hbm, ⟨i, _⟩ => hbmTy i
  | _, _ => ⟨S1024x5x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v6 : Ref sig .tc := ⟨.hbm, 34, rfl⟩
abbrev main_v7 : Ref sig .tc := ⟨.hbm, 35, rfl⟩
abbrev main_c : Ref sig .tc := ⟨.hbm, 36, rfl⟩
abbrev main_c_1 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_c_2 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_c_3 : Ref sig .tc := ⟨.hbm, 52, rfl⟩
abbrev main_v21 : Ref sig .tc := ⟨.hbm, 53, rfl⟩
abbrev main_v22 : Ref sig .tc := ⟨.hbm, 54, rfl⟩
abbrev main_c_4 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_c_5 : Ref sig .tc := ⟨.hbm, 59, rfl⟩
abbrev main_v26 : Ref sig .tc := ⟨.hbm, 60, rfl⟩
abbrev main_v27 : Ref sig .tc := ⟨.hbm, 61, rfl⟩
abbrev main_c_6 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_cst_7 : Ref sig .tc := ⟨.hbm, 69, rfl⟩
abbrev main_v34 : Ref sig .tc := ⟨.hbm, 70, rfl⟩
abbrev main_v35 : Ref sig .tc := ⟨.hbm, 71, rfl⟩
abbrev main_cst_8 : Ref sig .tc := ⟨.hbm, 72, rfl⟩
abbrev main_v36 : Ref sig .tc := ⟨.hbm, 73, rfl⟩
abbrev main_v37 : Ref sig .tc := ⟨.hbm, 74, rfl⟩
abbrev main_cst_9 : Ref sig .tc := ⟨.hbm, 75, rfl⟩
abbrev main_v38 : Ref sig .tc := ⟨.hbm, 76, rfl⟩
abbrev main_v39 : Ref sig .tc := ⟨.hbm, 77, rfl⟩
abbrev main_cst_10 : Ref sig .tc := ⟨.hbm, 78, rfl⟩
abbrev main_call1_v0 : Ref sig .tc := ⟨.hbm, 79, rfl⟩
abbrev main_call1_v1 : Ref sig .tc := ⟨.hbm, 80, rfl⟩
abbrev main_v40 : Ref sig .tc := ⟨.hbm, 81, rfl⟩
abbrev main_v41 : Ref sig .tc := ⟨.hbm, 82, rfl⟩
abbrev main_cst_11 : Ref sig .tc := ⟨.hbm, 83, rfl⟩
abbrev main_call2_v0 : Ref sig .tc := ⟨.hbm, 84, rfl⟩
abbrev main_call2_v1 : Ref sig .tc := ⟨.hbm, 85, rfl⟩
abbrev main_v42 : Ref sig .tc := ⟨.hbm, 86, rfl⟩
abbrev main_call3_cst : Ref sig .tc := ⟨.hbm, 87, rfl⟩
abbrev main_call3_cst_0 : Ref sig .tc := ⟨.hbm, 88, rfl⟩
abbrev main_call3_call0_v0 : Ref sig .tc := ⟨.hbm, 89, rfl⟩
abbrev main_call3_call0_v1 : Ref sig .tc := ⟨.hbm, 90, rfl⟩
abbrev main_call3_call0_v2 : Ref sig .tc := ⟨.hbm, 91, rfl⟩
abbrev main_call3_call0_v3 : Ref sig .tc := ⟨.hbm, 92, rfl⟩
abbrev main_call3_call0_v4 : Ref sig .tc := ⟨.hbm, 93, rfl⟩
abbrev main_call3_call0_v5 : Ref sig .tc := ⟨.hbm, 94, rfl⟩
abbrev main_call3_call0_v6 : Ref sig .tc := ⟨.hbm, 95, rfl⟩
abbrev main_call3_call0_v7 : Ref sig .tc := ⟨.hbm, 96, rfl⟩
abbrev main_call3_call0_v8 : Ref sig .tc := ⟨.hbm, 97, rfl⟩
abbrev main_call3_call0_c : Ref sig .tc := ⟨.hbm, 98, rfl⟩
abbrev main_call3_call0_v9 : Ref sig .tc := ⟨.hbm, 99, rfl⟩
abbrev main_call3_call0_v10 : Ref sig .tc := ⟨.hbm, 100, rfl⟩
abbrev main_call3_call0_c_0 : Ref sig .tc := ⟨.hbm, 101, rfl⟩
abbrev main_call3_call0_v11 : Ref sig .tc := ⟨.hbm, 102, rfl⟩
abbrev main_call3_call0_v12 : Ref sig .tc := ⟨.hbm, 103, rfl⟩
abbrev main_call3_call0_v13 : Ref sig .tc := ⟨.hbm, 104, rfl⟩
abbrev main_call3_call0_c_1 : Ref sig .tc := ⟨.hbm, 105, rfl⟩
abbrev main_call3_call0_v14 : Ref sig .tc := ⟨.hbm, 106, rfl⟩
abbrev main_call3_call0_v15 : Ref sig .tc := ⟨.hbm, 107, rfl⟩
abbrev main_call3_call0_v16 : Ref sig .tc := ⟨.hbm, 108, rfl⟩
abbrev main_call3_call0_v17 : Ref sig .tc := ⟨.hbm, 109, rfl⟩
abbrev main_call3_call0_call0_v0 : Ref sig .tc := ⟨.hbm, 110, rfl⟩
abbrev main_call3_call0_call0_c : Ref sig .tc := ⟨.hbm, 111, rfl⟩
abbrev main_call3_call0_call0_v1 : Ref sig .tc := ⟨.hbm, 112, rfl⟩
abbrev main_call3_call0_call0_v2 : Ref sig .tc := ⟨.hbm, 113, rfl⟩
abbrev main_call3_call0_call0_v3 : Ref sig .tc := ⟨.hbm, 114, rfl⟩
abbrev main_call3_call0_call0_v4 : Ref sig .tc := ⟨.hbm, 115, rfl⟩
abbrev main_call3_call0_call0_v5 : Ref sig .tc := ⟨.hbm, 116, rfl⟩
abbrev main_call3_call0_call0_v6 : Ref sig .tc := ⟨.hbm, 117, rfl⟩
abbrev main_call3_call0_call0_c_0 : Ref sig .tc := ⟨.hbm, 118, rfl⟩
abbrev main_call3_call0_call0_v7 : Ref sig .tc := ⟨.hbm, 119, rfl⟩
abbrev main_call3_call0_call0_v8 : Ref sig .tc := ⟨.hbm, 120, rfl⟩
abbrev main_call3_call0_call0_c_1 : Ref sig .tc := ⟨.hbm, 121, rfl⟩
abbrev main_call3_call0_call0_v9 : Ref sig .tc := ⟨.hbm, 122, rfl⟩
abbrev main_call3_call0_call0_v10 : Ref sig .tc := ⟨.hbm, 123, rfl⟩
abbrev main_call3_call0_call0_v11 : Ref sig .tc := ⟨.hbm, 124, rfl⟩
abbrev main_call3_call0_call0_v12 : Ref sig .tc := ⟨.hbm, 125, rfl⟩
abbrev main_call3_call0_call0_v13 : Ref sig .tc := ⟨.hbm, 126, rfl⟩
abbrev main_call3_call0_call0_c_2 : Ref sig .tc := ⟨.hbm, 127, rfl⟩
abbrev main_call3_call0_call0_v14 : Ref sig .tc := ⟨.hbm, 128, rfl⟩
abbrev main_call3_call0_call0_v15 : Ref sig .tc := ⟨.hbm, 129, rfl⟩
abbrev main_call3_call0_call0_c_3 : Ref sig .tc := ⟨.hbm, 130, rfl⟩
abbrev main_call3_call0_call0_v16 : Ref sig .tc := ⟨.hbm, 131, rfl⟩
abbrev main_call3_call0_call0_v17 : Ref sig .tc := ⟨.hbm, 132, rfl⟩
abbrev main_call3_call0_call0_v18 : Ref sig .tc := ⟨.hbm, 133, rfl⟩
abbrev main_call3_call0_call0_v19 : Ref sig .tc := ⟨.hbm, 134, rfl⟩
abbrev main_call3_call0_call0_v20 : Ref sig .tc := ⟨.hbm, 135, rfl⟩
abbrev main_call3_call0_call0_c_4 : Ref sig .tc := ⟨.hbm, 136, rfl⟩
abbrev main_call3_call0_call0_v21 : Ref sig .tc := ⟨.hbm, 137, rfl⟩
abbrev main_call3_call0_call0_v22 : Ref sig .tc := ⟨.hbm, 138, rfl⟩
abbrev main_call3_call0_call0_c_5 : Ref sig .tc := ⟨.hbm, 139, rfl⟩
abbrev main_call3_call0_call0_v23 : Ref sig .tc := ⟨.hbm, 140, rfl⟩
abbrev main_call3_call0_call0_v24 : Ref sig .tc := ⟨.hbm, 141, rfl⟩
abbrev main_call3_call0_call0_v25 : Ref sig .tc := ⟨.hbm, 142, rfl⟩
abbrev main_call3_call0_call0_v26 : Ref sig .tc := ⟨.hbm, 143, rfl⟩
abbrev main_call3_call0_call0_v27 : Ref sig .tc := ⟨.hbm, 144, rfl⟩
abbrev main_call3_call0_call0_c_6 : Ref sig .tc := ⟨.hbm, 145, rfl⟩
abbrev main_call3_call0_call0_v28 : Ref sig .tc := ⟨.hbm, 146, rfl⟩
abbrev main_call3_call0_call0_v29 : Ref sig .tc := ⟨.hbm, 147, rfl⟩
abbrev main_call3_call0_call0_c_7 : Ref sig .tc := ⟨.hbm, 148, rfl⟩
abbrev main_call3_call0_call0_v30 : Ref sig .tc := ⟨.hbm, 149, rfl⟩
abbrev main_call3_call0_call0_v31 : Ref sig .tc := ⟨.hbm, 150, rfl⟩
abbrev main_call3_call0_call0_v32 : Ref sig .tc := ⟨.hbm, 151, rfl⟩
abbrev main_call3_call0_call0_v33 : Ref sig .tc := ⟨.hbm, 152, rfl⟩
abbrev main_call3_call0_call0_v34 : Ref sig .tc := ⟨.hbm, 153, rfl⟩
abbrev main_call3_call0_call0_v35 : Ref sig .tc := ⟨.hbm, 154, rfl⟩
abbrev main_call3_call0_call0_v36 : Ref sig .tc := ⟨.hbm, 155, rfl⟩
abbrev main_call3_call0_call0_v37 : Ref sig .tc := ⟨.hbm, 156, rfl⟩
abbrev main_call3_call0_call0_c_8 : Ref sig .tc := ⟨.hbm, 157, rfl⟩
abbrev main_call3_call0_call0_v38 : Ref sig .tc := ⟨.hbm, 158, rfl⟩
abbrev main_call3_call0_call0_v39 : Ref sig .tc := ⟨.hbm, 159, rfl⟩
abbrev main_call3_call0_call0_v40 : Ref sig .tc := ⟨.hbm, 160, rfl⟩
abbrev main_call3_call0_call0_c_9 : Ref sig .tc := ⟨.hbm, 161, rfl⟩
abbrev main_call3_call0_call0_v41 : Ref sig .tc := ⟨.hbm, 162, rfl⟩
abbrev main_call3_call0_call0_v42 : Ref sig .tc := ⟨.hbm, 163, rfl⟩
abbrev main_call3_call0_call0_c_10 : Ref sig .tc := ⟨.hbm, 164, rfl⟩
abbrev main_call3_call0_call0_v43 : Ref sig .tc := ⟨.hbm, 165, rfl⟩
abbrev main_call3_call0_call0_v44 : Ref sig .tc := ⟨.hbm, 166, rfl⟩
abbrev main_call3_call0_call0_v45 : Ref sig .tc := ⟨.hbm, 167, rfl⟩
abbrev main_call3_call0_call0_v46 : Ref sig .tc := ⟨.hbm, 168, rfl⟩
abbrev main_call3_call0_call0_v47 : Ref sig .tc := ⟨.hbm, 169, rfl⟩
abbrev main_call3_call0_call0_c_11 : Ref sig .tc := ⟨.hbm, 170, rfl⟩
abbrev main_call3_call0_call0_v48 : Ref sig .tc := ⟨.hbm, 171, rfl⟩
abbrev main_call3_call0_call0_v49 : Ref sig .tc := ⟨.hbm, 172, rfl⟩
abbrev main_call3_call0_call0_c_12 : Ref sig .tc := ⟨.hbm, 173, rfl⟩
abbrev main_call3_call0_call0_v50 : Ref sig .tc := ⟨.hbm, 174, rfl⟩
abbrev main_call3_call0_call0_v51 : Ref sig .tc := ⟨.hbm, 175, rfl⟩
abbrev main_call3_call0_call0_v52 : Ref sig .tc := ⟨.hbm, 176, rfl⟩
abbrev main_call3_call0_call0_v53 : Ref sig .tc := ⟨.hbm, 177, rfl⟩
abbrev main_call3_call0_call0_v54 : Ref sig .tc := ⟨.hbm, 178, rfl⟩
abbrev main_call3_call0_call0_c_13 : Ref sig .tc := ⟨.hbm, 179, rfl⟩
abbrev main_call3_call0_call0_v55 : Ref sig .tc := ⟨.hbm, 180, rfl⟩
abbrev main_call3_call0_call0_v56 : Ref sig .tc := ⟨.hbm, 181, rfl⟩
abbrev main_call3_call0_call0_c_14 : Ref sig .tc := ⟨.hbm, 182, rfl⟩
abbrev main_call3_call0_call0_v57 : Ref sig .tc := ⟨.hbm, 183, rfl⟩
abbrev main_call3_call0_call0_v58 : Ref sig .tc := ⟨.hbm, 184, rfl⟩
abbrev main_call3_call0_call0_v59 : Ref sig .tc := ⟨.hbm, 185, rfl⟩
abbrev main_call3_call0_call0_v60 : Ref sig .tc := ⟨.hbm, 186, rfl⟩
abbrev main_call3_call0_call0_v61 : Ref sig .tc := ⟨.hbm, 187, rfl⟩
abbrev main_call3_call0_call0_c_15 : Ref sig .tc := ⟨.hbm, 188, rfl⟩
abbrev main_call3_call0_call0_v62 : Ref sig .tc := ⟨.hbm, 189, rfl⟩
abbrev main_call3_call0_call0_v63 : Ref sig .tc := ⟨.hbm, 190, rfl⟩
abbrev main_call3_call0_call0_c_16 : Ref sig .tc := ⟨.hbm, 191, rfl⟩
abbrev main_call3_call0_call0_v64 : Ref sig .tc := ⟨.hbm, 192, rfl⟩
abbrev main_call3_call0_call0_v65 : Ref sig .tc := ⟨.hbm, 193, rfl⟩
abbrev main_call3_call0_call0_v66 : Ref sig .tc := ⟨.hbm, 194, rfl⟩
abbrev main_call3_call0_call0_v67 : Ref sig .tc := ⟨.hbm, 195, rfl⟩
abbrev main_call3_call0_call0_v68 : Ref sig .tc := ⟨.hbm, 196, rfl⟩
abbrev main_call3_call0_call0_v69 : Ref sig .tc := ⟨.hbm, 197, rfl⟩
abbrev main_call3_call0_call0_v70 : Ref sig .tc := ⟨.hbm, 198, rfl⟩
abbrev main_call3_call0_call0_v71 : Ref sig .tc := ⟨.hbm, 199, rfl⟩
abbrev main_call3_call0_call0_c_17 : Ref sig .tc := ⟨.hbm, 200, rfl⟩
abbrev main_call3_call0_call0_v72 : Ref sig .tc := ⟨.hbm, 201, rfl⟩
abbrev main_call3_call0_call0_v73 : Ref sig .tc := ⟨.hbm, 202, rfl⟩
abbrev main_call3_call0_call0_v74 : Ref sig .tc := ⟨.hbm, 203, rfl⟩
abbrev main_call3_call0_call0_c_18 : Ref sig .tc := ⟨.hbm, 204, rfl⟩
abbrev main_call3_call0_call0_v75 : Ref sig .tc := ⟨.hbm, 205, rfl⟩
abbrev main_call3_call0_call0_v76 : Ref sig .tc := ⟨.hbm, 206, rfl⟩
abbrev main_call3_call0_call0_c_19 : Ref sig .tc := ⟨.hbm, 207, rfl⟩
abbrev main_call3_call0_call0_v77 : Ref sig .tc := ⟨.hbm, 208, rfl⟩
abbrev main_call3_call0_call0_v78 : Ref sig .tc := ⟨.hbm, 209, rfl⟩
abbrev main_call3_call0_call0_v79 : Ref sig .tc := ⟨.hbm, 210, rfl⟩
abbrev main_call3_call0_call0_v80 : Ref sig .tc := ⟨.hbm, 211, rfl⟩
abbrev main_call3_call0_call0_v81 : Ref sig .tc := ⟨.hbm, 212, rfl⟩
abbrev main_call3_call0_call0_c_20 : Ref sig .tc := ⟨.hbm, 213, rfl⟩
abbrev main_call3_call0_call0_v82 : Ref sig .tc := ⟨.hbm, 214, rfl⟩
abbrev main_call3_call0_call0_v83 : Ref sig .tc := ⟨.hbm, 215, rfl⟩
abbrev main_call3_call0_call0_c_21 : Ref sig .tc := ⟨.hbm, 216, rfl⟩
abbrev main_call3_call0_call0_v84 : Ref sig .tc := ⟨.hbm, 217, rfl⟩
abbrev main_call3_call0_call0_v85 : Ref sig .tc := ⟨.hbm, 218, rfl⟩
abbrev main_call3_call0_call0_v86 : Ref sig .tc := ⟨.hbm, 219, rfl⟩
abbrev main_call3_call0_call0_v87 : Ref sig .tc := ⟨.hbm, 220, rfl⟩
abbrev main_call3_call0_call0_v88 : Ref sig .tc := ⟨.hbm, 221, rfl⟩
abbrev main_call3_call0_call0_c_22 : Ref sig .tc := ⟨.hbm, 222, rfl⟩
abbrev main_call3_call0_call0_v89 : Ref sig .tc := ⟨.hbm, 223, rfl⟩
abbrev main_call3_call0_call0_v90 : Ref sig .tc := ⟨.hbm, 224, rfl⟩
abbrev main_call3_call0_call0_c_23 : Ref sig .tc := ⟨.hbm, 225, rfl⟩
abbrev main_call3_call0_call0_v91 : Ref sig .tc := ⟨.hbm, 226, rfl⟩
abbrev main_call3_call0_call0_v92 : Ref sig .tc := ⟨.hbm, 227, rfl⟩
abbrev main_call3_call0_call0_v93 : Ref sig .tc := ⟨.hbm, 228, rfl⟩
abbrev main_call3_call0_call0_v94 : Ref sig .tc := ⟨.hbm, 229, rfl⟩
abbrev main_call3_call0_call0_v95 : Ref sig .tc := ⟨.hbm, 230, rfl⟩
abbrev main_call3_call0_call0_c_24 : Ref sig .tc := ⟨.hbm, 231, rfl⟩
abbrev main_call3_call0_call0_v96 : Ref sig .tc := ⟨.hbm, 232, rfl⟩
abbrev main_call3_call0_call0_v97 : Ref sig .tc := ⟨.hbm, 233, rfl⟩
abbrev main_call3_call0_call0_c_25 : Ref sig .tc := ⟨.hbm, 234, rfl⟩
abbrev main_call3_call0_call0_v98 : Ref sig .tc := ⟨.hbm, 235, rfl⟩
abbrev main_call3_call0_call0_v99 : Ref sig .tc := ⟨.hbm, 236, rfl⟩
abbrev main_call3_call0_call0_v100 : Ref sig .tc := ⟨.hbm, 237, rfl⟩
abbrev main_call3_call0_call0_v101 : Ref sig .tc := ⟨.hbm, 238, rfl⟩
abbrev main_call3_call0_call0_v102 : Ref sig .tc := ⟨.hbm, 239, rfl⟩
abbrev main_call3_call0_call0_v103 : Ref sig .tc := ⟨.hbm, 240, rfl⟩
abbrev main_call3_call0_call0_v104 : Ref sig .tc := ⟨.hbm, 241, rfl⟩
abbrev main_call3_call0_call0_v105 : Ref sig .tc := ⟨.hbm, 242, rfl⟩
abbrev main_call3_call0_call0_c_26 : Ref sig .tc := ⟨.hbm, 243, rfl⟩
abbrev main_call3_call0_call0_v106 : Ref sig .tc := ⟨.hbm, 244, rfl⟩
abbrev main_call3_call0_call0_v107 : Ref sig .tc := ⟨.hbm, 245, rfl⟩
abbrev main_call3_call0_call0_v108 : Ref sig .tc := ⟨.hbm, 246, rfl⟩
abbrev main_call3_call0_call0_c_27 : Ref sig .tc := ⟨.hbm, 247, rfl⟩
abbrev main_call3_call0_call0_v109 : Ref sig .tc := ⟨.hbm, 248, rfl⟩
abbrev main_call3_call0_call0_v110 : Ref sig .tc := ⟨.hbm, 249, rfl⟩
abbrev main_call3_call0_call0_c_28 : Ref sig .tc := ⟨.hbm, 250, rfl⟩
abbrev main_call3_call0_call0_v111 : Ref sig .tc := ⟨.hbm, 251, rfl⟩
abbrev main_call3_call0_call0_v112 : Ref sig .tc := ⟨.hbm, 252, rfl⟩
abbrev main_call3_call0_call0_v113 : Ref sig .tc := ⟨.hbm, 253, rfl⟩
abbrev main_call3_call0_call0_v114 : Ref sig .tc := ⟨.hbm, 254, rfl⟩
abbrev main_call3_call0_call0_v115 : Ref sig .tc := ⟨.hbm, 255, rfl⟩
abbrev main_call3_call0_call0_c_29 : Ref sig .tc := ⟨.hbm, 256, rfl⟩
abbrev main_call3_call0_call0_v116 : Ref sig .tc := ⟨.hbm, 257, rfl⟩
abbrev main_call3_call0_call0_v117 : Ref sig .tc := ⟨.hbm, 258, rfl⟩
abbrev main_call3_call0_call0_c_30 : Ref sig .tc := ⟨.hbm, 259, rfl⟩
abbrev main_call3_call0_call0_v118 : Ref sig .tc := ⟨.hbm, 260, rfl⟩
abbrev main_call3_call0_call0_v119 : Ref sig .tc := ⟨.hbm, 261, rfl⟩
abbrev main_call3_call0_call0_v120 : Ref sig .tc := ⟨.hbm, 262, rfl⟩
abbrev main_call3_call0_call0_v121 : Ref sig .tc := ⟨.hbm, 263, rfl⟩
abbrev main_call3_call0_call0_v122 : Ref sig .tc := ⟨.hbm, 264, rfl⟩
abbrev main_call3_call0_call0_c_31 : Ref sig .tc := ⟨.hbm, 265, rfl⟩
abbrev main_call3_call0_call0_v123 : Ref sig .tc := ⟨.hbm, 266, rfl⟩
abbrev main_call3_call0_call0_v124 : Ref sig .tc := ⟨.hbm, 267, rfl⟩
abbrev main_call3_call0_call0_c_32 : Ref sig .tc := ⟨.hbm, 268, rfl⟩
abbrev main_call3_call0_call0_v125 : Ref sig .tc := ⟨.hbm, 269, rfl⟩
abbrev main_call3_call0_call0_v126 : Ref sig .tc := ⟨.hbm, 270, rfl⟩
abbrev main_call3_call0_call0_v127 : Ref sig .tc := ⟨.hbm, 271, rfl⟩
abbrev main_call3_call0_call0_v128 : Ref sig .tc := ⟨.hbm, 272, rfl⟩
abbrev main_call3_call0_call0_v129 : Ref sig .tc := ⟨.hbm, 273, rfl⟩
abbrev main_call3_call0_call0_c_33 : Ref sig .tc := ⟨.hbm, 274, rfl⟩
abbrev main_call3_call0_call0_v130 : Ref sig .tc := ⟨.hbm, 275, rfl⟩
abbrev main_call3_call0_call0_v131 : Ref sig .tc := ⟨.hbm, 276, rfl⟩
abbrev main_call3_call0_call0_c_34 : Ref sig .tc := ⟨.hbm, 277, rfl⟩
abbrev main_call3_call0_call0_v132 : Ref sig .tc := ⟨.hbm, 278, rfl⟩
abbrev main_call3_call0_call0_v133 : Ref sig .tc := ⟨.hbm, 279, rfl⟩
abbrev main_call3_call0_call0_v134 : Ref sig .tc := ⟨.hbm, 280, rfl⟩
abbrev main_call3_call0_call0_v135 : Ref sig .tc := ⟨.hbm, 281, rfl⟩
abbrev main_call3_call0_call0_v136 : Ref sig .tc := ⟨.hbm, 282, rfl⟩
abbrev main_call3_call0_call0_v137 : Ref sig .tc := ⟨.hbm, 283, rfl⟩
abbrev main_call3_call0_call0_v138 : Ref sig .tc := ⟨.hbm, 284, rfl⟩
abbrev main_call3_call0_call0_v139 : Ref sig .tc := ⟨.hbm, 285, rfl⟩
abbrev main_call3_call0_call0_c_35 : Ref sig .tc := ⟨.hbm, 286, rfl⟩
abbrev main_call3_call0_call0_v140 : Ref sig .tc := ⟨.hbm, 287, rfl⟩
abbrev main_call3_call0_call0_v141 : Ref sig .tc := ⟨.hbm, 288, rfl⟩
abbrev main_call3_call0_call0_v142 : Ref sig .tc := ⟨.hbm, 289, rfl⟩
abbrev main_call3_call0_call0_c_36 : Ref sig .tc := ⟨.hbm, 290, rfl⟩
abbrev main_call3_call0_call0_v143 : Ref sig .tc := ⟨.hbm, 291, rfl⟩
abbrev main_call3_call0_call0_v144 : Ref sig .tc := ⟨.hbm, 292, rfl⟩
abbrev main_call3_call0_call0_c_37 : Ref sig .tc := ⟨.hbm, 293, rfl⟩
abbrev main_call3_call0_call0_v145 : Ref sig .tc := ⟨.hbm, 294, rfl⟩
abbrev main_call3_call0_call0_v146 : Ref sig .tc := ⟨.hbm, 295, rfl⟩
abbrev main_call3_call0_call0_v147 : Ref sig .tc := ⟨.hbm, 296, rfl⟩
abbrev main_call3_call0_call0_v148 : Ref sig .tc := ⟨.hbm, 297, rfl⟩
abbrev main_call3_call0_call0_v149 : Ref sig .tc := ⟨.hbm, 298, rfl⟩
abbrev main_call3_call0_call0_c_38 : Ref sig .tc := ⟨.hbm, 299, rfl⟩
abbrev main_call3_call0_call0_v150 : Ref sig .tc := ⟨.hbm, 300, rfl⟩
abbrev main_call3_call0_call0_v151 : Ref sig .tc := ⟨.hbm, 301, rfl⟩
abbrev main_call3_call0_call0_c_39 : Ref sig .tc := ⟨.hbm, 302, rfl⟩
abbrev main_call3_call0_call0_v152 : Ref sig .tc := ⟨.hbm, 303, rfl⟩
abbrev main_call3_call0_call0_v153 : Ref sig .tc := ⟨.hbm, 304, rfl⟩
abbrev main_call3_call0_call0_v154 : Ref sig .tc := ⟨.hbm, 305, rfl⟩
abbrev main_call3_call0_call0_v155 : Ref sig .tc := ⟨.hbm, 306, rfl⟩
abbrev main_call3_call0_call0_v156 : Ref sig .tc := ⟨.hbm, 307, rfl⟩
abbrev main_call3_call0_call0_c_40 : Ref sig .tc := ⟨.hbm, 308, rfl⟩
abbrev main_call3_call0_call0_v157 : Ref sig .tc := ⟨.hbm, 309, rfl⟩
abbrev main_call3_call0_call0_v158 : Ref sig .tc := ⟨.hbm, 310, rfl⟩
abbrev main_call3_call0_call0_c_41 : Ref sig .tc := ⟨.hbm, 311, rfl⟩
abbrev main_call3_call0_call0_v159 : Ref sig .tc := ⟨.hbm, 312, rfl⟩
abbrev main_call3_call0_call0_v160 : Ref sig .tc := ⟨.hbm, 313, rfl⟩
abbrev main_call3_call0_call0_v161 : Ref sig .tc := ⟨.hbm, 314, rfl⟩
abbrev main_call3_call0_call0_v162 : Ref sig .tc := ⟨.hbm, 315, rfl⟩
abbrev main_call3_call0_call0_v163 : Ref sig .tc := ⟨.hbm, 316, rfl⟩
abbrev main_call3_call0_call0_c_42 : Ref sig .tc := ⟨.hbm, 317, rfl⟩
abbrev main_call3_call0_call0_v164 : Ref sig .tc := ⟨.hbm, 318, rfl⟩
abbrev main_call3_call0_call0_v165 : Ref sig .tc := ⟨.hbm, 319, rfl⟩
abbrev main_call3_call0_call0_c_43 : Ref sig .tc := ⟨.hbm, 320, rfl⟩
abbrev main_call3_call0_call0_v166 : Ref sig .tc := ⟨.hbm, 321, rfl⟩
abbrev main_call3_call0_call0_v167 : Ref sig .tc := ⟨.hbm, 322, rfl⟩
abbrev main_call3_call0_call0_v168 : Ref sig .tc := ⟨.hbm, 323, rfl⟩
abbrev main_call3_call0_call0_v169 : Ref sig .tc := ⟨.hbm, 324, rfl⟩
abbrev main_call3_call0_call0_v170 : Ref sig .tc := ⟨.hbm, 325, rfl⟩
abbrev main_call3_call0_v18_0 : Ref sig .tc := ⟨.hbm, 326, rfl⟩
abbrev main_call3_call0_call0_v172 : Ref sig .tc := ⟨.hbm, 327, rfl⟩
abbrev main_call3_call0_call0_v173 : Ref sig .tc := ⟨.hbm, 328, rfl⟩
abbrev main_call3_call0_call0_c_44 : Ref sig .tc := ⟨.hbm, 329, rfl⟩
abbrev main_call3_call0_call0_v174 : Ref sig .tc := ⟨.hbm, 330, rfl⟩
abbrev main_call3_call0_v18_1 : Ref sig .tc := ⟨.hbm, 331, rfl⟩
abbrev main_call3_call0_v19 : Ref sig .tc := ⟨.hbm, 332, rfl⟩
abbrev main_call3_call0_c_2 : Ref sig .tc := ⟨.hbm, 333, rfl⟩
abbrev main_call3_call0_v20 : Ref sig .tc := ⟨.hbm, 334, rfl⟩
abbrev main_call3_call0_v21 : Ref sig .tc := ⟨.hbm, 335, rfl⟩
abbrev main_call3_call0_c_3 : Ref sig .tc := ⟨.hbm, 336, rfl⟩
abbrev main_call3_call0_v22 : Ref sig .tc := ⟨.hbm, 337, rfl⟩
abbrev main_call3_call0_v23 : Ref sig .tc := ⟨.hbm, 338, rfl⟩
abbrev main_call3_call0_v24 : Ref sig .tc := ⟨.hbm, 339, rfl⟩
abbrev main_call3_call0_cst : Ref sig .tc := ⟨.hbm, 340, rfl⟩
abbrev main_call3_call0_v25 : Ref sig .tc := ⟨.hbm, 341, rfl⟩
abbrev main_call3_call0_v26 : Ref sig .tc := ⟨.hbm, 342, rfl⟩
abbrev main_call3_call0_v27 : Ref sig .tc := ⟨.hbm, 343, rfl⟩
abbrev main_call3_call0_v28 : Ref sig .tc := ⟨.hbm, 344, rfl⟩
abbrev main_call3_call0_v29 : Ref sig .tc := ⟨.hbm, 345, rfl⟩
abbrev main_call3_call0_v30 : Ref sig .tc := ⟨.hbm, 346, rfl⟩
abbrev main_call3_call0_v31 : Ref sig .tc := ⟨.hbm, 347, rfl⟩
abbrev main_call3_call0_v32 : Ref sig .tc := ⟨.hbm, 348, rfl⟩
abbrev main_call3_v0 : Ref sig .tc := ⟨.hbm, 349, rfl⟩
abbrev main_call3_v1 : Ref sig .tc := ⟨.hbm, 350, rfl⟩
abbrev main_call3_v2 : Ref sig .tc := ⟨.hbm, 351, rfl⟩
abbrev main_call3_v3 : Ref sig .tc := ⟨.hbm, 352, rfl⟩
abbrev main_v43 : Ref sig .tc := ⟨.hbm, 353, rfl⟩
abbrev main_v44 : Ref sig .tc := ⟨.hbm, 354, rfl⟩
abbrev main_values : Ref sig .tc := ⟨.hbm, 355, rfl⟩
abbrev main_indices : Ref sig .tc := ⟨.hbm, 356, rfl⟩
abbrev main_v45 : Ref sig .tc := ⟨.hbm, 357, rfl⟩
abbrev main_call4_c : Ref sig .tc := ⟨.hbm, 358, rfl⟩
abbrev main_call4_v0 : Ref sig .tc := ⟨.hbm, 359, rfl⟩
abbrev main_call4_v1 : Ref sig .tc := ⟨.hbm, 360, rfl⟩
abbrev main_call4_c_0 : Ref sig .tc := ⟨.hbm, 361, rfl⟩
abbrev main_call4_v2 : Ref sig .tc := ⟨.hbm, 362, rfl⟩
abbrev main_call4_v3 : Ref sig .tc := ⟨.hbm, 363, rfl⟩
abbrev main_call4_v4 : Ref sig .tc := ⟨.hbm, 364, rfl⟩
abbrev main_call4_v5 : Ref sig .tc := ⟨.hbm, 365, rfl⟩
abbrev main_call4_c_1 : Ref sig .tc := ⟨.hbm, 366, rfl⟩
abbrev main_call4_c_2 : Ref sig .tc := ⟨.hbm, 367, rfl⟩
abbrev main_call4_v6 : Ref sig .tc := ⟨.hbm, 368, rfl⟩
abbrev main_call4_v7 : Ref sig .tc := ⟨.hbm, 369, rfl⟩
abbrev main_call4_v8 : Ref sig .tc := ⟨.hbm, 370, rfl⟩
abbrev main_call4_v9 : Ref sig .tc := ⟨.hbm, 371, rfl⟩
abbrev main_call4_v10 : Ref sig .tc := ⟨.hbm, 372, rfl⟩
abbrev main_call4_v11 : Ref sig .tc := ⟨.hbm, 373, rfl⟩
abbrev main_call4_c_3 : Ref sig .tc := ⟨.hbm, 374, rfl⟩
abbrev main_call4_v12 : Ref sig .tc := ⟨.hbm, 375, rfl⟩
abbrev main_call4_v13 : Ref sig .tc := ⟨.hbm, 376, rfl⟩
abbrev main_call4_v14 : Ref sig .tc := ⟨.hbm, 377, rfl⟩
abbrev main_call4_cst : Ref sig .tc := ⟨.hbm, 378, rfl⟩
abbrev main_call4_v15 : Ref sig .tc := ⟨.hbm, 379, rfl⟩
abbrev main_v46 : Ref sig .tc := ⟨.hbm, 380, rfl⟩
abbrev main_v47 : Ref sig .tc := ⟨.hbm, 381, rfl⟩
abbrev main_v48 : Ref sig .tc := ⟨.hbm, 382, rfl⟩
abbrev main_call5_cst : Ref sig .tc := ⟨.hbm, 383, rfl⟩
abbrev main_call5_v0 : Ref sig .tc := ⟨.hbm, 384, rfl⟩
abbrev main_call5_v1 : Ref sig .tc := ⟨.hbm, 385, rfl⟩
abbrev main_call5_v2 : Ref sig .tc := ⟨.hbm, 386, rfl⟩
abbrev main_call5_v3 : Ref sig .tc := ⟨.hbm, 387, rfl⟩
abbrev main_call5_v4 : Ref sig .tc := ⟨.hbm, 388, rfl⟩
abbrev main_call5_v5 : Ref sig .tc := ⟨.hbm, 389, rfl⟩
abbrev main_call5_v6 : Ref sig .tc := ⟨.hbm, 390, rfl⟩
abbrev main_call5_v7 : Ref sig .tc := ⟨.hbm, 391, rfl⟩
abbrev main_call5_v8 : Ref sig .tc := ⟨.hbm, 392, rfl⟩
abbrev main_call5_v9 : Ref sig .tc := ⟨.hbm, 393, rfl⟩
abbrev main_call5_v10 : Ref sig .tc := ⟨.hbm, 394, rfl⟩
abbrev main_call5_v11 : Ref sig .tc := ⟨.hbm, 395, rfl⟩
abbrev main_v49 : Ref sig .tc := ⟨.hbm, 396, rfl⟩
abbrev main_cst_12 : Ref sig .tc := ⟨.hbm, 397, rfl⟩
abbrev main_v50 : Ref sig .tc := ⟨.hbm, 398, rfl⟩
abbrev main_call6_cst : Ref sig .tc := ⟨.hbm, 399, rfl⟩
abbrev main_call6_v0 : Ref sig .tc := ⟨.hbm, 400, rfl⟩
abbrev main_call6_v1 : Ref sig .tc := ⟨.hbm, 401, rfl⟩
abbrev main_call6_v2 : Ref sig .tc := ⟨.hbm, 402, rfl⟩
abbrev main_call6_v3 : Ref sig .tc := ⟨.hbm, 403, rfl⟩
abbrev main_call6_v4 : Ref sig .tc := ⟨.hbm, 404, rfl⟩
abbrev main_call6_v5 : Ref sig .tc := ⟨.hbm, 405, rfl⟩
abbrev main_call6_v6 : Ref sig .tc := ⟨.hbm, 406, rfl⟩
abbrev main_call6_v7 : Ref sig .tc := ⟨.hbm, 407, rfl⟩
abbrev main_call6_v8 : Ref sig .tc := ⟨.hbm, 408, rfl⟩
abbrev main_call6_v9 : Ref sig .tc := ⟨.hbm, 409, rfl⟩
abbrev main_call6_v10 : Ref sig .tc := ⟨.hbm, 410, rfl⟩
abbrev main_call6_v11 : Ref sig .tc := ⟨.hbm, 411, rfl⟩
abbrev main_v51 : Ref sig .tc := ⟨.hbm, 412, rfl⟩
abbrev main_cst_13 : Ref sig .tc := ⟨.hbm, 413, rfl⟩
abbrev main_v52 : Ref sig .tc := ⟨.hbm, 414, rfl⟩
abbrev main_cst_14 : Ref sig .tc := ⟨.hbm, 415, rfl⟩
abbrev main_v53 : Ref sig .tc := ⟨.hbm, 416, rfl⟩
abbrev main_v54 : Ref sig .tc := ⟨.hbm, 417, rfl⟩

abbrev nD : Nat := 1
abbrev τ : Topo := Topo.v7x

variable {F : FTy → Type} [FloatOps F]
-- ==== Proof.Threefry.lean ====
/-
  The counter-based generator behind the noise, as both programs print it: a key and a block of counters go through
  twenty rounds of add, rotate, exclusive-or, with the key mixed in after every fourth round.

  A round is nine operations and a key injection seven, each over buffers the caller names. `tfRound` and `tfInject` are
  those operation lists; `roundFn` and `injectFn` are what they compute on the pair of words. The two read lemmas hold for any
  signature and any buffers that differ from one another, so that the kernel's print and the reference's print share them.
-/
module

public import Idealize.ShloMosaic.Lib.StableHlo.Run

@[expose] public section

noncomputable section

namespace Cert.Noise

open Idealize.ShloMosaic Idealize.ShloMosaic.TcCoe Idealize.SL.Sem Idealize.ShloMosaic.StableHlo

variable {F : FTy → Type} [FloatOps F] {τ : Topo} {sig : RefSig}

/-- The shape of the noise: one row per sampled position, one column per vocabulary entry. -/
abbrev SN : Shape := ⟨2, ![20480, 1000]⟩
/-- A scalar's shape. -/
abbrev S0 : Shape := ⟨0, ![]⟩
/-- A block of words, one per noise entry. -/
abbrev Words (F : FTy → Type) : Type := (⟨SN, .i32⟩ : BufTy).Contents (Elt F)
/-- A single word. -/
abbrev Word (F : FTy → Type) : Type := (⟨S0, .i32⟩ : BufTy).Contents (Elt F)

/-- What a typed reference reads in a valuation. -/
def rd {T : BufTy} (t : TRef sig T) (V : Valuation τ sig (Elt F)) : T.Contents (Elt F) := t.ofBuf (V (Proc.devRef .tc t.ref))

/-- A pair of typed references read together. -/
def rd2 {T : BufTy} (s t : TRef sig T) (V : Valuation τ sig (Elt F)) : T.Contents (Elt F) × T.Contents (Elt F) := (rd s V, rd t V)

/-- A scalar broadcasts to the noise's shape. -/
abbrev Spread : Prop := S0.BroadcastsInDim SN (![] : Fin 0 → Fin SN.rank)

/-- One round on the pair of words: add, rotate by `ra` (`rb = 32 - ra`), exclusive-or. -/
def roundFn (hb : Spread) (ra rb : BitVec 32) (p : Words F × Words F) : Words F × Words F :=
  (addi p.1 p.2,
   xori (addi p.1 p.2)
    (ori (Host.shli p.2 (broadcastInDim SN ![] hb (constantI S0 32 ra)))
      (Host.shrui p.2 (broadcastInDim SN ![] hb (constantI S0 32 rb)))))

/-- A key injection on the pair of words: two key words and the injection's number. -/
def injectFn (hb : Spread) (n : BitVec 32) (k k' : Word F) (p : Words F × Words F) : Words F × Words F :=
  (addi p.1 (broadcastInDim SN ![] hb k),
   addi (addi p.2 (broadcastInDim SN ![] hb k')) (broadcastInDim SN ![] hb (constantI S0 32 n)))

/-- The nine operations of a round. -/
def tfRound (hb : Spread) (ra rb : BitVec 32) (x0 x1 a : TRef sig ⟨SN, .i32⟩) (c : TRef sig ⟨S0, .i32⟩) (s l : TRef sig ⟨SN, .i32⟩)
    (d : TRef sig ⟨S0, .i32⟩) (t r o y : TRef sig ⟨SN, .i32⟩) : List (HloOp τ sig (Elt F)) :=
  [TRef.binary x0 x1 a addi, TRef.nullary c (constantI S0 32 ra), TRef.unary c s (broadcastInDim SN ![] hb),
   TRef.binary x1 s l Host.shli, TRef.nullary d (constantI S0 32 rb), TRef.unary d t (broadcastInDim SN ![] hb),
   TRef.binary x1 t r Host.shrui, TRef.binary l r o ori, TRef.binary a o y xori]

/-- The seven operations of a key injection. -/
def tfInject (hb : Spread) (n : BitVec 32) (k k' : TRef sig ⟨S0, .i32⟩) (x0 x1 s a t b : TRef sig ⟨SN, .i32⟩) (c : TRef sig ⟨S0, .i32⟩)
    (u y : TRef sig ⟨SN, .i32⟩) : List (HloOp τ sig (Elt F)) :=
  [TRef.unary k s (broadcastInDim SN ![] hb), TRef.binary x0 s a addi, TRef.unary k' t (broadcastInDim SN ![] hb),
   TRef.binary x1 t b addi, TRef.nullary c (constantI S0 32 n), TRef.unary c u (broadcastInDim SN ![] hb), TRef.binary b u y addi]

/-- A round computes `roundFn` of the pair it reads. -/
theorem rd2_round (hb : Spread) (ra rb : BitVec 32) (x0 x1 a : TRef sig ⟨SN, .i32⟩) (c : TRef sig ⟨S0, .i32⟩) (s l : TRef sig ⟨SN, .i32⟩)
    (d : TRef sig ⟨S0, .i32⟩) (t r o y : TRef sig ⟨SN, .i32⟩)
    (h : [x0.ref, x1.ref, a.ref, c.ref, s.ref, l.ref, d.ref, t.ref, r.ref, o.ref, y.ref].Nodup) (V : Valuation τ sig (Elt F)) :
    rd2 a y (after (tfRound hb ra rb x0 x1 a c s l d t r o y) V) = roundFn hb ra rb (rd2 x0 x1 V) := by
  simp only [List.nodup_cons, List.mem_cons, not_or, List.not_mem_nil, not_false_eq_true, and_true, List.nodup_nil] at h
  obtain ⟨⟨h1, h2, h3, h4, h5, h6, h7, h8, h9, h10⟩, ⟨g2, g3, g4, g5, g6, g7, g8, g9, g10⟩, ⟨a3, a4, a5, a6, a7, a8, a9, a10⟩,
    ⟨b4, b5, b6, b7, b8, b9, b10⟩, ⟨c5, c6, c7, c8, c9, c10⟩, ⟨d6, d7, d8, d9, d10⟩, ⟨e7, e8, e9, e10⟩, ⟨f8, f9, f10⟩, ⟨i9, i10⟩, j10⟩ := h
  unfold rd2 roundFn rd
  refine Prod.ext ?_ ?_ <;>
    simp (disch := assumption) only [tfRound, tfInject, after_cons, after_nil, nullary_result', unary_result', binary_result', nullary_result_ne', unary_result_ne',
      binary_result_ne', TRef.ofBuf_toBuf]

/-- A key injection computes `injectFn` of what it reads. -/
theorem rd2_inject (hb : Spread) (n : BitVec 32) (k k' : TRef sig ⟨S0, .i32⟩) (x0 x1 s a t b : TRef sig ⟨SN, .i32⟩) (c : TRef sig ⟨S0, .i32⟩)
    (u y : TRef sig ⟨SN, .i32⟩)
    (h : [k.ref, k'.ref, x0.ref, x1.ref, s.ref, a.ref, t.ref, b.ref, c.ref, u.ref, y.ref].Nodup) (V : Valuation τ sig (Elt F)) :
    rd2 a y (after (tfInject hb n k k' x0 x1 s a t b c u y) V) = injectFn hb n (rd k V) (rd k' V) (rd2 x0 x1 V) := by
  simp only [List.nodup_cons, List.mem_cons, not_or, List.not_mem_nil, not_false_eq_true, and_true, List.nodup_nil] at h
  obtain ⟨⟨h1, h2, h3, h4, h5, h6, h7, h8, h9, h10⟩, ⟨g2, g3, g4, g5, g6, g7, g8, g9, g10⟩, ⟨a3, a4, a5, a6, a7, a8, a9, a10⟩,
    ⟨b4, b5, b6, b7, b8, b9, b10⟩, ⟨c5, c6, c7, c8, c9, c10⟩, ⟨d6, d7, d8, d9, d10⟩, ⟨e7, e8, e9, e10⟩, ⟨f8, f9, f10⟩, ⟨i9, i10⟩, j10⟩ := h
  unfold rd2 injectFn rd
  refine Prod.ext ?_ ?_ <;>
    simp (disch := assumption) only [tfRound, tfInject, after_cons, after_nil, nullary_result', unary_result', binary_result', nullary_result_ne', unary_result_ne',
      binary_result_ne', TRef.ofBuf_toBuf]

/-- A round leaves every buffer it does not write. -/
theorem rd_round (hb : Spread) (ra rb : BitVec 32) (x0 x1 a : TRef sig ⟨SN, .i32⟩) (c : TRef sig ⟨S0, .i32⟩) (s l : TRef sig ⟨SN, .i32⟩)
    (d : TRef sig ⟨S0, .i32⟩) (t r o y : TRef sig ⟨SN, .i32⟩) {T : BufTy} (z : TRef sig T)
    (h : z.ref ∉ [a.ref, c.ref, s.ref, l.ref, d.ref, t.ref, r.ref, o.ref, y.ref]) (V : Valuation τ sig (Elt F)) :
    rd z (after (tfRound hb ra rb x0 x1 a c s l d t r o y) V) = rd z V := by
  simp only [List.mem_cons, not_or, List.not_mem_nil, not_false_eq_true, and_true] at h
  obtain ⟨h1, h2, h3, h4, h5, h6, h7, h8, h9⟩ := h
  unfold rd
  simp (disch := assumption) only [tfRound, tfInject, after_cons, after_nil, nullary_result_ne', unary_result_ne', binary_result_ne']

/-- A key injection leaves every buffer it does not write. -/
theorem rd_inject (hb : Spread) (n : BitVec 32) (k k' : TRef sig ⟨S0, .i32⟩) (x0 x1 s a t b : TRef sig ⟨SN, .i32⟩) (c : TRef sig ⟨S0, .i32⟩)
    (u y : TRef sig ⟨SN, .i32⟩) {T : BufTy} (z : TRef sig T)
    (h : z.ref ∉ [s.ref, a.ref, t.ref, b.ref, c.ref, u.ref, y.ref]) (V : Valuation τ sig (Elt F)) :
    rd z (after (tfInject hb n k k' x0 x1 s a t b c u y) V) = rd z V := by
  simp only [List.mem_cons, not_or, List.not_mem_nil, not_false_eq_true, and_true] at h
  obtain ⟨h1, h2, h3, h4, h5, h6, h7⟩ := h
  unfold rd
  simp (disch := assumption) only [tfRound, tfInject, after_cons, after_nil, nullary_result_ne', unary_result_ne', binary_result_ne']

/-- A line writes single buffers only, numbered from `lo` up to but not including `hi`, none of them fresh, and touches no
    other core's memory. -/
def TidyOp (lo hi : Nat) (op : HloOp τ sig (Elt F)) : Prop :=
  (∃ y : Ref sig .tc, op.writes = {Proc.devRef .tc y} ∧ lo ≤ y.idx.val ∧ y.idx.val < hi) ∧ op.bufs ⊆ tcRefs τ sig ∧ op.fresh = ∅

/-- A tidy list: every line is tidy. -/
def Tidy (lo hi : Nat) (ops : List (HloOp τ sig (Elt F))) : Prop := ops.Forall (TidyOp lo hi)

/-- A tidy list keeps every buffer numbered outside its range. -/
theorem Tidy.keep {lo hi : Nat} {ops : List (HloOp τ sig (Elt F))} (h : Tidy lo hi ops) (V : Valuation τ sig (Elt F)) (r : Ref sig .tc)
    (hr : r.idx.val < lo ∨ hi ≤ r.idx.val) : after ops V (Proc.devRef .tc r) = V (Proc.devRef .tc r) :=
  after_of_forall_not_mem ops V fun op hop hb => by
    obtain ⟨⟨y, hy, h1, h2⟩, -⟩ := List.forall_iff_forall_mem.mp h op hop
    rw [hy, Finset.mem_singleton] at hb
    rw [Proc.devRef_injective _ hb] at hr
    omega

theorem Tidy.append {lo mid hi : Nat} {a b : List (HloOp τ sig (Elt F))} (ha : Tidy lo mid a) (hb : Tidy mid hi b) (h1 : lo ≤ mid) (h2 : mid ≤ hi) :
    Tidy lo hi (a ++ b) := by
  refine List.forall_iff_forall_mem.mpr fun op hop => ?_
  rcases List.mem_append.mp hop with h | h
  · obtain ⟨⟨y, hy, e1, e2⟩, h3⟩ := List.forall_iff_forall_mem.mp ha op h
    exact ⟨⟨y, hy, e1, by omega⟩, h3⟩
  · obtain ⟨⟨y, hy, e1, e2⟩, h3⟩ := List.forall_iff_forall_mem.mp hb op h
    exact ⟨⟨y, hy, by omega, e2⟩, h3⟩

section
variable {lo hi : Nat}
theorem tidy_cons {op : HloOp τ sig (Elt F)} {ops : List (HloOp τ sig (Elt F))} : Tidy lo hi (op :: ops) ↔ TidyOp lo hi op ∧ Tidy lo hi ops :=
  List.forall_cons _ _ _
theorem tidy_nil : Tidy lo hi ([] : List (HloOp τ sig (Elt F))) ↔ True := Iff.rfl
theorem tidyOp_of {op : HloOp τ sig (Elt F)} {y : Ref sig .tc} (hw : op.writes = {Proc.devRef .tc y}) (hs : op.bufs ⊆ tcRefs τ sig) (hf : op.fresh = ∅) :
    TidyOp lo hi op ↔ lo ≤ y.idx.val ∧ y.idx.val < hi := by
  constructor
  · rintro ⟨⟨z, hz, h1, h2⟩, -⟩
    rw [hw, Finset.singleton_inj] at hz
    rw [Proc.devRef_injective _ hz]
    exact ⟨h1, h2⟩
  · exact fun h => ⟨⟨y, hw, h.1, h.2⟩, hs, hf⟩
variable {x a b c y : Ref sig .tc}
theorem tidy_nullary (v : y.ty.Contents (Elt F)) (hy) : TidyOp lo hi (nullary (τ := τ) y v hy) ↔ lo ≤ y.idx.val ∧ y.idx.val < hi :=
  tidyOp_of rfl (nullary_bufs_sub ..) rfl
theorem tidy_unary (f : x.ty.Contents (Elt F) → y.ty.Contents (Elt F)) (hx hy) :
    TidyOp lo hi (unary (τ := τ) x y f hx hy) ↔ lo ≤ y.idx.val ∧ y.idx.val < hi :=
  tidyOp_of rfl (unary_bufs_sub ..) rfl
theorem tidy_binary (f : a.ty.Contents (Elt F) → b.ty.Contents (Elt F) → y.ty.Contents (Elt F)) (ha hb hy) :
    TidyOp lo hi (binary (τ := τ) a b y f ha hb hy) ↔ lo ≤ y.idx.val ∧ y.idx.val < hi :=
  tidyOp_of rfl (binary_bufs_sub ..) rfl
theorem tidy_ternary (f : c.ty.Contents (Elt F) → a.ty.Contents (Elt F) → b.ty.Contents (Elt F) → y.ty.Contents (Elt F)) (hc ha hb hy) :
    TidyOp lo hi (ternary (τ := τ) c a b y f hc ha hb hy) ↔ lo ≤ y.idx.val ∧ y.idx.val < hi :=
  tidyOp_of rfl (ternary_bufs_sub ..) rfl
theorem tidy_reshape (he hn hx hy) : TidyOp lo hi (reshape (τ := τ) (Val := Elt F) x y he hn hx hy) ↔ lo ≤ y.idx.val ∧ y.idx.val < hi :=
  tidyOp_of rfl (reshape_bufs_sub ..) rfl
end

end Cert.Noise

end
-- ==== Proof.RefRun.lean ====
/-
  The reference's @main as lists of host operations, stretch by stretch, and its run: every execution terminates with each
  buffer at the fold of those operations over the launch contents, every semaphore counter at zero.
-/
module

public import proofs.«01_k».proof.Proof.Gen.ReferenceIdeal
public import proofs.«01_k».proof.Proof.Threefry
public import Idealize.ShloMosaic.Lib.Pipeline.Frame

@[expose] public section

noncomputable section

namespace Cert.RefRun

open Cert.ReferenceIdeal Cert.ReferenceIdeal.Gen Idealize.ShloMosaic Idealize.ShloMosaic.TcCoe Idealize.SL.Sem Idealize.ShloMosaic.StableHlo Cert.Noise

variable {F : FTy → Type} [FloatOps F]

/-- Two scalars side by side: the generator's key. -/
def pairKey : (⟨S1, .i32⟩ : BufTy).Contents (Elt F) → (⟨S1, .i32⟩ : BufTy).Contents (Elt F) → (⟨S2, .i32⟩ : BufTy).Contents (Elt F) :=
  fun a b => concatenate S2 0 [⟨S1, a⟩, ⟨S1, b⟩] concatenates_S1_S1_S2_d0

/-- Two columns side by side: the row and column each sampled position clears. -/
def pairCols : (⟨S20480x1, .i32⟩ : BufTy).Contents (Elt F) → (⟨S20480x1, .i32⟩ : BufTy).Contents (Elt F) → (⟨S20480x2, .i32⟩ : BufTy).Contents (Elt F) :=
  fun a b => concatenate S20480x2 1 [⟨S20480x1, a⟩, ⟨S20480x1, b⟩] concatenates_S20480x1_S20480x1_S20480x2_d1

/-- The distribution, the positive rows and their products. -/
abbrev opsPos : List (HloOp τ sig (Elt F)) :=
  [ nullary main_cst (constant S_ .f32 0x3F400000#32),
    unary main_cst main_v0 (broadcastInDim S1000 ![] bcast_S_S1000 : (⟨S_, .f32⟩ : BufTy).Contents (Elt F) → (⟨S1000, .f32⟩ : BufTy).Contents (Elt F)),
    binary main_arg3 main_v0 main_v1 (Host.powf : (⟨S1000, .f32⟩ : BufTy).Contents (Elt F) → (⟨S1000, .f32⟩ : BufTy).Contents (Elt F) → (⟨S1000, .f32⟩ : BufTy).Contents (Elt F)),
    unary main_v1 main_v2 (Host.absf : (⟨S1000, .f32⟩ : BufTy).Contents (Elt F) → (⟨S1000, .f32⟩ : BufTy).Contents (Elt F)),
    nullary main_cst_0 (constant S_ .f32 0x00000000#32),
    binary main_v2 main_cst_0 main_v3 ((fun x v => Host.reduceAdd x v reducesTo_S1000_S_d0 h_S_) : (⟨S1000, .f32⟩ : BufTy).Contents (Elt F) → (⟨S_, .f32⟩ : BufTy).Contents (Elt F) → (⟨S_, .f32⟩ : BufTy).Contents (Elt F)),
    unary main_v3 main_v4 (broadcastInDim S1000 ![] bcast_S_S1000 : (⟨S_, .f32⟩ : BufTy).Contents (Elt F) → (⟨S1000, .f32⟩ : BufTy).Contents (Elt F)),
    binary main_v1 main_v4 main_v5 (Host.divf : (⟨S1000, .f32⟩ : BufTy).Contents (Elt F) → (⟨S1000, .f32⟩ : BufTy).Contents (Elt F) → (⟨S1000, .f32⟩ : BufTy).Contents (Elt F)),
    TRef.nullary (.of (T := ⟨S_, .i32⟩) main_call0_c) (constantI S_ 32 0#32),
    TRef.unary (.of (T := ⟨S_, .i32⟩) main_call0_c) (.of (T := ⟨S1024x5x4, .i32⟩) main_call0_v0) (broadcastInDim S1024x5x4 ![] bcast_S_S1024x5x4),
    TRef.binary (.of (T := ⟨S1024x5x4, .i32⟩) main_arg1) (.of (T := ⟨S1024x5x4, .i32⟩) main_call0_v0) (.of (T := ⟨S1024x5x4, .i1⟩) main_call0_v1) (cmpi .slt),
    TRef.nullary (.of (T := ⟨S_, .i32⟩) main_call0_c_0) (constantI S_ 32 1000#32),
    TRef.unary (.of (T := ⟨S_, .i32⟩) main_call0_c_0) (.of (T := ⟨S1024x5x4, .i32⟩) main_call0_v2) (broadcastInDim S1024x5x4 ![] bcast_S_S1024x5x4),
    TRef.binary (.of (T := ⟨S1024x5x4, .i32⟩) main_arg1) (.of (T := ⟨S1024x5x4, .i32⟩) main_call0_v2) (.of (T := ⟨S1024x5x4, .i32⟩) main_call0_v3) addi,
    TRef.ternary (.of (T := ⟨S1024x5x4, .i1⟩) main_call0_v1) (.of (T := ⟨S1024x5x4, .i32⟩) main_call0_v3) (.of (T := ⟨S1024x5x4, .i32⟩) main_arg1) (.of (T := ⟨S1024x5x4, .i32⟩) main_call0_v4) select,
    TRef.unary (.of (T := ⟨S1024x5x4, .i32⟩) main_call0_v4) (.of (T := ⟨S1024x5x4x1, .i32⟩) main_call0_v5) (broadcastInDim S1024x5x4x1 ![0, 1, 2] bcast_S1024x5x4_S1024x5x4x1_0_1_2),
    TRef.nullary (.of (T := ⟨S1, .i32⟩) main_call0_c_1) (constantI S1 32 999#32),
    TRef.nullary (.of (T := ⟨S_, .i32⟩) main_call0_c_2) (constantI S_ 32 0#32),
    TRef.unary (.of (T := ⟨S_, .i32⟩) main_call0_c_2) (.of (T := ⟨S1024x5x4x1, .i32⟩) main_call0_v6) (broadcastInDim S1024x5x4x1 ![] bcast_S_S1024x5x4x1),
    TRef.binary (.of (T := ⟨S1024x5x4x1, .i32⟩) main_call0_v5) (.of (T := ⟨S1024x5x4x1, .i32⟩) main_call0_v6) (.of (T := ⟨S1024x5x4x1, .i1⟩) main_call0_v7) (cmpi .sge),
    TRef.unary (.of (T := ⟨S1, .i32⟩) main_call0_c_1) (.of (T := ⟨S1x1x1x1, .i32⟩) main_call0_v8) (broadcastInDim S1x1x1x1 ![3] bcast_S1_S1x1x1x1_3),
    TRef.unary (.of (T := ⟨S1x1x1x1, .i32⟩) main_call0_v8) (.of (T := ⟨S1024x5x4x1, .i32⟩) main_call0_v9) (broadcastInDim S1024x5x4x1 ![0, 1, 2, 3] bcast_S1x1x1x1_S1024x5x4x1_0_1_2_3),
    TRef.binary (.of (T := ⟨S1024x5x4x1, .i32⟩) main_call0_v5) (.of (T := ⟨S1024x5x4x1, .i32⟩) main_call0_v9) (.of (T := ⟨S1024x5x4x1, .i1⟩) main_call0_v10) (cmpi .sle),
    TRef.binary (.of (T := ⟨S1024x5x4x1, .i1⟩) main_call0_v7) (.of (T := ⟨S1024x5x4x1, .i1⟩) main_call0_v10) (.of (T := ⟨S1024x5x4x1, .i1⟩) main_call0_v11) andi,
    TRef.nullary (.of (T := ⟨S_, .i1⟩) main_call0_c_3) (constantI S_ 1 1#1),
    TRef.binary (.of (T := ⟨S1024x5x4x1, .i1⟩) main_call0_v11) (.of (T := ⟨S_, .i1⟩) main_call0_c_3) (.of (T := ⟨S1024x5x4, .i1⟩) main_call0_v12) (fun x v => Host.reduce IntOp.andi x v reducesTo_S1024x5x4x1_S1024x5x4_d3 h_S_),
    TRef.binary (.of (T := ⟨S1000x128, .f32⟩) main_arg2) (.of (T := ⟨S1024x5x4x1, .i32⟩) main_call0_v5) (.of (T := ⟨S1024x5x4x128, .f32⟩) main_call0_v13) (fun x i => Host.gather gather_S1000x128_S1024x5x4x1_S1024x5x4x128_3_0_n_n_0_3_1128 x i),
    TRef.unary (.of (T := ⟨S1024x5x4, .i1⟩) main_call0_v12) (.of (T := ⟨S1024x5x4x128, .i1⟩) main_call0_v14) (broadcastInDim S1024x5x4x128 ![0, 1, 2] bcast_S1024x5x4_S1024x5x4x128_0_1_2),
    TRef.nullary (.of (T := ⟨S_, .f32⟩) main_call0_cst) (constant S_ .f32 0x7FC00000#32),
    TRef.unary (.of (T := ⟨S_, .f32⟩) main_call0_cst) (.of (T := ⟨S1024x5x4x128, .f32⟩) main_call0_v15) (broadcastInDim S1024x5x4x128 ![] bcast_S_S1024x5x4x128),
    TRef.ternary (.of (T := ⟨S1024x5x4x128, .i1⟩) main_call0_v14) (.of (T := ⟨S1024x5x4x128, .f32⟩) main_call0_v13) (.of (T := ⟨S1024x5x4x128, .f32⟩) main_call0_v15) (.of (T := ⟨S1024x5x4x128, .f32⟩) main_v6) select,
    binary main_arg0 main_v6 main_v7 ((fun l r => Host.dotGeneral dot_S1024x5x4x128_S1024x5x4x128_S1024x5x4_3_3_n_n_012_012 none l r) : (⟨S1024x5x4x128, .f32⟩ : BufTy).Contents (Elt F) → (⟨S1024x5x4x128, .f32⟩ : BufTy).Contents (Elt F) → (⟨S1024x5x4, .f32⟩ : BufTy).Contents (Elt F)) ]

/-- The key and the masked logits. -/
abbrev opsLogit : List (HloOp τ sig (Elt F)) :=
  [ nullary main_c (constantI S_ 32 42#32),
    nullary main_c_1 (constantI S_ 32 32#32),
    binary main_c main_c_1 main_v8 (Host.shrui : (⟨S_, .i32⟩ : BufTy).Contents (Elt F) → (⟨S_, .i32⟩ : BufTy).Contents (Elt F) → (⟨S_, .i32⟩ : BufTy).Contents (Elt F)),
    unary main_v8 main_v9 (id : (⟨S_, .i32⟩ : BufTy).Contents (Elt F) → (⟨S_, .i32⟩ : BufTy).Contents (Elt F)),
    unary main_v9 main_v10 (broadcastInDim S1 ![] bcast_S_S1 : (⟨S_, .i32⟩ : BufTy).Contents (Elt F) → (⟨S1, .i32⟩ : BufTy).Contents (Elt F)),
    nullary main_c_2 (constantI S_ 32 4294967295#32),
    binary main_c main_c_2 main_v11 (andi : (⟨S_, .i32⟩ : BufTy).Contents (Elt F) → (⟨S_, .i32⟩ : BufTy).Contents (Elt F) → (⟨S_, .i32⟩ : BufTy).Contents (Elt F)),
    unary main_v11 main_v12 (id : (⟨S_, .i32⟩ : BufTy).Contents (Elt F) → (⟨S_, .i32⟩ : BufTy).Contents (Elt F)),
    unary main_v12 main_v13 (broadcastInDim S1 ![] bcast_S_S1 : (⟨S_, .i32⟩ : BufTy).Contents (Elt F) → (⟨S1, .i32⟩ : BufTy).Contents (Elt F)),
    binary main_v10 main_v13 main_v14 (pairKey (F := F)),
    reshape main_arg1 main_v15 (rfl : (.i32 : EltTy) = .i32) shapeCasts_S1024x5x4_S20480,
    unary main_v5 main_v16 (broadcastInDim S1x1000 ![1] bcast_S1000_S1x1000_1 : (⟨S1000, .f32⟩ : BufTy).Contents (Elt F) → (⟨S1x1000, .f32⟩ : BufTy).Contents (Elt F)),
    reshape main_v16 main_v17 (rfl : (.f32 : EltTy) = .f32) shapeCasts_S1x1000_S1x1x1x1000,
    unary main_v17 main_v18 (broadcastInDim S20480x1x1x1000 ![0, 1, 2, 3] bcast_S1x1x1x1000_S20480x1x1x1000_0_1_2_3 : (⟨S1x1x1x1000, .f32⟩ : BufTy).Contents (Elt F) → (⟨S20480x1x1x1000, .f32⟩ : BufTy).Contents (Elt F)),
    reshape main_v18 main_v19 (rfl : (.f32 : EltTy) = .f32) shapeCasts_S20480x1x1x1000_S20480x1000,
    nullary main_v20 (iotaInDim S20480 32 0),
    nullary main_c_3 (constantI S_ 32 0#32),
    unary main_c_3 main_v21 (broadcastInDim S20480 ![] bcast_S_S20480 : (⟨S_, .i32⟩ : BufTy).Contents (Elt F) → (⟨S20480, .i32⟩ : BufTy).Contents (Elt F)),
    binary main_v20 main_v21 main_v22 (cmpi .slt : (⟨S20480, .i32⟩ : BufTy).Contents (Elt F) → (⟨S20480, .i32⟩ : BufTy).Contents (Elt F) → (⟨S20480, .i1⟩ : BufTy).Contents (Elt F)),
    nullary main_c_4 (constantI S_ 32 20480#32),
    unary main_c_4 main_v23 (broadcastInDim S20480 ![] bcast_S_S20480 : (⟨S_, .i32⟩ : BufTy).Contents (Elt F) → (⟨S20480, .i32⟩ : BufTy).Contents (Elt F)),
    binary main_v20 main_v23 main_v24 (addi : (⟨S20480, .i32⟩ : BufTy).Contents (Elt F) → (⟨S20480, .i32⟩ : BufTy).Contents (Elt F) → (⟨S20480, .i32⟩ : BufTy).Contents (Elt F)),
    ternary main_v22 main_v24 main_v20 main_v25 (select : (⟨S20480, .i1⟩ : BufTy).Contents (Elt F) → (⟨S20480, .i32⟩ : BufTy).Contents (Elt F) → (⟨S20480, .i32⟩ : BufTy).Contents (Elt F) → (⟨S20480, .i32⟩ : BufTy).Contents (Elt F)),
    nullary main_c_5 (constantI S_ 32 0#32),
    unary main_c_5 main_v26 (broadcastInDim S20480 ![] bcast_S_S20480 : (⟨S_, .i32⟩ : BufTy).Contents (Elt F) → (⟨S20480, .i32⟩ : BufTy).Contents (Elt F)),
    binary main_v15 main_v26 main_v27 (cmpi .slt : (⟨S20480, .i32⟩ : BufTy).Contents (Elt F) → (⟨S20480, .i32⟩ : BufTy).Contents (Elt F) → (⟨S20480, .i1⟩ : BufTy).Contents (Elt F)),
    nullary main_c_6 (constantI S_ 32 1000#32),
    unary main_c_6 main_v28 (broadcastInDim S20480 ![] bcast_S_S20480 : (⟨S_, .i32⟩ : BufTy).Contents (Elt F) → (⟨S20480, .i32⟩ : BufTy).Contents (Elt F)),
    binary main_v15 main_v28 main_v29 (addi : (⟨S20480, .i32⟩ : BufTy).Contents (Elt F) → (⟨S20480, .i32⟩ : BufTy).Contents (Elt F) → (⟨S20480, .i32⟩ : BufTy).Contents (Elt F)),
    ternary main_v27 main_v29 main_v15 main_v30 (select : (⟨S20480, .i1⟩ : BufTy).Contents (Elt F) → (⟨S20480, .i32⟩ : BufTy).Contents (Elt F) → (⟨S20480, .i32⟩ : BufTy).Contents (Elt F) → (⟨S20480, .i32⟩ : BufTy).Contents (Elt F)),
    unary main_v25 main_v31 (broadcastInDim S20480x1 ![0] bcast_S20480_S20480x1_0 : (⟨S20480, .i32⟩ : BufTy).Contents (Elt F) → (⟨S20480x1, .i32⟩ : BufTy).Contents (Elt F)),
    unary main_v30 main_v32 (broadcastInDim S20480x1 ![0] bcast_S20480_S20480x1_0 : (⟨S20480, .i32⟩ : BufTy).Contents (Elt F) → (⟨S20480x1, .i32⟩ : BufTy).Contents (Elt F)),
    binary main_v31 main_v32 main_v33 (pairCols (F := F)),
    nullary main_cst_7 (constant S_ .f32 0x00000000#32),
    unary main_cst_7 main_v34 (broadcastInDim S20480 ![] bcast_S_S20480 : (⟨S_, .f32⟩ : BufTy).Contents (Elt F) → (⟨S20480, .f32⟩ : BufTy).Contents (Elt F)),
    ternary main_v19 main_v33 main_v34 main_v35 ((fun x i u => Host.scatter scatter_S20480x1000_S20480x2_S20480_n_01_01_1 (fun _ b => b) x i u) : (⟨S20480x1000, .f32⟩ : BufTy).Contents (Elt F) → (⟨S20480x2, .i32⟩ : BufTy).Contents (Elt F) → (⟨S20480, .f32⟩ : BufTy).Contents (Elt F) → (⟨S20480x1000, .f32⟩ : BufTy).Contents (Elt F)),
    nullary main_cst_8 (constant S_ .f32 0x00000000#32),
    unary main_cst_8 main_v36 (broadcastInDim S20480x1000 ![] bcast_S_S20480x1000 : (⟨S_, .f32⟩ : BufTy).Contents (Elt F) → (⟨S20480x1000, .f32⟩ : BufTy).Contents (Elt F)),
    binary main_v35 main_v36 main_v37 (cmpf .ogt : (⟨S20480x1000, .f32⟩ : BufTy).Contents (Elt F) → (⟨S20480x1000, .f32⟩ : BufTy).Contents (Elt F) → (⟨S20480x1000, .i1⟩ : BufTy).Contents (Elt F)),
    nullary main_cst_9 (constant S_ .f32 0x00000000#32),
    unary main_cst_9 main_v38 (broadcastInDim S20480x1000 ![] bcast_S_S20480x1000 : (⟨S_, .f32⟩ : BufTy).Contents (Elt F) → (⟨S20480x1000, .f32⟩ : BufTy).Contents (Elt F)),
    binary main_v35 main_v38 main_v39 (cmpf .ogt : (⟨S20480x1000, .f32⟩ : BufTy).Contents (Elt F) → (⟨S20480x1000, .f32⟩ : BufTy).Contents (Elt F) → (⟨S20480x1000, .i1⟩ : BufTy).Contents (Elt F)),
    nullary main_cst_10 (constant S_ .f32 0x3F800000#32),
    TRef.unary (.of (T := ⟨S_, .f32⟩) main_cst_10) (.of (T := ⟨S_, .f32⟩) main_call1_v0) id,
    TRef.unary (.of (T := ⟨S_, .f32⟩) main_call1_v0) (.of (T := ⟨S20480x1000, .f32⟩) main_call1_v1) (broadcastInDim S20480x1000 ![] bcast_S_S20480x1000),
    TRef.ternary (.of (T := ⟨S20480x1000, .i1⟩) main_v39) (.of (T := ⟨S20480x1000, .f32⟩) main_v35) (.of (T := ⟨S20480x1000, .f32⟩) main_call1_v1) (.of (T := ⟨S20480x1000, .f32⟩) main_v40) select,
    unary main_v40 main_v41 (Host.log : (⟨S20480x1000, .f32⟩ : BufTy).Contents (Elt F) → (⟨S20480x1000, .f32⟩ : BufTy).Contents (Elt F)),
    nullary main_cst_11 (constant S_ .f32 0xFF800000#32),
    TRef.unary (.of (T := ⟨S_, .f32⟩) main_cst_11) (.of (T := ⟨S_, .f32⟩) main_call2_v0) id,
    TRef.unary (.of (T := ⟨S_, .f32⟩) main_call2_v0) (.of (T := ⟨S20480x1000, .f32⟩) main_call2_v1) (broadcastInDim S20480x1000 ![] bcast_S_S20480x1000),
    TRef.ternary (.of (T := ⟨S20480x1000, .i1⟩) main_v37) (.of (T := ⟨S20480x1000, .f32⟩) main_v41) (.of (T := ⟨S20480x1000, .f32⟩) main_call2_v1) (.of (T := ⟨S20480x1000, .f32⟩) main_v42) select ]

/-- The counters and the key's words, up to the generator's first round. -/
abbrev opsCount : List (HloOp τ sig (Elt F)) :=
  [ TRef.nullary (.of (T := ⟨S_, .f32⟩) main_call3_cst) (constant S_ .f32 0x3F800000#32),
    TRef.nullary (.of (T := ⟨S_, .f32⟩) main_call3_cst_0) (constant S_ .f32 0x00800000#32),
    TRef.unary (.of (T := ⟨S_, .f32⟩) main_call3_cst) (.of (T := ⟨S_, .f32⟩) main_call3_call0_v0) id,
    TRef.unary (.of (T := ⟨S_, .f32⟩) main_call3_cst_0) (.of (T := ⟨S1x1, .f32⟩) main_call3_call0_v1) (broadcastInDim S1x1 ![] bcast_S_S1x1),
    TRef.unary (.of (T := ⟨S_, .f32⟩) main_call3_call0_v0) (.of (T := ⟨S1x1, .f32⟩) main_call3_call0_v2) (broadcastInDim S1x1 ![] bcast_S_S1x1),
    TRef.unary (.of (T := ⟨S2, .i32⟩) main_v14) (.of (T := ⟨S1, .i32⟩) main_call3_call0_v3) (extractStridedSlice S1 ![0] · slices_S2_S1_0),
    TRef.reshape (.of (T := ⟨S1, .i32⟩) main_call3_call0_v3) (.of (T := ⟨S_, .i32⟩) main_call3_call0_v4) (rfl : (.i32 : EltTy) = .i32) shapeCasts_S1_S_,
    TRef.unary (.of (T := ⟨S2, .i32⟩) main_v14) (.of (T := ⟨S1, .i32⟩) main_call3_call0_v5) (extractStridedSlice S1 ![1] · slices_S2_S1_1),
    TRef.reshape (.of (T := ⟨S1, .i32⟩) main_call3_call0_v5) (.of (T := ⟨S_, .i32⟩) main_call3_call0_v6) (rfl : (.i32 : EltTy) = .i32) shapeCasts_S1_S_,
    TRef.nullary (.of (T := ⟨S20480x1000, .i64⟩) main_call3_call0_v7) (iotaInDim S20480x1000 64 0),
    TRef.nullary (.of (T := ⟨S20480x1000, .i64⟩) main_call3_call0_v8) (iotaInDim S20480x1000 64 1),
    TRef.nullary (.of (T := ⟨S_, .i64⟩) main_call3_call0_c) (constantI S_ 64 1000#64),
    TRef.unary (.of (T := ⟨S_, .i64⟩) main_call3_call0_c) (.of (T := ⟨S20480x1000, .i64⟩) main_call3_call0_v9) (broadcastInDim S20480x1000 ![] bcast_S_S20480x1000),
    TRef.binary (.of (T := ⟨S20480x1000, .i64⟩) main_call3_call0_v9) (.of (T := ⟨S20480x1000, .i64⟩) main_call3_call0_v7) (.of (T := ⟨S20480x1000, .i64⟩) main_call3_call0_v10) muli,
    TRef.nullary (.of (T := ⟨S_, .i64⟩) main_call3_call0_c_0) (constantI S_ 64 1#64),
    TRef.unary (.of (T := ⟨S_, .i64⟩) main_call3_call0_c_0) (.of (T := ⟨S20480x1000, .i64⟩) main_call3_call0_v11) (broadcastInDim S20480x1000 ![] bcast_S_S20480x1000),
    TRef.binary (.of (T := ⟨S20480x1000, .i64⟩) main_call3_call0_v11) (.of (T := ⟨S20480x1000, .i64⟩) main_call3_call0_v8) (.of (T := ⟨S20480x1000, .i64⟩) main_call3_call0_v12) muli,
    TRef.binary (.of (T := ⟨S20480x1000, .i64⟩) main_call3_call0_v10) (.of (T := ⟨S20480x1000, .i64⟩) main_call3_call0_v12) (.of (T := ⟨S20480x1000, .i64⟩) main_call3_call0_v13) addi,
    TRef.nullary (.of (T := ⟨S_, .i64⟩) main_call3_call0_c_1) (constantI S_ 64 32#64),
    TRef.unary (.of (T := ⟨S_, .i64⟩) main_call3_call0_c_1) (.of (T := ⟨S20480x1000, .i64⟩) main_call3_call0_v14) (broadcastInDim S20480x1000 ![] bcast_S_S20480x1000),
    TRef.binary (.of (T := ⟨S20480x1000, .i64⟩) main_call3_call0_v13) (.of (T := ⟨S20480x1000, .i64⟩) main_call3_call0_v14) (.of (T := ⟨S20480x1000, .i64⟩) main_call3_call0_v15) Host.shrui,
    TRef.unary (.of (T := ⟨S20480x1000, .i64⟩) main_call3_call0_v13) (.of (T := ⟨S20480x1000, .i32⟩) main_call3_call0_v16) (trunci 32 · natLt_32_64),
    TRef.unary (.of (T := ⟨S20480x1000, .i64⟩) main_call3_call0_v15) (.of (T := ⟨S20480x1000, .i32⟩) main_call3_call0_v17) (trunci 32 · natLt_32_64),
    TRef.binary (.of (T := ⟨S_, .i32⟩) main_call3_call0_v4) (.of (T := ⟨S_, .i32⟩) main_call3_call0_v6) (.of (T := ⟨S_, .i32⟩) main_call3_call0_call0_v0) xori,
    TRef.nullary (.of (T := ⟨S_, .i32⟩) main_call3_call0_call0_c) (constantI S_ 32 466688986#32),
    TRef.binary (.of (T := ⟨S_, .i32⟩) main_call3_call0_call0_v0) (.of (T := ⟨S_, .i32⟩) main_call3_call0_call0_c) (.of (T := ⟨S_, .i32⟩) main_call3_call0_call0_v1) xori,
    TRef.unary (.of (T := ⟨S_, .i32⟩) main_call3_call0_v4) (.of (T := ⟨S20480x1000, .i32⟩) main_call3_call0_call0_v2) (broadcastInDim S20480x1000 ![] bcast_S_S20480x1000),
    TRef.binary (.of (T := ⟨S20480x1000, .i32⟩) main_call3_call0_v17) (.of (T := ⟨S20480x1000, .i32⟩) main_call3_call0_call0_v2) (.of (T := ⟨S20480x1000, .i32⟩) main_call3_call0_call0_v3) addi,
    TRef.unary (.of (T := ⟨S_, .i32⟩) main_call3_call0_v6) (.of (T := ⟨S20480x1000, .i32⟩) main_call3_call0_call0_v4) (broadcastInDim S20480x1000 ![] bcast_S_S20480x1000),
    TRef.binary (.of (T := ⟨S20480x1000, .i32⟩) main_call3_call0_v16) (.of (T := ⟨S20480x1000, .i32⟩) main_call3_call0_call0_v4) (.of (T := ⟨S20480x1000, .i32⟩) main_call3_call0_call0_v5) addi ]

/-- The generator's rounds 1 to 4 and the key injection after them. -/
abbrev opsGen0 : List (HloOp τ sig (Elt F)) :=
  tfRound bcast_S_S20480x1000 13#32 19#32 (.of main_call3_call0_call0_v3) (.of main_call3_call0_call0_v5) (.of main_call3_call0_call0_v6) (.of main_call3_call0_call0_c_0) (.of main_call3_call0_call0_v7) (.of main_call3_call0_call0_v8) (.of main_call3_call0_call0_c_1) (.of main_call3_call0_call0_v9) (.of main_call3_call0_call0_v10) (.of main_call3_call0_call0_v11) (.of main_call3_call0_call0_v12)
    ++ tfRound bcast_S_S20480x1000 15#32 17#32 (.of main_call3_call0_call0_v6) (.of main_call3_call0_call0_v12) (.of main_call3_call0_call0_v13) (.of main_call3_call0_call0_c_2) (.of main_call3_call0_call0_v14) (.of main_call3_call0_call0_v15) (.of main_call3_call0_call0_c_3) (.of main_call3_call0_call0_v16) (.of main_call3_call0_call0_v17) (.of main_call3_call0_call0_v18) (.of main_call3_call0_call0_v19)
    ++ tfRound bcast_S_S20480x1000 26#32 6#32 (.of main_call3_call0_call0_v13) (.of main_call3_call0_call0_v19) (.of main_call3_call0_call0_v20) (.of main_call3_call0_call0_c_4) (.of main_call3_call0_call0_v21) (.of main_call3_call0_call0_v22) (.of main_call3_call0_call0_c_5) (.of main_call3_call0_call0_v23) (.of main_call3_call0_call0_v24) (.of main_call3_call0_call0_v25) (.of main_call3_call0_call0_v26)
    ++ tfRound bcast_S_S20480x1000 6#32 26#32 (.of main_call3_call0_call0_v20) (.of main_call3_call0_call0_v26) (.of main_call3_call0_call0_v27) (.of main_call3_call0_call0_c_6) (.of main_call3_call0_call0_v28) (.of main_call3_call0_call0_v29) (.of main_call3_call0_call0_c_7) (.of main_call3_call0_call0_v30) (.of main_call3_call0_call0_v31) (.of main_call3_call0_call0_v32) (.of main_call3_call0_call0_v33)
    ++ tfInject bcast_S_S20480x1000 1#32 (.of main_call3_call0_v6) (.of main_call3_call0_call0_v1) (.of main_call3_call0_call0_v27) (.of main_call3_call0_call0_v33) (.of main_call3_call0_call0_v34) (.of main_call3_call0_call0_v35) (.of main_call3_call0_call0_v36) (.of main_call3_call0_call0_v37) (.of main_call3_call0_call0_c_8) (.of main_call3_call0_call0_v38) (.of main_call3_call0_call0_v39)

/-- The generator's rounds 5 to 8 and the key injection after them. -/
abbrev opsGen1 : List (HloOp τ sig (Elt F)) :=
  tfRound bcast_S_S20480x1000 17#32 15#32 (.of main_call3_call0_call0_v35) (.of main_call3_call0_call0_v39) (.of main_call3_call0_call0_v40) (.of main_call3_call0_call0_c_9) (.of main_call3_call0_call0_v41) (.of main_call3_call0_call0_v42) (.of main_call3_call0_call0_c_10) (.of main_call3_call0_call0_v43) (.of main_call3_call0_call0_v44) (.of main_call3_call0_call0_v45) (.of main_call3_call0_call0_v46)
    ++ tfRound bcast_S_S20480x1000 29#32 3#32 (.of main_call3_call0_call0_v40) (.of main_call3_call0_call0_v46) (.of main_call3_call0_call0_v47) (.of main_call3_call0_call0_c_11) (.of main_call3_call0_call0_v48) (.of main_call3_call0_call0_v49) (.of main_call3_call0_call0_c_12) (.of main_call3_call0_call0_v50) (.of main_call3_call0_call0_v51) (.of main_call3_call0_call0_v52) (.of main_call3_call0_call0_v53)
    ++ tfRound bcast_S_S20480x1000 16#32 16#32 (.of main_call3_call0_call0_v47) (.of main_call3_call0_call0_v53) (.of main_call3_call0_call0_v54) (.of main_call3_call0_call0_c_13) (.of main_call3_call0_call0_v55) (.of main_call3_call0_call0_v56) (.of main_call3_call0_call0_c_14) (.of main_call3_call0_call0_v57) (.of main_call3_call0_call0_v58) (.of main_call3_call0_call0_v59) (.of main_call3_call0_call0_v60)
    ++ tfRound bcast_S_S20480x1000 24#32 8#32 (.of main_call3_call0_call0_v54) (.of main_call3_call0_call0_v60) (.of main_call3_call0_call0_v61) (.of main_call3_call0_call0_c_15) (.of main_call3_call0_call0_v62) (.of main_call3_call0_call0_v63) (.of main_call3_call0_call0_c_16) (.of main_call3_call0_call0_v64) (.of main_call3_call0_call0_v65) (.of main_call3_call0_call0_v66) (.of main_call3_call0_call0_v67)
    ++ tfInject bcast_S_S20480x1000 2#32 (.of main_call3_call0_call0_v1) (.of main_call3_call0_v4) (.of main_call3_call0_call0_v61) (.of main_call3_call0_call0_v67) (.of main_call3_call0_call0_v68) (.of main_call3_call0_call0_v69) (.of main_call3_call0_call0_v70) (.of main_call3_call0_call0_v71) (.of main_call3_call0_call0_c_17) (.of main_call3_call0_call0_v72) (.of main_call3_call0_call0_v73)

/-- The generator's rounds 9 to 12 and the key injection after them. -/
abbrev opsGen2 : List (HloOp τ sig (Elt F)) :=
  tfRound bcast_S_S20480x1000 13#32 19#32 (.of main_call3_call0_call0_v69) (.of main_call3_call0_call0_v73) (.of main_call3_call0_call0_v74) (.of main_call3_call0_call0_c_18) (.of main_call3_call0_call0_v75) (.of main_call3_call0_call0_v76) (.of main_call3_call0_call0_c_19) (.of main_call3_call0_call0_v77) (.of main_call3_call0_call0_v78) (.of main_call3_call0_call0_v79) (.of main_call3_call0_call0_v80)
    ++ tfRound bcast_S_S20480x1000 15#32 17#32 (.of main_call3_call0_call0_v74) (.of main_call3_call0_call0_v80) (.of main_call3_call0_call0_v81) (.of main_call3_call0_call0_c_20) (.of main_call3_call0_call0_v82) (.of main_call3_call0_call0_v83) (.of main_call3_call0_call0_c_21) (.of main_call3_call0_call0_v84) (.of main_call3_call0_call0_v85) (.of main_call3_call0_call0_v86) (.of main_call3_call0_call0_v87)
    ++ tfRound bcast_S_S20480x1000 26#32 6#32 (.of main_call3_call0_call0_v81) (.of main_call3_call0_call0_v87) (.of main_call3_call0_call0_v88) (.of main_call3_call0_call0_c_22) (.of main_call3_call0_call0_v89) (.of main_call3_call0_call0_v90) (.of main_call3_call0_call0_c_23) (.of main_call3_call0_call0_v91) (.of main_call3_call0_call0_v92) (.of main_call3_call0_call0_v93) (.of main_call3_call0_call0_v94)
    ++ tfRound bcast_S_S20480x1000 6#32 26#32 (.of main_call3_call0_call0_v88) (.of main_call3_call0_call0_v94) (.of main_call3_call0_call0_v95) (.of main_call3_call0_call0_c_24) (.of main_call3_call0_call0_v96) (.of main_call3_call0_call0_v97) (.of main_call3_call0_call0_c_25) (.of main_call3_call0_call0_v98) (.of main_call3_call0_call0_v99) (.of main_call3_call0_call0_v100) (.of main_call3_call0_call0_v101)
    ++ tfInject bcast_S_S20480x1000 3#32 (.of main_call3_call0_v4) (.of main_call3_call0_v6) (.of main_call3_call0_call0_v95) (.of main_call3_call0_call0_v101) (.of main_call3_call0_call0_v102) (.of main_call3_call0_call0_v103) (.of main_call3_call0_call0_v104) (.of main_call3_call0_call0_v105) (.of main_call3_call0_call0_c_26) (.of main_call3_call0_call0_v106) (.of main_call3_call0_call0_v107)

/-- The generator's rounds 13 to 16 and the key injection after them. -/
abbrev opsGen3 : List (HloOp τ sig (Elt F)) :=
  tfRound bcast_S_S20480x1000 17#32 15#32 (.of main_call3_call0_call0_v103) (.of main_call3_call0_call0_v107) (.of main_call3_call0_call0_v108) (.of main_call3_call0_call0_c_27) (.of main_call3_call0_call0_v109) (.of main_call3_call0_call0_v110) (.of main_call3_call0_call0_c_28) (.of main_call3_call0_call0_v111) (.of main_call3_call0_call0_v112) (.of main_call3_call0_call0_v113) (.of main_call3_call0_call0_v114)
    ++ tfRound bcast_S_S20480x1000 29#32 3#32 (.of main_call3_call0_call0_v108) (.of main_call3_call0_call0_v114) (.of main_call3_call0_call0_v115) (.of main_call3_call0_call0_c_29) (.of main_call3_call0_call0_v116) (.of main_call3_call0_call0_v117) (.of main_call3_call0_call0_c_30) (.of main_call3_call0_call0_v118) (.of main_call3_call0_call0_v119) (.of main_call3_call0_call0_v120) (.of main_call3_call0_call0_v121)
    ++ tfRound bcast_S_S20480x1000 16#32 16#32 (.of main_call3_call0_call0_v115) (.of main_call3_call0_call0_v121) (.of main_call3_call0_call0_v122) (.of main_call3_call0_call0_c_31) (.of main_call3_call0_call0_v123) (.of main_call3_call0_call0_v124) (.of main_call3_call0_call0_c_32) (.of main_call3_call0_call0_v125) (.of main_call3_call0_call0_v126) (.of main_call3_call0_call0_v127) (.of main_call3_call0_call0_v128)
    ++ tfRound bcast_S_S20480x1000 24#32 8#32 (.of main_call3_call0_call0_v122) (.of main_call3_call0_call0_v128) (.of main_call3_call0_call0_v129) (.of main_call3_call0_call0_c_33) (.of main_call3_call0_call0_v130) (.of main_call3_call0_call0_v131) (.of main_call3_call0_call0_c_34) (.of main_call3_call0_call0_v132) (.of main_call3_call0_call0_v133) (.of main_call3_call0_call0_v134) (.of main_call3_call0_call0_v135)
    ++ tfInject bcast_S_S20480x1000 4#32 (.of main_call3_call0_v6) (.of main_call3_call0_call0_v1) (.of main_call3_call0_call0_v129) (.of main_call3_call0_call0_v135) (.of main_call3_call0_call0_v136) (.of main_call3_call0_call0_v137) (.of main_call3_call0_call0_v138) (.of main_call3_call0_call0_v139) (.of main_call3_call0_call0_c_35) (.of main_call3_call0_call0_v140) (.of main_call3_call0_call0_v141)

/-- The generator's rounds 17 to 20 and the key injection after them. -/
abbrev opsGen4 : List (HloOp τ sig (Elt F)) :=
  tfRound bcast_S_S20480x1000 13#32 19#32 (.of main_call3_call0_call0_v137) (.of main_call3_call0_call0_v141) (.of main_call3_call0_call0_v142) (.of main_call3_call0_call0_c_36) (.of main_call3_call0_call0_v143) (.of main_call3_call0_call0_v144) (.of main_call3_call0_call0_c_37) (.of main_call3_call0_call0_v145) (.of main_call3_call0_call0_v146) (.of main_call3_call0_call0_v147) (.of main_call3_call0_call0_v148)
    ++ tfRound bcast_S_S20480x1000 15#32 17#32 (.of main_call3_call0_call0_v142) (.of main_call3_call0_call0_v148) (.of main_call3_call0_call0_v149) (.of main_call3_call0_call0_c_38) (.of main_call3_call0_call0_v150) (.of main_call3_call0_call0_v151) (.of main_call3_call0_call0_c_39) (.of main_call3_call0_call0_v152) (.of main_call3_call0_call0_v153) (.of main_call3_call0_call0_v154) (.of main_call3_call0_call0_v155)
    ++ tfRound bcast_S_S20480x1000 26#32 6#32 (.of main_call3_call0_call0_v149) (.of main_call3_call0_call0_v155) (.of main_call3_call0_call0_v156) (.of main_call3_call0_call0_c_40) (.of main_call3_call0_call0_v157) (.of main_call3_call0_call0_v158) (.of main_call3_call0_call0_c_41) (.of main_call3_call0_call0_v159) (.of main_call3_call0_call0_v160) (.of main_call3_call0_call0_v161) (.of main_call3_call0_call0_v162)
    ++ tfRound bcast_S_S20480x1000 6#32 26#32 (.of main_call3_call0_call0_v156) (.of main_call3_call0_call0_v162) (.of main_call3_call0_call0_v163) (.of main_call3_call0_call0_c_42) (.of main_call3_call0_call0_v164) (.of main_call3_call0_call0_v165) (.of main_call3_call0_call0_c_43) (.of main_call3_call0_call0_v166) (.of main_call3_call0_call0_v167) (.of main_call3_call0_call0_v168) (.of main_call3_call0_call0_v169)
    ++ tfInject bcast_S_S20480x1000 5#32 (.of main_call3_call0_call0_v1) (.of main_call3_call0_v4) (.of main_call3_call0_call0_v163) (.of main_call3_call0_call0_v169) (.of main_call3_call0_call0_v170) (.of main_call3_call0_v18_0) (.of main_call3_call0_call0_v172) (.of main_call3_call0_call0_v173) (.of main_call3_call0_call0_c_44) (.of main_call3_call0_call0_v174) (.of main_call3_call0_v18_1)

/-- Words to noise: a fraction of the low bits, then minus the logarithm of minus the logarithm. -/
abbrev opsBits : List (HloOp τ sig (Elt F)) :=
  [ TRef.binary (.of (T := ⟨S20480x1000, .i32⟩) main_call3_call0_v18_0) (.of (T := ⟨S20480x1000, .i32⟩) main_call3_call0_v18_1) (.of (T := ⟨S20480x1000, .i32⟩) main_call3_call0_v19) xori,
    TRef.nullary (.of (T := ⟨S_, .i32⟩) main_call3_call0_c_2) (constantI S_ 32 9#32),
    TRef.unary (.of (T := ⟨S_, .i32⟩) main_call3_call0_c_2) (.of (T := ⟨S20480x1000, .i32⟩) main_call3_call0_v20) (broadcastInDim S20480x1000 ![] bcast_S_S20480x1000),
    TRef.binary (.of (T := ⟨S20480x1000, .i32⟩) main_call3_call0_v19) (.of (T := ⟨S20480x1000, .i32⟩) main_call3_call0_v20) (.of (T := ⟨S20480x1000, .i32⟩) main_call3_call0_v21) Host.shrui,
    TRef.nullary (.of (T := ⟨S_, .i32⟩) main_call3_call0_c_3) (constantI S_ 32 1065353216#32),
    TRef.unary (.of (T := ⟨S_, .i32⟩) main_call3_call0_c_3) (.of (T := ⟨S20480x1000, .i32⟩) main_call3_call0_v22) (broadcastInDim S20480x1000 ![] bcast_S_S20480x1000),
    TRef.binary (.of (T := ⟨S20480x1000, .i32⟩) main_call3_call0_v21) (.of (T := ⟨S20480x1000, .i32⟩) main_call3_call0_v22) (.of (T := ⟨S20480x1000, .i32⟩) main_call3_call0_v23) ori,
    TRef.unary (.of (T := ⟨S20480x1000, .i32⟩) main_call3_call0_v23) (.of (T := ⟨S20480x1000, .f32⟩) main_call3_call0_v24) (bitcastToFloat (F := F) .f32),
    TRef.nullary (.of (T := ⟨S_, .f32⟩) main_call3_call0_cst) (constant S_ .f32 0x3F800000#32),
    TRef.unary (.of (T := ⟨S_, .f32⟩) main_call3_call0_cst) (.of (T := ⟨S20480x1000, .f32⟩) main_call3_call0_v25) (broadcastInDim S20480x1000 ![] bcast_S_S20480x1000),
    TRef.binary (.of (T := ⟨S20480x1000, .f32⟩) main_call3_call0_v24) (.of (T := ⟨S20480x1000, .f32⟩) main_call3_call0_v25) (.of (T := ⟨S20480x1000, .f32⟩) main_call3_call0_v26) subf,
    TRef.binary (.of (T := ⟨S1x1, .f32⟩) main_call3_call0_v2) (.of (T := ⟨S1x1, .f32⟩) main_call3_call0_v1) (.of (T := ⟨S1x1, .f32⟩) main_call3_call0_v27) subf,
    TRef.unary (.of (T := ⟨S1x1, .f32⟩) main_call3_call0_v27) (.of (T := ⟨S20480x1000, .f32⟩) main_call3_call0_v28) (broadcastInDim S20480x1000 ![0, 1] bcast_S1x1_S20480x1000_0_1),
    TRef.binary (.of (T := ⟨S20480x1000, .f32⟩) main_call3_call0_v26) (.of (T := ⟨S20480x1000, .f32⟩) main_call3_call0_v28) (.of (T := ⟨S20480x1000, .f32⟩) main_call3_call0_v29) mulf,
    TRef.unary (.of (T := ⟨S1x1, .f32⟩) main_call3_call0_v1) (.of (T := ⟨S20480x1000, .f32⟩) main_call3_call0_v30) (broadcastInDim S20480x1000 ![0, 1] bcast_S1x1_S20480x1000_0_1),
    TRef.binary (.of (T := ⟨S20480x1000, .f32⟩) main_call3_call0_v29) (.of (T := ⟨S20480x1000, .f32⟩) main_call3_call0_v30) (.of (T := ⟨S20480x1000, .f32⟩) main_call3_call0_v31) addf,
    TRef.unary (.of (T := ⟨S1x1, .f32⟩) main_call3_call0_v1) (.of (T := ⟨S20480x1000, .f32⟩) main_call3_call0_v32) (broadcastInDim S20480x1000 ![0, 1] bcast_S1x1_S20480x1000_0_1),
    TRef.binary (.of (T := ⟨S20480x1000, .f32⟩) main_call3_call0_v32) (.of (T := ⟨S20480x1000, .f32⟩) main_call3_call0_v31) (.of (T := ⟨S20480x1000, .f32⟩) main_call3_v0) maximumf,
    TRef.unary (.of (T := ⟨S20480x1000, .f32⟩) main_call3_v0) (.of (T := ⟨S20480x1000, .f32⟩) main_call3_v1) Host.log,
    TRef.unary (.of (T := ⟨S20480x1000, .f32⟩) main_call3_v1) (.of (T := ⟨S20480x1000, .f32⟩) main_call3_v2) Host.negf,
    TRef.unary (.of (T := ⟨S20480x1000, .f32⟩) main_call3_v2) (.of (T := ⟨S20480x1000, .f32⟩) main_call3_v3) Host.log,
    TRef.unary (.of (T := ⟨S20480x1000, .f32⟩) main_call3_v3) (.of (T := ⟨S20480x1000, .f32⟩) main_v43) Host.negf ]

/-- The perturbed logits and the values of the best five. -/
abbrev opsTop : List (HloOp τ sig (Elt F)) :=
  [ binary main_v42 main_v43 main_v44 (addf : (⟨S20480x1000, .f32⟩ : BufTy).Contents (Elt F) → (⟨S20480x1000, .f32⟩ : BufTy).Contents (Elt F) → (⟨S20480x1000, .f32⟩ : BufTy).Contents (Elt F)),
    unary main_v44 main_values ((fun x => (Host.topK S20480x5 1 (FloatOps.cmpfTotal .gt) x sliceFits_S20480x1000_S20480x5).1) : (⟨S20480x1000, .f32⟩ : BufTy).Contents (Elt F) → (⟨S20480x5, .f32⟩ : BufTy).Contents (Elt F)) ]

/-- The best five's rows and their products, and the positives' sign change. -/
abbrev opsNeg : List (HloOp τ sig (Elt F)) :=
  [ unary main_v44 main_indices ((fun x => (Host.topK S20480x5 1 (FloatOps.cmpfTotal .gt) x sliceFits_S20480x1000_S20480x5).2) : (⟨S20480x1000, .f32⟩ : BufTy).Contents (Elt F) → (⟨S20480x5, .i32⟩ : BufTy).Contents (Elt F)),
    reshape main_indices main_v45 (rfl : (.i32 : EltTy) = .i32) shapeCasts_S20480x5_S1024x5x4x5,
    TRef.nullary (.of (T := ⟨S_, .i32⟩) main_call4_c) (constantI S_ 32 0#32),
    TRef.unary (.of (T := ⟨S_, .i32⟩) main_call4_c) (.of (T := ⟨S1024x5x4x5, .i32⟩) main_call4_v0) (broadcastInDim S1024x5x4x5 ![] bcast_S_S1024x5x4x5),
    TRef.binary (.of (T := ⟨S1024x5x4x5, .i32⟩) main_v45) (.of (T := ⟨S1024x5x4x5, .i32⟩) main_call4_v0) (.of (T := ⟨S1024x5x4x5, .i1⟩) main_call4_v1) (cmpi .slt),
    TRef.nullary (.of (T := ⟨S_, .i32⟩) main_call4_c_0) (constantI S_ 32 1000#32),
    TRef.unary (.of (T := ⟨S_, .i32⟩) main_call4_c_0) (.of (T := ⟨S1024x5x4x5, .i32⟩) main_call4_v2) (broadcastInDim S1024x5x4x5 ![] bcast_S_S1024x5x4x5),
    TRef.binary (.of (T := ⟨S1024x5x4x5, .i32⟩) main_v45) (.of (T := ⟨S1024x5x4x5, .i32⟩) main_call4_v2) (.of (T := ⟨S1024x5x4x5, .i32⟩) main_call4_v3) addi,
    TRef.ternary (.of (T := ⟨S1024x5x4x5, .i1⟩) main_call4_v1) (.of (T := ⟨S1024x5x4x5, .i32⟩) main_call4_v3) (.of (T := ⟨S1024x5x4x5, .i32⟩) main_v45) (.of (T := ⟨S1024x5x4x5, .i32⟩) main_call4_v4) select,
    TRef.unary (.of (T := ⟨S1024x5x4x5, .i32⟩) main_call4_v4) (.of (T := ⟨S1024x5x4x5x1, .i32⟩) main_call4_v5) (broadcastInDim S1024x5x4x5x1 ![0, 1, 2, 3] bcast_S1024x5x4x5_S1024x5x4x5x1_0_1_2_3),
    TRef.nullary (.of (T := ⟨S1, .i32⟩) main_call4_c_1) (constantI S1 32 999#32),
    TRef.nullary (.of (T := ⟨S_, .i32⟩) main_call4_c_2) (constantI S_ 32 0#32),
    TRef.unary (.of (T := ⟨S_, .i32⟩) main_call4_c_2) (.of (T := ⟨S1024x5x4x5x1, .i32⟩) main_call4_v6) (broadcastInDim S1024x5x4x5x1 ![] bcast_S_S1024x5x4x5x1),
    TRef.binary (.of (T := ⟨S1024x5x4x5x1, .i32⟩) main_call4_v5) (.of (T := ⟨S1024x5x4x5x1, .i32⟩) main_call4_v6) (.of (T := ⟨S1024x5x4x5x1, .i1⟩) main_call4_v7) (cmpi .sge),
    TRef.unary (.of (T := ⟨S1, .i32⟩) main_call4_c_1) (.of (T := ⟨S1x1x1x1x1, .i32⟩) main_call4_v8) (broadcastInDim S1x1x1x1x1 ![4] bcast_S1_S1x1x1x1x1_4),
    TRef.unary (.of (T := ⟨S1x1x1x1x1, .i32⟩) main_call4_v8) (.of (T := ⟨S1024x5x4x5x1, .i32⟩) main_call4_v9) (broadcastInDim S1024x5x4x5x1 ![0, 1, 2, 3, 4] bcast_S1x1x1x1x1_S1024x5x4x5x1_0_1_2_3_4),
    TRef.binary (.of (T := ⟨S1024x5x4x5x1, .i32⟩) main_call4_v5) (.of (T := ⟨S1024x5x4x5x1, .i32⟩) main_call4_v9) (.of (T := ⟨S1024x5x4x5x1, .i1⟩) main_call4_v10) (cmpi .sle),
    TRef.binary (.of (T := ⟨S1024x5x4x5x1, .i1⟩) main_call4_v7) (.of (T := ⟨S1024x5x4x5x1, .i1⟩) main_call4_v10) (.of (T := ⟨S1024x5x4x5x1, .i1⟩) main_call4_v11) andi,
    TRef.nullary (.of (T := ⟨S_, .i1⟩) main_call4_c_3) (constantI S_ 1 1#1),
    TRef.binary (.of (T := ⟨S1024x5x4x5x1, .i1⟩) main_call4_v11) (.of (T := ⟨S_, .i1⟩) main_call4_c_3) (.of (T := ⟨S1024x5x4x5, .i1⟩) main_call4_v12) (fun x v => Host.reduce IntOp.andi x v reducesTo_S1024x5x4x5x1_S1024x5x4x5_d4 h_S_),
    TRef.binary (.of (T := ⟨S1000x128, .f32⟩) main_arg2) (.of (T := ⟨S1024x5x4x5x1, .i32⟩) main_call4_v5) (.of (T := ⟨S1024x5x4x5x128, .f32⟩) main_call4_v13) (fun x i => Host.gather gather_S1000x128_S1024x5x4x5x1_S1024x5x4x5x128_4_0_n_n_0_4_1128 x i),
    TRef.unary (.of (T := ⟨S1024x5x4x5, .i1⟩) main_call4_v12) (.of (T := ⟨S1024x5x4x5x128, .i1⟩) main_call4_v14) (broadcastInDim S1024x5x4x5x128 ![0, 1, 2, 3] bcast_S1024x5x4x5_S1024x5x4x5x128_0_1_2_3),
    TRef.nullary (.of (T := ⟨S_, .f32⟩) main_call4_cst) (constant S_ .f32 0x7FC00000#32),
    TRef.unary (.of (T := ⟨S_, .f32⟩) main_call4_cst) (.of (T := ⟨S1024x5x4x5x128, .f32⟩) main_call4_v15) (broadcastInDim S1024x5x4x5x128 ![] bcast_S_S1024x5x4x5x128),
    TRef.ternary (.of (T := ⟨S1024x5x4x5x128, .i1⟩) main_call4_v14) (.of (T := ⟨S1024x5x4x5x128, .f32⟩) main_call4_v13) (.of (T := ⟨S1024x5x4x5x128, .f32⟩) main_call4_v15) (.of (T := ⟨S1024x5x4x5x128, .f32⟩) main_v46) select,
    binary main_arg0 main_v46 main_v47 ((fun l r => Host.dotGeneral dot_S1024x5x4x128_S1024x5x4x5x128_S1024x5x4x5_3_4_n_3_012_012 none l r) : (⟨S1024x5x4x128, .f32⟩ : BufTy).Contents (Elt F) → (⟨S1024x5x4x5x128, .f32⟩ : BufTy).Contents (Elt F) → (⟨S1024x5x4x5, .f32⟩ : BufTy).Contents (Elt F)),
    unary main_v7 main_v48 (Host.negf : (⟨S1024x5x4, .f32⟩ : BufTy).Contents (Elt F) → (⟨S1024x5x4, .f32⟩ : BufTy).Contents (Elt F)) ]

/-- The two sums of softplus and the loss. -/
abbrev opsLoss : List (HloOp τ sig (Elt F)) :=
  [ TRef.nullary (.of (T := ⟨S_, .f32⟩) main_call5_cst) (constant S_ .f32 0x00000000#32),
    TRef.unary (.of (T := ⟨S_, .f32⟩) main_call5_cst) (.of (T := ⟨S1024x5x4, .f32⟩) main_call5_v0) (broadcastInDim S1024x5x4 ![] bcast_S_S1024x5x4),
    TRef.binary (.of (T := ⟨S1024x5x4, .f32⟩) main_v48) (.of (T := ⟨S1024x5x4, .f32⟩) main_call5_v0) (.of (T := ⟨S1024x5x4, .f32⟩) main_call5_v1) maximumf,
    TRef.unary (.of (T := ⟨S_, .f32⟩) main_call5_cst) (.of (T := ⟨S1024x5x4, .f32⟩) main_call5_v2) (broadcastInDim S1024x5x4 ![] bcast_S_S1024x5x4),
    TRef.binary (.of (T := ⟨S1024x5x4, .f32⟩) main_v48) (.of (T := ⟨S1024x5x4, .f32⟩) main_call5_v2) (.of (T := ⟨S1024x5x4, .f32⟩) main_call5_v3) subf,
    TRef.binary (.of (T := ⟨S1024x5x4, .f32⟩) main_call5_v3) (.of (T := ⟨S1024x5x4, .f32⟩) main_call5_v3) (.of (T := ⟨S1024x5x4, .i1⟩) main_call5_v4) (cmpf .une),
    TRef.unary (.of (T := ⟨S_, .f32⟩) main_call5_cst) (.of (T := ⟨S1024x5x4, .f32⟩) main_call5_v5) (broadcastInDim S1024x5x4 ![] bcast_S_S1024x5x4),
    TRef.binary (.of (T := ⟨S1024x5x4, .f32⟩) main_v48) (.of (T := ⟨S1024x5x4, .f32⟩) main_call5_v5) (.of (T := ⟨S1024x5x4, .f32⟩) main_call5_v6) addf,
    TRef.unary (.of (T := ⟨S1024x5x4, .f32⟩) main_call5_v3) (.of (T := ⟨S1024x5x4, .f32⟩) main_call5_v7) Host.absf,
    TRef.unary (.of (T := ⟨S1024x5x4, .f32⟩) main_call5_v7) (.of (T := ⟨S1024x5x4, .f32⟩) main_call5_v8) Host.negf,
    TRef.unary (.of (T := ⟨S1024x5x4, .f32⟩) main_call5_v8) (.of (T := ⟨S1024x5x4, .f32⟩) main_call5_v9) Host.exp,
    TRef.unary (.of (T := ⟨S1024x5x4, .f32⟩) main_call5_v9) (.of (T := ⟨S1024x5x4, .f32⟩) main_call5_v10) Host.log1p,
    TRef.binary (.of (T := ⟨S1024x5x4, .f32⟩) main_call5_v1) (.of (T := ⟨S1024x5x4, .f32⟩) main_call5_v10) (.of (T := ⟨S1024x5x4, .f32⟩) main_call5_v11) addf,
    TRef.ternary (.of (T := ⟨S1024x5x4, .i1⟩) main_call5_v4) (.of (T := ⟨S1024x5x4, .f32⟩) main_call5_v6) (.of (T := ⟨S1024x5x4, .f32⟩) main_call5_v11) (.of (T := ⟨S1024x5x4, .f32⟩) main_v49) select,
    nullary main_cst_12 (constant S_ .f32 0x00000000#32),
    binary main_v49 main_cst_12 main_v50 ((fun x v => Host.reduceAdd x v reducesTo_S1024x5x4_S_d0_1_2 h_S_) : (⟨S1024x5x4, .f32⟩ : BufTy).Contents (Elt F) → (⟨S_, .f32⟩ : BufTy).Contents (Elt F) → (⟨S_, .f32⟩ : BufTy).Contents (Elt F)),
    TRef.nullary (.of (T := ⟨S_, .f32⟩) main_call6_cst) (constant S_ .f32 0x00000000#32),
    TRef.unary (.of (T := ⟨S_, .f32⟩) main_call6_cst) (.of (T := ⟨S1024x5x4x5, .f32⟩) main_call6_v0) (broadcastInDim S1024x5x4x5 ![] bcast_S_S1024x5x4x5),
    TRef.binary (.of (T := ⟨S1024x5x4x5, .f32⟩) main_v47) (.of (T := ⟨S1024x5x4x5, .f32⟩) main_call6_v0) (.of (T := ⟨S1024x5x4x5, .f32⟩) main_call6_v1) maximumf,
    TRef.unary (.of (T := ⟨S_, .f32⟩) main_call6_cst) (.of (T := ⟨S1024x5x4x5, .f32⟩) main_call6_v2) (broadcastInDim S1024x5x4x5 ![] bcast_S_S1024x5x4x5),
    TRef.binary (.of (T := ⟨S1024x5x4x5, .f32⟩) main_v47) (.of (T := ⟨S1024x5x4x5, .f32⟩) main_call6_v2) (.of (T := ⟨S1024x5x4x5, .f32⟩) main_call6_v3) subf,
    TRef.binary (.of (T := ⟨S1024x5x4x5, .f32⟩) main_call6_v3) (.of (T := ⟨S1024x5x4x5, .f32⟩) main_call6_v3) (.of (T := ⟨S1024x5x4x5, .i1⟩) main_call6_v4) (cmpf .une),
    TRef.unary (.of (T := ⟨S_, .f32⟩) main_call6_cst) (.of (T := ⟨S1024x5x4x5, .f32⟩) main_call6_v5) (broadcastInDim S1024x5x4x5 ![] bcast_S_S1024x5x4x5),
    TRef.binary (.of (T := ⟨S1024x5x4x5, .f32⟩) main_v47) (.of (T := ⟨S1024x5x4x5, .f32⟩) main_call6_v5) (.of (T := ⟨S1024x5x4x5, .f32⟩) main_call6_v6) addf,
    TRef.unary (.of (T := ⟨S1024x5x4x5, .f32⟩) main_call6_v3) (.of (T := ⟨S1024x5x4x5, .f32⟩) main_call6_v7) Host.absf,
    TRef.unary (.of (T := ⟨S1024x5x4x5, .f32⟩) main_call6_v7) (.of (T := ⟨S1024x5x4x5, .f32⟩) main_call6_v8) Host.negf,
    TRef.unary (.of (T := ⟨S1024x5x4x5, .f32⟩) main_call6_v8) (.of (T := ⟨S1024x5x4x5, .f32⟩) main_call6_v9) Host.exp,
    TRef.unary (.of (T := ⟨S1024x5x4x5, .f32⟩) main_call6_v9) (.of (T := ⟨S1024x5x4x5, .f32⟩) main_call6_v10) Host.log1p,
    TRef.binary (.of (T := ⟨S1024x5x4x5, .f32⟩) main_call6_v1) (.of (T := ⟨S1024x5x4x5, .f32⟩) main_call6_v10) (.of (T := ⟨S1024x5x4x5, .f32⟩) main_call6_v11) addf,
    TRef.ternary (.of (T := ⟨S1024x5x4x5, .i1⟩) main_call6_v4) (.of (T := ⟨S1024x5x4x5, .f32⟩) main_call6_v6) (.of (T := ⟨S1024x5x4x5, .f32⟩) main_call6_v11) (.of (T := ⟨S1024x5x4x5, .f32⟩) main_v51) select,
    nullary main_cst_13 (constant S_ .f32 0x00000000#32),
    binary main_v51 main_cst_13 main_v52 ((fun x v => Host.reduceAdd x v reducesTo_S1024x5x4x5_S_d0_1_2_3 h_S_) : (⟨S1024x5x4x5, .f32⟩ : BufTy).Contents (Elt F) → (⟨S_, .f32⟩ : BufTy).Contents (Elt F) → (⟨S_, .f32⟩ : BufTy).Contents (Elt F)),
    nullary main_cst_14 (constant S_ .f32 0x44800000#32),
    binary main_v52 main_cst_14 main_v53 (Host.divf : (⟨S_, .f32⟩ : BufTy).Contents (Elt F) → (⟨S_, .f32⟩ : BufTy).Contents (Elt F) → (⟨S_, .f32⟩ : BufTy).Contents (Elt F)),
    binary main_v50 main_v53 main_v54 (addf : (⟨S_, .f32⟩ : BufTy).Contents (Elt F) → (⟨S_, .f32⟩ : BufTy).Contents (Elt F) → (⟨S_, .f32⟩ : BufTy).Contents (Elt F)) ]

/-- The operations of @main's first part. -/
def ops0 : List (HloOp τ sig (Elt F)) :=
  opsPos ++ (opsLogit ++ (opsCount ++ (opsGen0 ++ (opsGen1 ++ (opsGen2 ++ (opsGen3 ++ (opsGen4 ++ (opsBits ++ opsTop))))))))
/-- The operations of @main's second part. -/
def ops1 : List (HloOp τ sig (Elt F)) := opsNeg ++ opsLoss

set_option maxHeartbeats 40000000 in
set_option maxRecDepth 40000 in
theorem main_part0_eq (c : Dev nD) : main_part0 (F := F) c = seq ops0 := rfl
set_option maxHeartbeats 40000000 in
set_option maxRecDepth 40000 in
theorem main_part1_eq (c : Dev nD) : main_part1 (F := F) c = seq ops1 := rfl

/-- @main is its operations in order. -/
theorem main_eq (c : Dev nD) : main (F := F) c = seq (ops0 ++ ops1) := by
  show (main_part0 c >>= fun _ => main_part1 c) = _
  rw [main_part0_eq, main_part1_eq, seq_append]

end Cert.RefRun

end
-- ==== Proof.RefKeep.lean ====
/-
  What each stretch of the reference leaves alone, and the reference's run.

  The stretches write buffers in order of their numbers, so a stretch leaves every buffer whose number lies outside its range.
-/
module

public import proofs.«01_k».proof.Proof.RefRun
public import Idealize.ShloMosaic.Lib.Quiescent

@[expose] public section

set_option maxRecDepth 20000
set_option maxHeartbeats 4000000

noncomputable section

namespace Cert.RefRun

open Cert.ReferenceIdeal Cert.ReferenceIdeal.Gen Idealize.ShloMosaic Idealize.ShloMosaic.TcCoe Idealize.SL.Sem Idealize.ShloMosaic.StableHlo Cert.Noise

variable {F : FTy → Type} [FloatOps F]

theorem opsPos_tidy : Tidy 4 36 (opsPos (F := F)) := by
  simp only [tidy_cons, tidy_nil, TRef.nullary, TRef.unary, TRef.binary, TRef.ternary, TRef.reshape, tidy_nullary, tidy_unary, tidy_binary, tidy_ternary,
    tidy_reshape]
  and_intros <;> decide
theorem opsLogit_tidy : Tidy 36 87 (opsLogit (F := F)) := by
  simp only [tidy_cons, tidy_nil, TRef.nullary, TRef.unary, TRef.binary, TRef.ternary, TRef.reshape, tidy_nullary, tidy_unary, tidy_binary, tidy_ternary,
    tidy_reshape]
  and_intros <;> decide
theorem opsCount_tidy : Tidy 87 117 (opsCount (F := F)) := by
  simp only [tidy_cons, tidy_nil, TRef.nullary, TRef.unary, TRef.binary, TRef.ternary, TRef.reshape, tidy_nullary, tidy_unary, tidy_binary, tidy_ternary,
    tidy_reshape]
  and_intros <;> decide
/-- The generator's twenty rounds. -/
def opsGen : List (HloOp τ sig (Elt F)) := opsGen0 ++ (opsGen1 ++ (opsGen2 ++ (opsGen3 ++ opsGen4)))
theorem opsGen_tidy : Tidy 117 332 (opsGen (F := F)) := by
  simp only [opsGen, opsGen0, opsGen1, opsGen2, opsGen3, opsGen4, tfRound, tfInject, List.cons_append, List.nil_append, tidy_cons, tidy_nil, TRef.nullary, TRef.unary, TRef.binary, TRef.ternary, TRef.reshape, tidy_nullary, tidy_unary, tidy_binary, tidy_ternary,
    tidy_reshape]
  and_intros <;> decide
theorem opsBits_tidy : Tidy 332 354 (opsBits (F := F)) := by
  simp only [tidy_cons, tidy_nil, TRef.nullary, TRef.unary, TRef.binary, TRef.ternary, TRef.reshape, tidy_nullary, tidy_unary, tidy_binary, tidy_ternary,
    tidy_reshape]
  and_intros <;> decide
theorem opsTop_tidy : Tidy 354 356 (opsTop (F := F)) := by
  simp only [tidy_cons, tidy_nil, tidy_nullary, tidy_unary, tidy_binary, tidy_ternary, tidy_reshape]
  and_intros <;> decide
theorem opsNeg_tidy : Tidy 356 383 (opsNeg (F := F)) := by
  simp only [tidy_cons, tidy_nil, TRef.nullary, TRef.unary, TRef.binary, TRef.ternary, TRef.reshape, tidy_nullary, tidy_unary, tidy_binary, tidy_ternary,
    tidy_reshape]
  and_intros <;> decide
theorem opsLoss_tidy : Tidy 383 418 (opsLoss (F := F)) := by
  simp only [tidy_cons, tidy_nil, TRef.nullary, TRef.unary, TRef.binary, TRef.ternary, TRef.reshape, tidy_nullary, tidy_unary, tidy_binary, tidy_ternary,
    tidy_reshape]
  and_intros <;> decide

/-- Everything up to the noise's words. -/
def opsA : List (HloOp τ sig (Elt F)) := opsPos ++ (opsLogit ++ opsCount)
/-- All of @main's operations, grouped. -/
theorem ops_eq : (ops0 ++ ops1 : List (HloOp τ sig (Elt F))) = opsPos ++ (opsLogit ++ (opsCount ++ (opsGen ++ (opsBits ++ (opsTop ++ (opsNeg ++ opsLoss)))))) := by
  simp only [ops0, ops1, opsGen, List.append_assoc]

theorem ops_tidy : Tidy 4 418 (ops0 ++ ops1 : List (HloOp τ sig (Elt F))) := by
  rw [ops_eq]
  exact opsPos_tidy.append (opsLogit_tidy.append (opsCount_tidy.append (opsGen_tidy.append (opsBits_tidy.append (opsTop_tidy.append (opsNeg_tidy.append
    opsLoss_tidy (by decide) (by decide)) (by decide) (by decide)) (by decide) (by decide)) (by decide) (by decide)) (by decide) (by decide))
    (by decide) (by decide)) (by decide) (by decide)

theorem scopedRefs_eq : (Finset.univ.filter fun b : Ref sig .tc => b.isScoped) = ∅ := by decide
theorem scopedSems_eq : (Finset.univ.filter fun sm : SemLoc sig => sm.isScoped .tc) = ∅ := by decide

/-- The contents every buffer ends with. -/
abbrev final (m : (ℓ : Loc nD τ sig) → Buf (Elt F) ℓ) (c : Dev nD) : Valuation τ sig (Elt F) := after (ops0 ++ ops1) (launchContents m c)

/-- The reference's run: it terminates, every buffer ends at the fold of the operations, every semaphore counter is zero. -/
theorem run (m : (ℓ : Loc nD τ sig) → Buf (Elt F) ℓ) (ρ : Dev nD → PrngReg) :
    θ_run (defs (F := F)) (onTc (τ := τ) (main (F := F))) ⟨m, fun _ => 0, ρ⟩ fun r =>
      (∀ c : Dev nD, r.2.mem ((c.tc : Thread nD τ).loc main_v54) = final m c (Proc.devRef .tc main_v54)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
      ∧ r.2.sem = fun _ => 0 := by
  have hk := List.forall_iff_forall_mem.mp (ops_tidy (F := F))
  refine (θ_run defs _ _).mono (fun r h => ⟨fun c => ⟨h c _, ?_, ?_, ?_, ?_⟩, sem_eq_zero_of_no_sems (by decide) _⟩)
    (run_seq scopedRefs_eq scopedSems_eq defs main (fun _ => ops0 ++ ops1) main_eq
      (fun _ => List.forall_iff_forall_mem.mpr fun op hop => (hk op hop).2.1) m ρ fun _ op hop => (hk op hop).2.2)
  all_goals
    rw [h c _, ops_tidy.keep _ _ (Or.inl (by decide))]

end Cert.RefRun

end
-- ==== Proof.Noise.lean ====
/-
  The noise both programs add to the logits, as one function of the key: counters, the generator's twenty rounds, the low bits
  read as a fraction in [0, 1), and minus the logarithm of minus the logarithm of it.
-/
module

public import proofs.«01_k».proof.Proof.Threefry

@[expose] public section

noncomputable section

namespace Cert.Noise

open Idealize.ShloMosaic Idealize.ShloMosaic.TcCoe Idealize.SL.Sem Idealize.ShloMosaic.StableHlo

variable {F : FTy → Type} [FloatOps F]

/-- The key's shape, a single entry's, and a one-by-one matrix's. -/
abbrev K2 : Shape := ⟨1, ![2]⟩
abbrev K1 : Shape := ⟨1, ![1]⟩
abbrev M1 : Shape := ⟨2, ![1, 1]⟩

theorem spread : Spread := by decide
theorem spreadK : S0.BroadcastsInDim K1 (![] : Fin 0 → Fin K1.rank) := by decide
theorem spreadM : S0.BroadcastsInDim M1 (![] : Fin 0 → Fin M1.rank) := by decide
theorem spreadMN : M1.BroadcastsInDim SN (![0, 1] : Fin 2 → Fin SN.rank) := by decide
theorem half : 32 < 64 := by decide
theorem fits0 : K2.Slices ![0] K1 := by decide
theorem fits1 : K2.Slices ![1] K1 := by decide
theorem flat : K1.ShapeCasts S0 := by decide
theorem joined : Shape.Concatenates [K1, K1] K2 0 := by decide

/-- The key's two words, from the seed. -/
def key : (⟨K2, .i32⟩ : BufTy).Contents (Elt F) :=
  let c : IVec S0 32 := constantI S0 32 42#32
  let hi : IVec K1 32 := broadcastInDim K1 ![] spreadK (id (Host.shrui c (constantI S0 32 32#32)))
  let lo : IVec K1 32 := broadcastInDim K1 ![] spreadK (id (andi c (constantI S0 32 4294967295#32)))
  concatenate K2 0 [⟨K1, hi⟩, ⟨K1, lo⟩] joined
/-- The key's first word. -/
def key0 (k : (⟨K2, .i32⟩ : BufTy).Contents (Elt F)) : Word F := shapeCast S0 (extractStridedSlice K1 ![0] k fits0) flat
/-- The key's second word. -/
def key1 (k : (⟨K2, .i32⟩ : BufTy).Contents (Elt F)) : Word F := shapeCast S0 (extractStridedSlice K1 ![1] k fits1) flat
/-- The third word, which the generator makes of the two. -/
def key2 (k : (⟨K2, .i32⟩ : BufTy).Contents (Elt F)) : Word F := xori (xori (key0 k) (key1 k)) (constantI S0 32 466688986#32)

/-- An entry's number, in 64 bits. -/
def counter : IVec SN 64 :=
  addi (muli (broadcastInDim SN ![] spread (constantI S0 64 1000#64)) (iotaInDim SN 64 0))
    (muli (broadcastInDim SN ![] spread (constantI S0 64 1#64)) (iotaInDim SN 64 1))

/-- The pair of words the rounds start from. -/
def startFn (k : (⟨K2, .i32⟩ : BufTy).Contents (Elt F)) : Words F × Words F :=
  (addi (trunci 32 (Host.shrui counter (broadcastInDim SN ![] spread (constantI S0 64 32#64))) half) (broadcastInDim SN ![] spread (key0 k)),
   addi (trunci 32 counter half) (broadcastInDim SN ![] spread (key1 k)))

/-- Four rounds with the first set of rotations, and a key injection. -/
def genA (n : BitVec 32) (k k' : Word F) (p : Words F × Words F) : Words F × Words F :=
  injectFn spread n k k' (roundFn spread 6#32 26#32 (roundFn spread 26#32 6#32 (roundFn spread 15#32 17#32 (roundFn spread 13#32 19#32 p))))
/-- Four rounds with the second set of rotations, and a key injection. -/
def genB (n : BitVec 32) (k k' : Word F) (p : Words F × Words F) : Words F × Words F :=
  injectFn spread n k k' (roundFn spread 24#32 8#32 (roundFn spread 16#32 16#32 (roundFn spread 29#32 3#32 (roundFn spread 17#32 15#32 p))))
/-- The twenty rounds. -/
def wordsFn (k0 k1 k2 : Word F) (p : Words F × Words F) : Words F × Words F :=
  genA 5#32 k2 k0 (genB 4#32 k1 k2 (genA 3#32 k0 k1 (genB 2#32 k2 k0 (genA 1#32 k1 k2 p))))

/-- The smallest positive normal number. -/
def tiny : FVec F M1 .f32 := broadcastInDim M1 ![] spreadM (constant S0 .f32 0x00800000#32)
/-- One. -/
def one : FVec F M1 .f32 := broadcastInDim M1 ![] spreadM (id (constant S0 .f32 0x3F800000#32))

/-- A pair of words' fraction in [0, 1). -/
def fracFn (p : Words F × Words F) : FVec F SN .f32 :=
  subf (bitcastToFloat .f32 (ori (Host.shrui (xori p.1 p.2) (broadcastInDim SN ![] spread (constantI S0 32 9#32)))
    (broadcastInDim SN ![] spread (constantI S0 32 1065353216#32)))) (broadcastInDim SN ![] spread (constant S0 .f32 0x3F800000#32))
/-- A pair of words' noise. -/
def noiseFn (p : Words F × Words F) : FVec F SN .f32 :=
  Host.negf (Host.log (Host.negf (Host.log (maximumf (broadcastInDim SN ![0, 1] spreadMN tiny)
    (addf (mulf (fracFn p) (broadcastInDim SN ![0, 1] spreadMN (subf one tiny))) (broadcastInDim SN ![0, 1] spreadMN tiny))))))

/-- The noise of a key. -/
def noise (k : (⟨K2, .i32⟩ : BufTy).Contents (Elt F)) : FVec F SN .f32 := noiseFn (wordsFn (key0 k) (key1 k) (key2 k) (startFn k))

end Cert.Noise

end
-- ==== Proof.NoiseFinite.lean ====
/-
  THE NOISE IS FINITE: whatever the words, a draw lies strictly between 0 and 1, so `-log (-log u)` is a real number.
-/
module

public import proofs.«01_k».proof.Proof.Noise
public import Idealize.ShloMosaic.PureOps.Ideal
public import Idealize.ShloMosaic.PureOps.Ideal.Laws
public import Idealize.ShloMosaic.Lib.IdealHost
public import Mathlib.Analysis.SpecialFunctions.Log.Basic

@[expose] public section

set_option maxRecDepth 20000

noncomputable section

namespace Cert.NoiseFinite

open Idealize.ShloMosaic Cert.Noise

/-- The word of a float in [1, 2): any 23 bits under the exponent of one. -/
def unitWord (x : BitVec 32) : BitVec 32 := (x >>> 9) ||| 1065353216#32

theorem sign_bit (x : BitVec 32) : (unitWord x).extractLsb' (8 + 23) 1 = 0#1 := by
  unfold unitWord
  apply BitVec.eq_of_getLsbD_eq
  intro i hi
  have : i = 0 := by omega
  subst this
  simp [BitVec.getLsbD_of_ge]

theorem exponent_bits (x : BitVec 32) : (unitWord x).extractLsb' 23 8 = 127#8 := by
  unfold unitWord
  apply BitVec.eq_of_getLsbD_eq
  intro i hi
  have h : ∀ j : Nat, j < 8 → (1065353216#32 : BitVec 32).getLsbD (23 + j) = (127#8 : BitVec 8).getLsbD j := by decide
  rw [BitVec.getLsbD_extractLsb', BitVec.getLsbD_or, BitVec.getLsbD_ushiftRight, h i hi,
    BitVec.getLsbD_of_ge _ _ (by omega)]
  simp [hi]

/-- Such a word's value is one plus a fraction below one. -/
theorem unit_value (x : BitVec 32) : ∃ f : ℝ, 0 ≤ f ∧ f < 1 ∧ Ideal.ofBits .f32 (unitWord x) = ((1 + f : ℝ) : EReal) := by
  have hlt : ((unitWord x).extractLsb' 0 23).toNat < 2 ^ 23 := BitVec.isLt _
  refine ⟨(((unitWord x).extractLsb' 0 23).toNat : ℝ) / 2 ^ 23, by positivity, ?_, ?_⟩
  · rw [div_lt_one (by positivity)]
    exact_mod_cast hlt
  · show Ideal.ieee 8 23 (unitWord x) = _
    unfold Ideal.ieee
    simp only [sign_bit, exponent_bits]
    refine congrArg (fun z : ℝ => (z : EReal)) ?_
    norm_num
    ring_nf

theorem tiny_value : ∃ t : ℝ, 0 < t ∧ t < 1 ∧ Ideal.ofBits .f32 8388608#32 = ((t : ℝ) : EReal) := by
  refine ⟨2 ^ (-126 : ℤ), by positivity, by norm_num, ?_⟩
  simp [Ideal.ofBits, Ideal.ieee, -EReal.coe_mul]
  norm_num

/-- The map from a word to its noise. -/
def draw (x : BitVec 32) : EReal :=
  -Ideal.log (-Ideal.log (max (Ideal.ofBits .f32 8388608#32)
    ((Ideal.ofBits .f32 (unitWord x) - 1) * (1 - Ideal.ofBits .f32 8388608#32) + Ideal.ofBits .f32 8388608#32)))

theorem draw_real (x : BitVec 32) : ∃ g : ℝ, draw x = (g : EReal) := by
  obtain ⟨f, hf0, hf1, hf⟩ := unit_value x
  obtain ⟨t, ht0, ht1, ht⟩ := tiny_value
  have e : (Ideal.ofBits .f32 (unitWord x) - 1) * (1 - Ideal.ofBits .f32 8388608#32) + Ideal.ofBits .f32 8388608#32
      = ((f * (1 - t) + t : ℝ) : EReal) := by
    rw [hf, ht, ← EReal.coe_one, ← EReal.coe_sub, ← EReal.coe_sub, ← EReal.coe_mul, ← EReal.coe_add]
    congr 2; ring
  have hle : t ≤ f * (1 - t) + t := by nlinarith [mul_nonneg hf0 (by linarith : (0 : ℝ) ≤ 1 - t)]
  have hlt : f * (1 - t) + t < 1 := by nlinarith
  have hu : 0 < f * (1 - t) + t := lt_of_lt_of_le ht0 hle
  unfold draw
  rw [e, ht, max_eq_right (EReal.coe_le_coe_iff.mpr hle), Ideal.log_coe, if_neg (not_le.mpr hu), ← EReal.coe_neg, Ideal.log_coe,
    if_neg (not_le.mpr (neg_pos.mpr (Real.log_neg hu hlt))), ← EReal.coe_neg]
  exact ⟨_, rfl⟩

theorem noise_draw (p : Words Ideal × Words Ideal) (i : SN.Idx) :
    noiseFn (F := Ideal) p i = draw (IntOp.xori (p.1 i) (p.2 i)) := by
  have h : ∀ y : BitVec 32, IntOp.ori (IntOp.shrui .host y 9#32) 1065353216#32 = unitWord y := fun y => rfl
  have hone : Ideal.ofBits .f32 1065353216#32 = 1 := Ideal.ofBits_one_f32
  unfold draw
  rw [← h, ← hone]
  rfl

/-- The noise of any key is finite everywhere. -/
theorem noise_real : ∃ g : SN.Idx → ℝ, ∀ i, noise (F := Ideal) key i = ((g i : ℝ) : EReal) := by
  have h : ∀ i, ∃ g : ℝ, noise (F := Ideal) key i = (g : EReal) := fun i => by
    unfold noise
    rw [noise_draw]
    exact draw_real _
  choose g hg using h
  exact ⟨g, hg⟩

end Cert.NoiseFinite

end
-- ==== Proof.Rows.lean ====
/-
  THE ROWS: a (sentence, position, context) triple has one number below 20480, which the kernel splits into a grid point and a
  place within its block.
-/
module

public import Mathlib.Data.EReal.Basic
public import Mathlib.Algebra.BigOperators.Fin

@[expose] public section

namespace Cert.Rows

/-- A row's sentence, position and context. -/
abbrev sen (n : Fin 20480) : Fin 1024 := ⟨n.val / 20, by omega⟩
abbrev pos (n : Fin 20480) : Fin 5 := ⟨n.val / 4 % 5, by omega⟩
abbrev ctx (n : Fin 20480) : Fin 4 := ⟨n.val % 4, by omega⟩
/-- The row of a triple. -/
abbrev row (s : Fin 1024) (p : Fin 5) (q : Fin 4) : Fin 20480 := ⟨s.val * 20 + p.val * 4 + q.val, by omega⟩
/-- The row at place `b` of grid point `t`. -/
abbrev at' (t : Fin 20) (b : Fin 1024) : Fin 20480 := ⟨t.val * 1024 + b.val, by omega⟩

theorem sum_points (f : Fin 20480 → EReal) : ∑ t : Fin 20, ∑ b : Fin 1024, f (at' t b) = ∑ n, f n := by
  rw [← Equiv.sum_comp (finProdFinEquiv (m := 20) (n := 1024)) f, Fintype.sum_prod_type]
  exact Finset.sum_congr rfl fun t _ => Finset.sum_congr rfl fun b _ => congrArg f (Fin.ext (by
    show t.val * 1024 + b.val = b.val + 1024 * t.val; omega))

theorem sum_triples (f : Fin 20480 → EReal) :
    ∑ s : Fin 1024, ∑ p : Fin 5, ∑ q : Fin 4, f (row s p q) = ∑ n, f n := by
  rw [← Equiv.sum_comp (finProdFinEquiv (m := 1024) (n := 20)) f, Fintype.sum_prod_type]
  refine Finset.sum_congr rfl fun s _ => ?_
  rw [← Equiv.sum_comp (finProdFinEquiv (m := 5) (n := 4)), Fintype.sum_prod_type]
  exact Finset.sum_congr rfl fun p _ => Finset.sum_congr rfl fun q _ => congrArg f (Fin.ext (by
    show s.val * 20 + p.val * 4 + q.val = (q.val + 4 * p.val) + 20 * s.val; omega))

end Cert.Rows
-- ==== Proof.Spec.lean ====
/-
  THE MATHEMATICS BOTH PROGRAMS SHARE: the loss of a product, the logit of a frequency, the score of an entry.
-/
module

public import Idealize.ShloMosaic.PureOps.Ideal
public import Idealize.ShloMosaic.PureOps.Ideal.Laws
public import Mathlib.Analysis.SpecialFunctions.Log.Basic

@[expose] public section

open Idealize.ShloMosaic

noncomputable section

namespace Cert.Spec

/-- `log (1 + eˣ)`, as the programs compute it. -/
def soft (x : EReal) : EReal := max x 0 + Ideal.log1p (Ideal.exp (0 - max x (-x)))

/-- A product of two rows. -/
def dot (l e : Fin 128 → EReal) : EReal := ∑ d, l d * e d

theorem three_quarters : Ideal.ofBits .f32 1061158912#32 = ((3 / 4 : ℝ) : EReal) := by
  simp [Ideal.ofBits, Ideal.ieee, -EReal.coe_mul]
  norm_num

theorem bot_bits : Ideal.ofBits .f32 4286578688#32 = ⊥ := by
  simp [Ideal.ofBits, Ideal.ieee]

/-- A frequency's weight, `r ^ 0.75`. -/
def weight (r : ℝ) : ℝ := Real.exp (3 / 4 * Real.log r)

theorem weight_pos (r : ℝ) : 0 < weight r := Real.exp_pos _

/-- The score of an entry: its key less the logarithm of the weights' total, or `⊥` where it may not be drawn. -/
def score (may : Prop) [Decidable may] (a z : ℝ) : EReal := if may then ((a - z : ℝ) : EReal) else ⊥

/-- The logit of a share of a positive total. -/
theorem logit (p z : ℝ) (hz : 0 < z) (d : EReal) :
    (if 0 < Ideal.div (p : EReal) (z : EReal) then
      Ideal.log (if 0 < Ideal.div (p : EReal) (z : EReal) then Ideal.div (p : EReal) (z : EReal) else d) else ⊥)
      = if 0 < p then ((Real.log p - Real.log z : ℝ) : EReal) else ⊥ := by
  have e : Ideal.div (p : EReal) (z : EReal) = ((p / z : ℝ) : EReal) := by
    rw [Ideal.div_coe hz.ne', ← EReal.coe_mul, mul_one_div]
  rw [e]
  by_cases hp : 0 < p
  · have h : 0 < p / z := div_pos hp hz
    have h' : (0 : EReal) < ((p / z : ℝ) : EReal) := by exact_mod_cast h
    rw [if_pos h', if_pos h', if_pos hp, Ideal.log_coe, if_neg (not_le.mpr h), Real.log_div hp.ne' hz.ne']
  · have h : ¬ 0 < p / z := fun h => hp ((div_pos_iff_of_pos_right hz).mp h)
    have h' : ¬ (0 : EReal) < ((p / z : ℝ) : EReal) := by exact_mod_cast h
    rw [if_neg h', if_neg hp]

theorem abs_coe (p : ℝ) : max (p : EReal) (-(p : EReal)) = ((|p| : ℝ) : EReal) := by
  rw [← EReal.coe_neg]
  rcases le_total 0 p with h | h
  · rw [abs_of_nonneg h, max_eq_left (EReal.coe_le_coe_iff.mpr (by linarith))]
  · rw [abs_of_nonpos h, max_eq_right (EReal.coe_le_coe_iff.mpr (by linarith))]

/-- A finite sum of reals. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

end Cert.Spec

end
-- ==== Proof.Samplable.lean ====
/-
  THE PRECONDITION, READ: targets name entries of the vocabulary, frequencies are real numbers, and six of them are positive.
-/
module

public import proofs.«01_k».proof.Pre_samplable
public import proofs.«01_k».proof.Proof.Rows
public import proofs.«01_k».proof.Proof.Spec
public import Idealize.ShloMosaic.Lib.Pointwise
public import Idealize.ShloMosaic.Lib.ReduceAll

@[expose] public section

set_option maxRecDepth 20000
set_option maxHeartbeats 1000000

noncomputable section

namespace Cert.Samplable

open Idealize.ShloMosaic Cert.Rows Cert.Pre_samplable

theorem facts : Cert.Pre_samplable.Facts := ⟨by decide, by decide, by decide, by decide, by decide⟩

instance : Cert.Pre_samplable.Facts := facts

theorem both : ∀ a b : BitVec 1, IntOp.andi a b = 1#1 → a = 1#1 ∧ b = 1#1 := by decide

/-- A word between 0 and 999 is a small number's. -/
theorem word_small (x : BitVec 32) (h0 : IntOp.cmpi .sge x 0#32 = 1#1) (h1 : IntOp.cmpi .slt x 1000#32 = 1#1) :
    ∃ k : Fin 1000, x = BitVec.ofNat 32 k.val := by
  have h0' : (0#32).sle x = true := by
    by_contra h
    have e : IntOp.cmpi .sge x 0#32 = BitVec.ofBool ((0#32).sle x) := rfl
    rw [e, Bool.eq_false_iff.mpr h] at h0
    exact absurd h0 (by decide)
  have h1' : x.slt 1000#32 = true := by
    by_contra h
    have e : IntOp.cmpi .slt x 1000#32 = BitVec.ofBool (x.slt 1000#32) := rfl
    rw [e, Bool.eq_false_iff.mpr h] at h1
    exact absurd h1 (by decide)
  rw [BitVec.sle_eq_decide, decide_eq_true_eq] at h0'
  rw [BitVec.slt_eq_decide, decide_eq_true_eq] at h1'
  have a0 : (0 : Int) ≤ x.toInt := h0'
  have a1 : x.toInt < 1000 := h1'
  have e := BitVec.toInt_eq_toNat_cond x
  have hlt := x.isLt
  have hn : x.toNat < 1000 := by
    split at e <;> omega
  exact ⟨⟨x.toNat, hn⟩, by rw [BitVec.ofNat_toNat, BitVec.setWidth_eq]⟩

/-- An extended real whose size is below infinity is real. -/
theorem finite_real (x : EReal) (h : FloatOps.cmpf (F := Ideal) (φ := .f32) .olt (max x (-x)) (Ideal.ofBits .f32 0x7F800000#32) = 1#1) : ∃ r : ℝ, x = (r : EReal) := by
  have ht : Ideal.ofBits .f32 0x7F800000#32 = ⊤ := by simp [Ideal.ofBits, Ideal.ieee]
  rw [ht] at h
  have e : FloatOps.cmpf (F := Ideal) (φ := .f32) .olt (max x (-x)) ⊤ = BitVec.ofBool (decide (max x (-x) < ⊤)) := rfl
  rw [e] at h
  have h' : max x (-x) < ⊤ := by
    by_contra hn
    rw [decide_eq_false hn] at h
    exact absurd h (by decide)
  induction x with
  | bot => simp at h'
  | top => simp at h'
  | coe r => exact ⟨r, rfl⟩

/-- Six ones among zeros and ones. -/
theorem count_six (r : Fin 1000 → ℝ) (h : ((6 : ℝ) : EReal) ≤ ∑ v : Fin 1000, if (0 : EReal) < ((r v : ℝ) : EReal) then (1 : EReal) else 0) :
    6 ≤ (Finset.univ.filter fun v => 0 < r v).card := by
  have e : (∑ v : Fin 1000, if (0 : EReal) < ((r v : ℝ) : EReal) then (1 : EReal) else 0) = (((Finset.univ.filter fun v => 0 < r v).card : ℝ) : EReal) := by
    have h1 : ∀ v : Fin 1000, (if (0 : EReal) < ((r v : ℝ) : EReal) then (1 : EReal) else 0) = (((if 0 < r v then 1 else 0 : ℝ)) : EReal) := fun v => by
      by_cases hv : 0 < r v
      · rw [if_pos hv, if_pos (by exact_mod_cast hv)]; rfl
      · rw [if_neg hv, if_neg (by exact_mod_cast hv)]; rfl
    rw [Finset.sum_congr rfl fun v _ => h1 v, Spec.coe_sum, Finset.sum_boole]
  rw [e, EReal.coe_le_coe_iff] at h
  exact_mod_cast h

theorem six_bits : Ideal.ofBits .f32 0x40C00000#32 = ((6 : ℝ) : EReal) := by
  simp [Ideal.ofBits, Ideal.ieee, -EReal.coe_mul]
  norm_num

theorem read (E : FVec Ideal S1024x5x4x128 .f32) (T : IVec S1024x5x4 32) (L : FVec Ideal S1000x128 .f32) (W : FVec Ideal S1000 .f32) (j : S_.Idx)
    (h : Cert.Pre_samplable.fn (F := Ideal) E T L W j = 1#1) :
    ∃ (k : Fin 20480 → Fin 1000) (r : Fin 1000 → ℝ), (∀ n, T (ix3 (sen n) (pos n) (ctx n)) = BitVec.ofNat 32 (k n).val)
      ∧ (∀ v, W (ix1 v) = ((r v : ℝ) : EReal)) ∧ 6 ≤ (Finset.univ.filter fun v => 0 < r v).card := by
  have h' : IntOp.andi (IntOp.andi
      (Host.reduce IntOp.andi (andi (cmpi .sge T (broadcastInDim S1024x5x4 ![] Facts.bcast_S_S1024x5x4 (constantI S_ 32 0#32)))
        (cmpi .slt T (broadcastInDim S1024x5x4 ![] Facts.bcast_S_S1024x5x4 (constantI S_ 32 1000#32)))) (constantI S_ 1 1#1)
        Facts.reducesTo_S1024x5x4_S_d0_1_2 Facts.h_S_ j)
      (Host.reduce IntOp.andi (cmpf .olt (Host.absf W) (broadcastInDim S1000 ![] Facts.bcast_S_S1000 (constant S_ .f32 0x7F800000#32))) (constantI S_ 1 1#1)
        Facts.reducesTo_S1000_S_d0 Facts.h_S_ j))
      (FloatOps.cmpf (F := Ideal) (φ := .f32) .oge
        (Host.reduceAdd (select (cmpf .ogt W (broadcastInDim S1000 ![] Facts.bcast_S_S1000 (constant S_ .f32 0x00000000#32)))
          (broadcastInDim S1000 ![] Facts.bcast_S_S1000 (constant S_ .f32 0x3F800000#32)) (broadcastInDim S1000 ![] Facts.bcast_S_S1000 (constant S_ .f32 0x00000000#32)))
          (constant S_ .f32 0x00000000#32) Facts.reducesTo_S1000_S_d0 Facts.h_S_ j) (Ideal.ofBits .f32 0x40C00000#32)) = 1#1 := h
  obtain ⟨h12, h3⟩ := both _ _ h'
  obtain ⟨h1, h2⟩ := both _ _ h12
  have hs : Subsingleton S_.Idx := ⟨fun a b => funext fun i => i.elim0⟩
  have hk : ∀ i, ∃ k : Fin 1000, T i = BitVec.ofNat 32 k.val := fun i => by
    obtain ⟨a, b⟩ := both _ _ (Host.reduce_andi_all _ _ _ _ _ h1 i)
    exact word_small _ a b
  have hr : ∀ i, ∃ r : ℝ, W i = (r : EReal) := fun i => finite_real _ (Host.reduce_andi_all _ _ _ _ _ h2 i)
  choose k hk using hk
  choose r hr using hr
  refine ⟨fun n => k _, fun v => r (ix1 v), fun n => hk _, fun v => hr _, count_six _ ?_⟩
  have e : (Host.reduceAdd (F := Ideal) (φ := .f32) (select (cmpf .ogt W (broadcastInDim S1000 ![] Facts.bcast_S_S1000 (constant S_ .f32 0x00000000#32)))
      (broadcastInDim S1000 ![] Facts.bcast_S_S1000 (constant S_ .f32 0x3F800000#32)) (broadcastInDim S1000 ![] Facts.bcast_S_S1000 (constant S_ .f32 0x00000000#32)))
      (constant S_ .f32 0x00000000#32) Facts.reducesTo_S1000_S_d0 Facts.h_S_ : FVec Ideal S_ .f32) j = ∑ v : Fin 1000, if (0 : EReal) < W (ix1 v) then (1 : EReal) else 0 := by
    pointwise
  rw [e, six_bits] at h3
  simp only [← hr]
  by_contra hn
  have e' : ∀ x y : EReal, FloatOps.cmpf (F := Ideal) (φ := .f32) .oge x y = BitVec.ofBool (decide (y ≤ x)) := fun x y => rfl
  rw [e', decide_eq_false hn] at h3
  exact absurd h3 (by decide)

end Cert.Samplable

end
-- ==== Proof.KerBlock.lean ====
/-
  WHAT ONE GRID POINT ADDS. The kernel's body, read as five rounds of one step: mark each column's first greatest score, sum
  the loss of the marked products, strike the marked scores. The output's staging buffer gains the point's number.
-/
module

public import proofs.«01_k».proof.Proof.Gen.KernelIdeal.Frame
public import Idealize.ShloMosaic.Lib.Pipeline.Value
public import Idealize.ShloMosaic.Lib.Tactic

@[expose] public section

set_option maxRecDepth 20000
set_option maxHeartbeats 4000000

noncomputable section

namespace Cert.KerBlock

open Cert.KernelIdeal Cert.KernelIdeal.Gen Idealize.ShloMosaic Idealize.ShloMosaic.TcCoe Idealize.SL.Sem

variable {F : FTy → Type} [FloatOps F]

/-- The row number of every entry. -/
def rows : IVec S1024x1024 32 := iota .tc S1024x1024 32 [0] iota_S1024x1024_d0_w32

/-- Marks, in each column, the first row holding the column's greatest score. -/
def best (s : FVec F S1024x1024 .f32) : IVec S1024x1024 1 :=
  cmpi .eq rows (broadcastTo S1024x1024 (shapeCast S1x1024 (multiReductionI .minsi [0] S1024
    (select (cmpf .oeq s (broadcastTo S1024x1024 (shapeCast S1x1024 (multiReduction .maximumf [0] S1024 s 0xFF800000#32
      reduces_S1024x1024_S1024 (.inl rfl) rfl) shapeCasts_S1024_S1x1024) broadcasts_S1x1024_S1024x1024)) rows
      (broadcast S1024x1024 1024#32)) 2147483647#32 reduces_S1024x1024_S1024 rfl) shapeCasts_S1024_S1x1024)
    broadcasts_S1x1024_S1024x1024)

/-- The scores with the marked ones struck. -/
def strike (s : FVec F S1024x1024 .f32) : FVec F S1024x1024 .f32 :=
  select (best s) (broadcast S1024x1024 (Scalar.ofBits .f32 0xFF800000#32)) s

/-- Each column's sum of the marked products. -/
def marked (p : IVec S1024x1024 1) (a : FVec F S1024x1024 .f32) : FVec F S1x1024 .f32 :=
  shapeCast S1x1024 (multiReduction .add [0] S1024 (select p a (broadcast S1024x1024 (Scalar.ofBits .f32 0x00000000#32)))
    0x00000000#32 reduces_S1024x1024_S1024 (.inl rfl) rfl) shapeCasts_S1024_S1x1024

/-- The total over a row of `log (1 + eˣ)`. -/
def loss (x : FVec F S1x1024 .f32) : F .f32 :=
  extractAt ![0, 0, 0] (shapeCast S1x1x1 (multiReduction .add [1, 2] S1 (shapeCast S1x1x1024
    (addf (maximumf x (broadcast S1x1024 (Scalar.ofBits .f32 0x00000000#32)))
      (log1p (exp (subf (broadcast S1x1024 (Scalar.ofBits .f32 0x00000000#32)) (absf x)))))
    shapeCasts_S1x1024_S1x1x1024) 0x00000000#32 reduces_S1x1x1024_S1 (.inl rfl) rfl) shapeCasts_S1_S1x1x1)
    inpos_S1x1x1_p0_0_0

/-- The loss of a round. -/
def round (s a : FVec F S1024x1024 .f32) : F .f32 := loss (marked (best s) a)

/-- The target's loss. -/
def posLoss (x0 : Vec F S1x1x1024 .i32) (a : FVec F S1024x1024 .f32) : F .f32 :=
  loss (subf (broadcast S1x1024 (Scalar.ofBits .f32 0x00000000#32))
    (marked (cmpi .eq rows (broadcastTo S1024x1024 (k0_pay4 x0 : IVec S1x1024 32) broadcasts_S1x1024_S1024x1024)) a))

/-- The first scores: noise and logits off the target, within the vocabulary. -/
def score (x0 : Vec F S1x1x1024 .i32) (x1 : Vec F S1x1024x1024 .f32) (col : Vec F S1024x1 .f32) : FVec F S1024x1024 .f32 :=
  k0_pay6 (k0_pay3 col) (k0_pay5 (F := F) x0) x1

/-- The five rounds' losses, added first to last. -/
def negLoss (s a : FVec F S1024x1024 .f32) : F .f32 :=
  Scalar.addf (Scalar.addf (Scalar.addf (Scalar.addf (Scalar.addf (Scalar.ofBits .f32 0x00000000#32) (round s a))
    (round (strike s) a)) (round (strike (strike s)) a)) (round (strike (strike (strike s))) a))
    (round (strike (strike (strike (strike s)))) a)

/-- What a grid point adds to every entry of the output. -/
def point (x0 : Vec F S1x1x1024 .i32) (x1 : Vec F S1x1024x1024 .f32) (x2 : Vec F S1024x128 .f32) (col : Vec F S1024x1 .f32)
    (x4 : Vec F S1024x128 .f32) : F .f32 :=
  Scalar.addf (posLoss x0 (k0_pay7 x2 x4))
    (Scalar.mulf (negLoss (score x0 x1 col) (k0_pay7 x2 x4)) (Scalar.ofBits .f32 0x3A800000#32))

/-- The first column of the frequencies' block. -/
abbrev firstCol (x3 : Vec F S1024x128 .f32) : Vec F S1024x1 .f32 :=
  View.ld x3 (Rect.unit (s := S1024x128) ![0, 0] S1024x1.size inb_S1024x128_S1024x1_0_0)

theorem hz : (![0, 0] : Fin 2 → Nat) = fun _ => 0 := funext fun a => by fin_cases a <;> rfl
theorem hz3 : (![0, 0, 0] : Fin 3 → Nat) = fun _ => 0 := funext fun a => by fin_cases a <;> rfl

/-- A later point adds its number to what the buffer held. -/
theorem out_B (c : Dev nD) (i : grid0.Coords) (arg1 : Memref sig .tc .vmem S1x1x1024 .i32) (harg1 : arg1.IsWhole)
    (arg2 : Memref sig .tc .vmem S1x1024x1024 .f32) (harg2 : arg2.IsWhole) (arg3 : Memref sig .tc .vmem S1024x128 .f32)
    (harg3 : arg3.IsWhole) (arg4 : Memref sig .tc .vmem S1024x128 .f32) (harg4 : arg4.IsWhole)
    (arg5 : Memref sig .tc .vmem S1024x128 .f32) (harg5 : arg5.IsWhole) (arg6 : Memref sig .tc .vmem S8x128 .f32)
    (harg6 : arg6.IsWhole) (hc : ¬cond0_0 i) (x0 : Vec F S1x1x1024 .i32) (x1 : Vec F S1x1024x1024 .f32)
    (x2 : Vec F S1024x128 .f32) (x3 : Vec F S1024x128 .f32) (x4 : Vec F S1024x128 .f32) (xo : Vec F S8x128 .f32) :
    out0_B_5 c i arg1 harg1 arg2 harg2 arg3 harg3 arg4 harg4 arg5 harg5 arg6 harg6 hc x0 x1 x2 x3 x4 xo
      = addf xo (broadcast S8x128 (point x0 x1 x2 (firstCol x3) x4)) := by
  unfold out0_B_5
  rw [View.read_writes_eq_canon _ _ _ (cover0_B_5 c i arg1 harg1 arg2 harg2 arg3 harg3 arg4 harg4 arg5 harg5 arg6 harg6 hc
    x0 x1 x2 x3 x4 xo)]
  unfold kernelRun0_B
  dsimp only
  sl_unfold_words
  rw [View.canon_unit_zero hz]
  simp only [View.readAt_eq_ld, harg1.read_unread, harg2.read_unread, harg3.read_unread, harg4.read_unread,
    harg5.read_unread, harg6.read_unread, View.ld_unit_zero (S := S8x128) hz, View.ld_unit_zero (S := S1024x128) hz,
    View.ld_unit_zero (S := S1x1x1024) hz3, View.ld_unit_zero (S := S1x1024x1024) hz3]
  unfold k0_pay1
  simp only [shapeCast_self]
  rfl

/-- The first point adds its number to zero. -/
theorem out_A (c : Dev nD) (i : grid0.Coords) (arg1 : Memref sig .tc .vmem S1x1x1024 .i32) (harg1 : arg1.IsWhole)
    (arg2 : Memref sig .tc .vmem S1x1024x1024 .f32) (harg2 : arg2.IsWhole) (arg3 : Memref sig .tc .vmem S1024x128 .f32)
    (harg3 : arg3.IsWhole) (arg4 : Memref sig .tc .vmem S1024x128 .f32) (harg4 : arg4.IsWhole)
    (arg5 : Memref sig .tc .vmem S1024x128 .f32) (harg5 : arg5.IsWhole) (arg6 : Memref sig .tc .vmem S8x128 .f32)
    (harg6 : arg6.IsWhole) (hc : cond0_0 i) (x0 : Vec F S1x1x1024 .i32) (x1 : Vec F S1x1024x1024 .f32)
    (x2 : Vec F S1024x128 .f32) (x3 : Vec F S1024x128 .f32) (x4 : Vec F S1024x128 .f32) :
    out0_A_5 c i arg1 harg1 arg2 harg2 arg3 harg3 arg4 harg4 arg5 harg5 arg6 harg6 hc x0 x1 x2 x3 x4
      = addf (broadcast S8x128 (Scalar.ofBits .f32 0x00000000#32))
          (broadcast S8x128 (point x0 x1 x2 (firstCol x3) x4)) := by
  unfold out0_A_5
  rw [View.read_writes_eq_canon _ _ _ (cover0_A_5 c i arg1 harg1 arg2 harg2 arg3 harg3 arg4 harg4 arg5 harg5 arg6 harg6 hc
    x0 x1 x2 x3 x4)]
  unfold kernelRun0_A
  dsimp only
  sl_unfold_words
  rw [View.canon_cons_unit_zero (S := S8x128) hz, View.readCov_unit_zero (S := S8x128) _ hz]
  simp only [View.readAt_eq_ld, harg1.read_unread, harg2.read_unread, harg3.read_unread, harg4.read_unread,
    harg5.read_unread, harg6.read_unread, View.ld_unit_zero (S := S8x128) hz, View.ld_unit_zero (S := S1024x128) hz,
    View.ld_unit_zero (S := S1x1x1024) hz3, View.ld_unit_zero (S := S1x1024x1024) hz3]
  unfold k0_pay1
  simp only [shapeCast_self]
  rfl

end Cert.KerBlock

end
-- ==== Proof.Select.lean ====
/-
  CHOOSING THE BEST FEW: taking the greatest entry (the lower position among equals), removing it and repeating picks the
  same positions, in the same order, as a stable descending sort followed by a slice.
-/
module

public import Idealize.ShloMosaic.Lib.SortPrefix
public import Mathlib.Data.EReal.Basic
public import Mathlib.Data.Finset.Max
public import Mathlib.Data.Fintype.Card

@[expose] public section

open Idealize.ShloMosaic

namespace Cert.Select

/-- Position `k` holds a greatest entry, and no lower position does. -/
def IsTop {n : Nat} (s : Fin n → EReal) (k : Fin n) : Prop := (∀ i, s i ≤ s k) ∧ ∀ i, s i = s k → k ≤ i

theorem exists_isTop {n : Nat} [NeZero n] (s : Fin n → EReal) : ∃ k, IsTop s k := by
  classical
  obtain ⟨b, -, hb⟩ := Finset.exists_max_image (Finset.univ : Finset (Fin n)) s ⟨0, Finset.mem_univ _⟩
  have hne : (Finset.univ.filter fun i => s i = s b).Nonempty := ⟨b, by simp⟩
  have hk : s ((Finset.univ.filter fun i => s i = s b).min' hne) = s b :=
    (Finset.mem_filter.mp (Finset.min'_mem _ hne)).2
  refine ⟨(Finset.univ.filter fun i => s i = s b).min' hne, fun i => ?_, fun i hi => ?_⟩
  · rw [hk]; exact hb i (Finset.mem_univ i)
  · exact Finset.min'_le _ _ (Finset.mem_filter.mpr ⟨Finset.mem_univ i, hi.trans hk⟩)

/-- The first position of a greatest entry. -/
noncomputable def top {n : Nat} [NeZero n] (s : Fin n → EReal) : Fin n := (exists_isTop s).choose

theorem isTop_top {n : Nat} [NeZero n] (s : Fin n → EReal) : IsTop s (top s) := (exists_isTop s).choose_spec

theorem top_eq {n : Nat} [NeZero n] {s : Fin n → EReal} {k : Fin n} (h : IsTop s k) : top s = k := by
  have ht := isTop_top s
  have e : s (top s) = s k := le_antisymm (h.1 _) (ht.1 _)
  exact le_antisymm (ht.2 k e.symm) (h.2 _ e)

/-- The scores with one position struck out. -/
noncomputable def drop {n : Nat} (s : Fin n → EReal) (k : Fin n) : Fin n → EReal := fun i => if i = k then ⊥ else s i

/-- The scores left after `r` rounds of striking out the best. -/
noncomputable def left {n : Nat} [NeZero n] (s : Fin n → EReal) : Nat → Fin n → EReal
  | 0 => s
  | r + 1 => drop (left s r) (top (left s r))

/-- The position chosen in round `r`. -/
noncomputable def pick {n : Nat} [NeZero n] (s : Fin n → EReal) (r : Nat) : Fin n := top (left s r)

theorem left_of_new {n : Nat} [NeZero n] (s : Fin n → EReal) (r : Nat) (i : Fin n) (h : ∀ j < r, pick s j ≠ i) :
    left s r i = s i := by
  induction r with
  | zero => rfl
  | succ r ih =>
    have hi : i ≠ top (left s r) := fun e => h r (Nat.lt_succ_self r) e.symm
    simp only [left, drop, if_neg hi]
    exact ih fun j hj => h j (Nat.lt_succ_of_lt hj)

theorem left_of_old {n : Nat} [NeZero n] (s : Fin n → EReal) (r j : Nat) (hj : j < r) : left s r (pick s j) = ⊥ := by
  induction r with
  | zero => exact absurd hj (Nat.not_lt_zero _)
  | succ r ih =>
    simp only [left, drop]
    split
    · rfl
    · rename_i h
      refine ih (lt_of_le_of_ne (Nat.le_of_lt_succ hj) fun e => h ?_)
      subst e; rfl

section
variable {n : Nat} [NeZero n] (s : Fin n → EReal) (m : Nat) (hm : m ≤ (Finset.univ.filter fun i => s i ≠ ⊥).card)
include hm

/-- While fewer rounds have passed than there are entries above `⊥`, the entry chosen is above `⊥`, and new. -/
theorem pick_ne_bot (r : Nat) (hr : r < m) : left s r (pick s r) ≠ ⊥ := by
  classical
  intro hbot
  have hall : ∀ i, left s r i = ⊥ := fun i => le_bot_iff.mp (hbot ▸ (isTop_top (left s r)).1 i)
  have hsub : (Finset.univ.filter fun i => s i ≠ ⊥) ⊆ (Finset.range r).image (pick s) := by
    intro i hi
    by_contra hn
    refine (Finset.mem_filter.mp hi).2 ?_
    rw [← left_of_new s r i fun j hj e => hn (Finset.mem_image.mpr ⟨j, Finset.mem_range.mpr hj, e⟩)]
    exact hall i
  have := (Finset.card_le_card hsub).trans Finset.card_image_le
  rw [Finset.card_range] at this
  omega

theorem pick_new (r : Nat) (hr : r < m) (j : Nat) (hj : j < r) : pick s j ≠ pick s r := fun e =>
  pick_ne_bot s m hm r hr (e ▸ left_of_old s r j hj)

theorem score_pick_ne_bot (r : Nat) (hr : r < m) : s (pick s r) ≠ ⊥ := by
  rw [← left_of_new s r _ (pick_new s m hm r hr)]
  exact pick_ne_bot s m hm r hr

/-- The entry chosen in round `r` comes before every other not chosen earlier. -/
theorem pick_before (r : Nat) (hr : r < m) (i : Fin n) (hi : ∀ j ≤ r, pick s j ≠ i) :
    s i < s (pick s r) ∨ s i = s (pick s r) ∧ pick s r < i := by
  have ht := isTop_top (left s r)
  have e1 := left_of_new s r i fun j hj => hi j hj.le
  have e2 : left s r (top (left s r)) = s (pick s r) := left_of_new s r _ (pick_new s m hm r hr)
  have hle := ht.1 i
  rw [e1, e2] at hle
  rcases hle.lt_or_eq with h | h
  · exact Or.inl h
  · exact Or.inr ⟨h, lt_of_le_of_ne (ht.2 i (by rw [e1, e2, h])) (hi r le_rfl)⟩

end

/-- A stable sort breaks ties by position, so its comparator may be completed by the position. -/
theorem stableSort_position {n : Nat} (B : Fin n → Fin n → Bool) (T : Fin n → Fin n → Bool) (l : List (Fin n))
    (hl : l.Pairwise (· < ·)) :
    stableSort B l = stableSort (fun a b => B a b || (T a b && decide (a < b))) l := by
  induction l with
  | nil => rfl
  | cons a l ih =>
    rw [List.pairwise_cons] at hl
    unfold stableSort
    rw [← ih hl.2]
    refine insertBefore_congr _ _ a _ fun b hb => ?_
    have : ¬ b < a := not_lt.mpr (hl.1 b ((perm_stableSort B l).mem_iff.mp hb)).le
    simp [this]

theorem sortedFrom_position {n : Nat} (B T : Fin n → Fin n → Bool) (k : Fin n) :
    sortedFrom B k = sortedFrom (fun a b => B a b || (T a b && decide (a < b))) k := by
  unfold sortedFrom sortPositions
  simp only [List.get_eq_getElem, Fin.val_cast]
  congr 1
  exact stableSort_position B T _ (List.pairwise_lt_finRange n)

/-- THE SELECTION. `s` scores `N` positions, `s'` the first `n` of them in the same order, and the others score `⊥`. If at
    least `m` entries are above `⊥`, the first `m` positions of the stable descending sort of `s'` are the positions chosen
    from `s` one round after another. -/
theorem sortedFrom_eq_pick {n N : Nat} [NeZero N] (hn : n ≤ N) (s : Fin N → EReal) (s' : Fin n → EReal)
    (hord : ∀ v w : Fin n, s (v.castLE hn) < s (w.castLE hn) ↔ s' v < s' w)
    (hout : ∀ v : Fin N, n ≤ v.val → s v = ⊥) (m : Nat) (hm : m ≤ (Finset.univ.filter fun i => s i ≠ ⊥).card)
    (hmn : m ≤ n) (r : Fin m) :
    (sortedFrom (fun k k' => decide (s' k' < s' k)) (r.castLE hmn)).val = (pick s r.val).val := by
  classical
  have hlt : ∀ r : Fin m, (pick s r.val).val < n := fun r => by
    by_contra h
    exact score_pick_ne_bot s m hm r.val r.isLt (hout _ (Nat.le_of_not_lt h))
  have heq : ∀ v w : Fin n, s (v.castLE hn) = s (w.castLE hn) ↔ s' v = s' w := fun v w => by
    have h1 := hord v w
    have h2 := hord w v
    constructor <;> intro e
    · exact le_antisymm (not_lt.mp fun h => absurd (h2.mpr h) (by rw [e]; exact lt_irrefl _))
        (not_lt.mp fun h => absurd (h1.mpr h) (by rw [e]; exact lt_irrefl _))
    · exact le_antisymm (not_lt.mp fun h => absurd (h2.mp h) (by rw [e]; exact lt_irrefl _))
        (not_lt.mp fun h => absurd (h1.mp h) (by rw [e]; exact lt_irrefl _))
  have hB : StrictTotalBefore fun k k' : Fin n => decide (s' k' < s' k) || (decide (s' k = s' k') && decide (k < k')) :=
    StrictTotalBefore.of_key_then_position (fun x y : EReal => decide (y < x)) s' (by simp)
      (fun a b c hab hbc => by
        simp only [decide_eq_true_eq] at *
        exact hbc.trans hab)
      (fun a b => by
        simp only [decide_eq_true_eq]
        rcases lt_trichotomy a b with h | h | h
        · exact Or.inr (Or.inr h)
        · exact Or.inr (Or.inl h)
        · exact Or.inl h)
  let σ : Fin m → Fin n := fun r => ⟨(pick s r.val).val, hlt r⟩
  have hσ : ∀ r, (σ r).castLE hn = pick s r.val := fun r => Fin.ext rfl
  have hfirst : ∀ (i : Fin m) (p : Fin n), (∀ j : Fin m, j ≤ i → σ j ≠ p) →
      (fun k k' : Fin n => decide (s' k' < s' k) || (decide (s' k = s' k') && decide (k < k'))) p (σ i) = false := by
    intro i p hp
    refine hB.asymm _ _ ?_
    simp only [Bool.or_eq_true, Bool.and_eq_true, decide_eq_true_eq]
    rcases pick_before s m hm i.val i.isLt (p.castLE hn) (fun j hj e => hp ⟨j, lt_of_le_of_lt hj i.isLt⟩ hj
      (Fin.ext (congrArg (fun x : Fin N => x.val) e))) with h | ⟨h, h'⟩
    · rw [← hσ i, hord] at h; exact Or.inl h
    · rw [← hσ i, heq] at h; exact Or.inr ⟨h.symm, h'⟩
  have hinj : ∀ i j : Fin m, i < j → σ i ≠ σ j := fun i j hij e =>
    pick_new s m hm j.val j.isLt i.val hij (Fin.ext (congrArg (fun x : Fin n => x.val) e))
  rw [sortedFrom_position _ fun k k' => decide (s' k = s' k')]
  rw [hB.sortedFrom_eq_of_prefix hmn σ ?_ ?_ ?_ r]
  · intro i j e
    rcases lt_trichotomy i j with h | h | h
    · exact absurd e (hinj i j h)
    · exact h
    · exact absurd e.symm (hinj j i h)
  · intro i j hij
    exact hfirst i (σ j) fun k hk => hinj k j (lt_of_le_of_lt hk hij)
  · intro i p hp
    exact hfirst i p fun j _ => hp j

end Cert.Select
-- ==== Proof.KerRound.lean ====
/-
  ONE ROUND AT THE REALS: the marked row of a column is the first of its greatest score, striking it leaves the column's
  other scores, and the round's loss is a sum over the columns of the marked products.
-/
module

public import proofs.«01_k».proof.Proof.KerBlock
public import proofs.«01_k».proof.Proof.Select
public import proofs.«01_k».proof.Proof.Spec
public import Idealize.ShloMosaic.Lib.Pointwise
public import Idealize.ShloMosaic.Lib.ValueIdx
public import Idealize.ShloMosaic.Lib.SortNet.Extract
public import Idealize.ShloMosaic.PureOps.Ideal.Laws

@[expose] public section

set_option maxRecDepth 20000
set_option maxHeartbeats 1000000

noncomputable section

namespace Cert.KerRound

open Cert.KernelIdeal Cert.KernelIdeal.Gen Idealize.ShloMosaic Idealize.ShloMosaic.TcCoe Cert.KerBlock Cert.Spec

/-- A column of a matrix. -/
def col (s : FVec Ideal S1024x1024 .f32) (b : Fin 1024) : Fin 1024 → EReal := fun v => s (ix2 v b)

/-- The greatest entry of a column. -/
theorem fold_max {n : Nat} [NeZero n] (s : Fin n → EReal) : Finset.fold max ⊥ s Finset.univ = s (Select.top s) := by
  refine le_antisymm (Finset.fold_max_le _ |>.mpr ⟨bot_le, fun i _ => (Select.isTop_top s).1 i⟩) ?_
  exact (Finset.le_fold_max _).mpr (Or.inr ⟨_, Finset.mem_univ _, le_rfl⟩)

theorem toInt_small (v : Nat) (h : v ≤ 1024) : (BitVec.ofNat 32 v).toInt = v := by
  rw [BitVec.toInt_eq_toNat_of_lt (by rw [BitVec.toNat_ofNat]; omega), BitVec.toNat_ofNat, Nat.mod_eq_of_lt (by omega)]

theorem fold_min (p : Fin 1024 → Prop) [DecidablePred p] (k : Fin 1024) (hk : p k) (hmin : ∀ v, p v → k ≤ v) :
    Finset.fold IntOp.minsi 2147483647#32 (fun v : Fin 1024 => if p v then BitVec.ofNat 32 v.val else 1024#32) Finset.univ
      = BitVec.ofNat 32 k.val := by
  apply BitVec.eq_of_toInt_eq
  have hh : (Finset.fold IntOp.minsi 2147483647#32 (fun v : Fin 1024 => if p v then BitVec.ofNat 32 v.val else 1024#32)
      Finset.univ).toInt = Finset.fold min (2147483647#32 : BitVec 32).toInt
        (fun v : Fin 1024 => (if p v then BitVec.ofNat 32 v.val else 1024#32).toInt) Finset.univ :=
    (Finset.fold_hom (op := IntOp.minsi) (op' := min) (m := fun w : BitVec 32 => w.toInt) SortNet.toInt_minsi).symm
  have hk' : k.val ≤ 1024 := k.isLt.le
  rw [hh, toInt_small k.val hk']
  refine le_antisymm ((Finset.fold_min_le _).mpr (Or.inr ⟨k, Finset.mem_univ _, ?_⟩)) ((Finset.le_fold_min _).mpr ⟨?_, fun v _ => ?_⟩)
  · rw [if_pos hk, toInt_small k.val hk']
  · have : (2147483647#32 : BitVec 32).toInt = 2147483647 := by decide
    omega
  · split
    · rename_i hv
      rw [toInt_small v.val v.isLt.le]
      exact Int.ofNat_le.mpr (hmin v hv)
    · rw [show (1024#32 : BitVec 32).toInt = 1024 from by decide]
      omega

/-- The mark stands at the first row of the column's greatest score. -/
theorem best_apply (s : FVec Ideal S1024x1024 .f32) (v b : Fin 1024) :
    best s (ix2 v b) = if v = Select.top (col s b) then 1#1 else 0#1 := by
  unfold best rows
  pointwise
  have ht := Select.isTop_top (col s b)
  rw [bot_bits, show (Finset.fold max ⊥ (fun x => s (ix2 x b)) Finset.univ) = col s b (Select.top (col s b)) from fold_max _,
    fold_min (fun x => s (ix2 x b) = col s b (Select.top (col s b))) (Select.top (col s b)) rfl ht.2]
  show BitVec.ofBool (BitVec.ofNat 32 v.val == BitVec.ofNat 32 (Select.top (col s b)).val) = _
  by_cases h : v = Select.top (col s b)
  · rw [if_pos h, h]; simp
  · rw [if_neg h]
    have : BitVec.ofNat 32 v.val ≠ BitVec.ofNat 32 (Select.top (col s b)).val := fun e => h (by
      have hn : v.val % 2 ^ 32 = (Select.top (col s b)).val % 2 ^ 32 := by
        simpa only [BitVec.toNat_ofNat] using congrArg (fun w : BitVec 32 => w.toNat) e
      apply Fin.ext; omega)
    rw [beq_eq_false_iff_ne.mpr this]; rfl

/-- Striking the marked scores drops each column's first greatest one. -/
theorem col_strike (s : FVec Ideal S1024x1024 .f32) (b : Fin 1024) :
    col (strike s) b = Select.drop (col s b) (Select.top (col s b)) := by
  funext v
  show Scalar.select (best s (ix2 v b)) (Ideal.ofBits .f32 4286578688#32) (s (ix2 v b)) = _
  rw [best_apply, bot_bits]
  unfold Select.drop
  split <;> rfl

/-- A column's sum of marked products, where the mark stands at one row. -/
theorem marked_apply (p : IVec S1024x1024 1) (a : FVec Ideal S1024x1024 .f32) (b k : Fin 1024)
    (h : ∀ v, p (ix2 v b) = if v = k then 1#1 else 0#1) : marked p a (ix2 0 b) = a (ix2 k b) := by
  unfold marked
  pointwise
  rw [Finset.sum_eq_single k (fun v _ hv => ?_) (fun hk => absurd (Finset.mem_univ k) hk)]
  · rw [h, if_pos rfl]; rfl
  · rw [h, if_neg hv]; rfl

theorem loss_eq (x : FVec Ideal S1x1024 .f32) : loss x = ∑ b : Fin 1024, soft (x (ix2 0 b)) := by
  unfold loss
  pointwise
  rw [Fin.sum_univ_one]
  rfl

/-- A round's loss: over the columns, that of the product at the first greatest score. -/
theorem round_eq (s a : FVec Ideal S1024x1024 .f32) :
    KerBlock.round s a = ∑ b : Fin 1024, soft (a (ix2 (Select.top (col s b)) b)) := by
  unfold KerBlock.round
  rw [loss_eq]
  exact Finset.sum_congr rfl fun b _ => congrArg soft (marked_apply _ _ b _ fun v => best_apply s v b)

/-- The five rounds' losses. -/
theorem negLoss_eq (s a : FVec Ideal S1024x1024 .f32) :
    negLoss s a = ∑ r : Fin 5, ∑ b : Fin 1024, soft (a (ix2 (Select.pick (col s b) r.val) b)) := by
  unfold negLoss
  simp only [round_eq, col_strike, Fin.sum_univ_five]
  show Ideal.ofBits .f32 0#32 + _ + _ + _ + _ + _ = _
  rw [Ideal.ofBits_zero_f32, zero_add]
  rfl

end Cert.KerRound

end
-- ==== Proof.KerNoise.lean ====
/-
  The kernel program's noise is `Noise.noise` of its key: its host stretch that draws the noise, cut as the reference's.
-/
module

public import proofs.«01_k».proof.Proof.Gen.KernelIdeal.Launch
public import proofs.«01_k».proof.Proof.Noise
public import Idealize.ShloMosaic.Lib.Pipeline.Frame

@[expose] public section

set_option maxRecDepth 40000
set_option maxHeartbeats 40000000

noncomputable section

namespace Cert.KerRun

open Cert.KernelIdeal Cert.KernelIdeal.Gen Idealize.ShloMosaic Idealize.ShloMosaic.TcCoe Idealize.SL.Sem Idealize.ShloMosaic.StableHlo Cert.Noise

variable {F : FTy → Type} [FloatOps F]

/-- The counters and the key's words, up to the generator's first round. -/
abbrev opsCount : List (HloOp τ sig (Elt F)) := hostOps0_3.take 30

/-- The generator's rounds 1 to 4 and the key injection after them. -/
abbrev opsGen0 : List (HloOp τ sig (Elt F)) :=
  tfRound bcast_S_S20480x1000 13#32 19#32 (.of main_call1_call0_call0_v3) (.of main_call1_call0_call0_v5) (.of main_call1_call0_call0_v6) (.of main_call1_call0_call0_c_0) (.of main_call1_call0_call0_v7) (.of main_call1_call0_call0_v8) (.of main_call1_call0_call0_c_1) (.of main_call1_call0_call0_v9) (.of main_call1_call0_call0_v10) (.of main_call1_call0_call0_v11) (.of main_call1_call0_call0_v12)
    ++ tfRound bcast_S_S20480x1000 15#32 17#32 (.of main_call1_call0_call0_v6) (.of main_call1_call0_call0_v12) (.of main_call1_call0_call0_v13) (.of main_call1_call0_call0_c_2) (.of main_call1_call0_call0_v14) (.of main_call1_call0_call0_v15) (.of main_call1_call0_call0_c_3) (.of main_call1_call0_call0_v16) (.of main_call1_call0_call0_v17) (.of main_call1_call0_call0_v18) (.of main_call1_call0_call0_v19)
    ++ tfRound bcast_S_S20480x1000 26#32 6#32 (.of main_call1_call0_call0_v13) (.of main_call1_call0_call0_v19) (.of main_call1_call0_call0_v20) (.of main_call1_call0_call0_c_4) (.of main_call1_call0_call0_v21) (.of main_call1_call0_call0_v22) (.of main_call1_call0_call0_c_5) (.of main_call1_call0_call0_v23) (.of main_call1_call0_call0_v24) (.of main_call1_call0_call0_v25) (.of main_call1_call0_call0_v26)
    ++ tfRound bcast_S_S20480x1000 6#32 26#32 (.of main_call1_call0_call0_v20) (.of main_call1_call0_call0_v26) (.of main_call1_call0_call0_v27) (.of main_call1_call0_call0_c_6) (.of main_call1_call0_call0_v28) (.of main_call1_call0_call0_v29) (.of main_call1_call0_call0_c_7) (.of main_call1_call0_call0_v30) (.of main_call1_call0_call0_v31) (.of main_call1_call0_call0_v32) (.of main_call1_call0_call0_v33)
    ++ tfInject bcast_S_S20480x1000 1#32 (.of main_call1_call0_v6) (.of main_call1_call0_call0_v1) (.of main_call1_call0_call0_v27) (.of main_call1_call0_call0_v33) (.of main_call1_call0_call0_v34) (.of main_call1_call0_call0_v35) (.of main_call1_call0_call0_v36) (.of main_call1_call0_call0_v37) (.of main_call1_call0_call0_c_8) (.of main_call1_call0_call0_v38) (.of main_call1_call0_call0_v39)

/-- The generator's rounds 5 to 8 and the key injection after them. -/
abbrev opsGen1 : List (HloOp τ sig (Elt F)) :=
  tfRound bcast_S_S20480x1000 17#32 15#32 (.of main_call1_call0_call0_v35) (.of main_call1_call0_call0_v39) (.of main_call1_call0_call0_v40) (.of main_call1_call0_call0_c_9) (.of main_call1_call0_call0_v41) (.of main_call1_call0_call0_v42) (.of main_call1_call0_call0_c_10) (.of main_call1_call0_call0_v43) (.of main_call1_call0_call0_v44) (.of main_call1_call0_call0_v45) (.of main_call1_call0_call0_v46)
    ++ tfRound bcast_S_S20480x1000 29#32 3#32 (.of main_call1_call0_call0_v40) (.of main_call1_call0_call0_v46) (.of main_call1_call0_call0_v47) (.of main_call1_call0_call0_c_11) (.of main_call1_call0_call0_v48) (.of main_call1_call0_call0_v49) (.of main_call1_call0_call0_c_12) (.of main_call1_call0_call0_v50) (.of main_call1_call0_call0_v51) (.of main_call1_call0_call0_v52) (.of main_call1_call0_call0_v53)
    ++ tfRound bcast_S_S20480x1000 16#32 16#32 (.of main_call1_call0_call0_v47) (.of main_call1_call0_call0_v53) (.of main_call1_call0_call0_v54) (.of main_call1_call0_call0_c_13) (.of main_call1_call0_call0_v55) (.of main_call1_call0_call0_v56) (.of main_call1_call0_call0_c_14) (.of main_call1_call0_call0_v57) (.of main_call1_call0_call0_v58) (.of main_call1_call0_call0_v59) (.of main_call1_call0_call0_v60)
    ++ tfRound bcast_S_S20480x1000 24#32 8#32 (.of main_call1_call0_call0_v54) (.of main_call1_call0_call0_v60) (.of main_call1_call0_call0_v61) (.of main_call1_call0_call0_c_15) (.of main_call1_call0_call0_v62) (.of main_call1_call0_call0_v63) (.of main_call1_call0_call0_c_16) (.of main_call1_call0_call0_v64) (.of main_call1_call0_call0_v65) (.of main_call1_call0_call0_v66) (.of main_call1_call0_call0_v67)
    ++ tfInject bcast_S_S20480x1000 2#32 (.of main_call1_call0_call0_v1) (.of main_call1_call0_v4) (.of main_call1_call0_call0_v61) (.of main_call1_call0_call0_v67) (.of main_call1_call0_call0_v68) (.of main_call1_call0_call0_v69) (.of main_call1_call0_call0_v70) (.of main_call1_call0_call0_v71) (.of main_call1_call0_call0_c_17) (.of main_call1_call0_call0_v72) (.of main_call1_call0_call0_v73)

/-- The generator's rounds 9 to 12 and the key injection after them. -/
abbrev opsGen2 : List (HloOp τ sig (Elt F)) :=
  tfRound bcast_S_S20480x1000 13#32 19#32 (.of main_call1_call0_call0_v69) (.of main_call1_call0_call0_v73) (.of main_call1_call0_call0_v74) (.of main_call1_call0_call0_c_18) (.of main_call1_call0_call0_v75) (.of main_call1_call0_call0_v76) (.of main_call1_call0_call0_c_19) (.of main_call1_call0_call0_v77) (.of main_call1_call0_call0_v78) (.of main_call1_call0_call0_v79) (.of main_call1_call0_call0_v80)
    ++ tfRound bcast_S_S20480x1000 15#32 17#32 (.of main_call1_call0_call0_v74) (.of main_call1_call0_call0_v80) (.of main_call1_call0_call0_v81) (.of main_call1_call0_call0_c_20) (.of main_call1_call0_call0_v82) (.of main_call1_call0_call0_v83) (.of main_call1_call0_call0_c_21) (.of main_call1_call0_call0_v84) (.of main_call1_call0_call0_v85) (.of main_call1_call0_call0_v86) (.of main_call1_call0_call0_v87)
    ++ tfRound bcast_S_S20480x1000 26#32 6#32 (.of main_call1_call0_call0_v81) (.of main_call1_call0_call0_v87) (.of main_call1_call0_call0_v88) (.of main_call1_call0_call0_c_22) (.of main_call1_call0_call0_v89) (.of main_call1_call0_call0_v90) (.of main_call1_call0_call0_c_23) (.of main_call1_call0_call0_v91) (.of main_call1_call0_call0_v92) (.of main_call1_call0_call0_v93) (.of main_call1_call0_call0_v94)
    ++ tfRound bcast_S_S20480x1000 6#32 26#32 (.of main_call1_call0_call0_v88) (.of main_call1_call0_call0_v94) (.of main_call1_call0_call0_v95) (.of main_call1_call0_call0_c_24) (.of main_call1_call0_call0_v96) (.of main_call1_call0_call0_v97) (.of main_call1_call0_call0_c_25) (.of main_call1_call0_call0_v98) (.of main_call1_call0_call0_v99) (.of main_call1_call0_call0_v100) (.of main_call1_call0_call0_v101)
    ++ tfInject bcast_S_S20480x1000 3#32 (.of main_call1_call0_v4) (.of main_call1_call0_v6) (.of main_call1_call0_call0_v95) (.of main_call1_call0_call0_v101) (.of main_call1_call0_call0_v102) (.of main_call1_call0_call0_v103) (.of main_call1_call0_call0_v104) (.of main_call1_call0_call0_v105) (.of main_call1_call0_call0_c_26) (.of main_call1_call0_call0_v106) (.of main_call1_call0_call0_v107)

/-- The generator's rounds 13 to 16 and the key injection after them. -/
abbrev opsGen3 : List (HloOp τ sig (Elt F)) :=
  tfRound bcast_S_S20480x1000 17#32 15#32 (.of main_call1_call0_call0_v103) (.of main_call1_call0_call0_v107) (.of main_call1_call0_call0_v108) (.of main_call1_call0_call0_c_27) (.of main_call1_call0_call0_v109) (.of main_call1_call0_call0_v110) (.of main_call1_call0_call0_c_28) (.of main_call1_call0_call0_v111) (.of main_call1_call0_call0_v112) (.of main_call1_call0_call0_v113) (.of main_call1_call0_call0_v114)
    ++ tfRound bcast_S_S20480x1000 29#32 3#32 (.of main_call1_call0_call0_v108) (.of main_call1_call0_call0_v114) (.of main_call1_call0_call0_v115) (.of main_call1_call0_call0_c_29) (.of main_call1_call0_call0_v116) (.of main_call1_call0_call0_v117) (.of main_call1_call0_call0_c_30) (.of main_call1_call0_call0_v118) (.of main_call1_call0_call0_v119) (.of main_call1_call0_call0_v120) (.of main_call1_call0_call0_v121)
    ++ tfRound bcast_S_S20480x1000 16#32 16#32 (.of main_call1_call0_call0_v115) (.of main_call1_call0_call0_v121) (.of main_call1_call0_call0_v122) (.of main_call1_call0_call0_c_31) (.of main_call1_call0_call0_v123) (.of main_call1_call0_call0_v124) (.of main_call1_call0_call0_c_32) (.of main_call1_call0_call0_v125) (.of main_call1_call0_call0_v126) (.of main_call1_call0_call0_v127) (.of main_call1_call0_call0_v128)
    ++ tfRound bcast_S_S20480x1000 24#32 8#32 (.of main_call1_call0_call0_v122) (.of main_call1_call0_call0_v128) (.of main_call1_call0_call0_v129) (.of main_call1_call0_call0_c_33) (.of main_call1_call0_call0_v130) (.of main_call1_call0_call0_v131) (.of main_call1_call0_call0_c_34) (.of main_call1_call0_call0_v132) (.of main_call1_call0_call0_v133) (.of main_call1_call0_call0_v134) (.of main_call1_call0_call0_v135)
    ++ tfInject bcast_S_S20480x1000 4#32 (.of main_call1_call0_v6) (.of main_call1_call0_call0_v1) (.of main_call1_call0_call0_v129) (.of main_call1_call0_call0_v135) (.of main_call1_call0_call0_v136) (.of main_call1_call0_call0_v137) (.of main_call1_call0_call0_v138) (.of main_call1_call0_call0_v139) (.of main_call1_call0_call0_c_35) (.of main_call1_call0_call0_v140) (.of main_call1_call0_call0_v141)

/-- The generator's rounds 17 to 20 and the key injection after them. -/
abbrev opsGen4 : List (HloOp τ sig (Elt F)) :=
  tfRound bcast_S_S20480x1000 13#32 19#32 (.of main_call1_call0_call0_v137) (.of main_call1_call0_call0_v141) (.of main_call1_call0_call0_v142) (.of main_call1_call0_call0_c_36) (.of main_call1_call0_call0_v143) (.of main_call1_call0_call0_v144) (.of main_call1_call0_call0_c_37) (.of main_call1_call0_call0_v145) (.of main_call1_call0_call0_v146) (.of main_call1_call0_call0_v147) (.of main_call1_call0_call0_v148)
    ++ tfRound bcast_S_S20480x1000 15#32 17#32 (.of main_call1_call0_call0_v142) (.of main_call1_call0_call0_v148) (.of main_call1_call0_call0_v149) (.of main_call1_call0_call0_c_38) (.of main_call1_call0_call0_v150) (.of main_call1_call0_call0_v151) (.of main_call1_call0_call0_c_39) (.of main_call1_call0_call0_v152) (.of main_call1_call0_call0_v153) (.of main_call1_call0_call0_v154) (.of main_call1_call0_call0_v155)
    ++ tfRound bcast_S_S20480x1000 26#32 6#32 (.of main_call1_call0_call0_v149) (.of main_call1_call0_call0_v155) (.of main_call1_call0_call0_v156) (.of main_call1_call0_call0_c_40) (.of main_call1_call0_call0_v157) (.of main_call1_call0_call0_v158) (.of main_call1_call0_call0_c_41) (.of main_call1_call0_call0_v159) (.of main_call1_call0_call0_v160) (.of main_call1_call0_call0_v161) (.of main_call1_call0_call0_v162)
    ++ tfRound bcast_S_S20480x1000 6#32 26#32 (.of main_call1_call0_call0_v156) (.of main_call1_call0_call0_v162) (.of main_call1_call0_call0_v163) (.of main_call1_call0_call0_c_42) (.of main_call1_call0_call0_v164) (.of main_call1_call0_call0_v165) (.of main_call1_call0_call0_c_43) (.of main_call1_call0_call0_v166) (.of main_call1_call0_call0_v167) (.of main_call1_call0_call0_v168) (.of main_call1_call0_call0_v169)
    ++ tfInject bcast_S_S20480x1000 5#32 (.of main_call1_call0_call0_v1) (.of main_call1_call0_v4) (.of main_call1_call0_call0_v163) (.of main_call1_call0_call0_v169) (.of main_call1_call0_call0_v170) (.of main_call1_call0_v18_0) (.of main_call1_call0_call0_v172) (.of main_call1_call0_call0_v173) (.of main_call1_call0_call0_c_44) (.of main_call1_call0_call0_v174) (.of main_call1_call0_v18_1)

/-- The generator's twenty rounds. -/
def opsGen : List (HloOp τ sig (Elt F)) := opsGen0 ++ (opsGen1 ++ (opsGen2 ++ (opsGen3 ++ opsGen4)))

/-- Words to noise. -/
abbrev opsBits : List (HloOp τ sig (Elt F)) := hostOps0_3.drop 245

/-- The stretch is its three parts. -/
theorem stretch_eq : (hostOps0_3 : List (HloOp τ sig (Elt F))) = opsCount ++ (opsGen ++ opsBits) := rfl

theorem opsGen_tidy : Tidy 56 271 (opsGen (F := F)) := by
  simp only [opsGen, opsGen0, opsGen1, opsGen2, opsGen3, opsGen4, tfRound, tfInject, List.cons_append, List.nil_append, tidy_cons, tidy_nil, TRef.nullary, TRef.unary, TRef.binary, TRef.ternary, TRef.reshape, tidy_nullary, tidy_unary, tidy_binary, tidy_ternary,
    tidy_reshape]
  and_intros <;> decide

theorem stretch_tidy : Tidy 26 293 (hostOps0_3 (F := F)) := by
  simp only [hostOps0_3, tidy_cons, tidy_nil, TRef.nullary, TRef.unary, TRef.binary, TRef.ternary, TRef.reshape, tidy_nullary, tidy_unary, tidy_binary, tidy_ternary,
    tidy_reshape]
  and_intros <;> decide

abbrev k0 : TRef sig ⟨S0, .i32⟩ := .of main_call1_call0_v4
abbrev k1 : TRef sig ⟨S0, .i32⟩ := .of main_call1_call0_v6
abbrev k2 : TRef sig ⟨S0, .i32⟩ := .of main_call1_call0_call0_v1
abbrev w0 : TRef sig ⟨SN, .i32⟩ := .of main_call1_call0_v18_0
abbrev w1 : TRef sig ⟨SN, .i32⟩ := .of main_call1_call0_v18_1
abbrev s0 : TRef sig ⟨SN, .i32⟩ := .of main_call1_call0_call0_v3
abbrev s1 : TRef sig ⟨SN, .i32⟩ := .of main_call1_call0_call0_v5

/-- What the counters' stretch leaves: the key's words, the pair the rounds start from, and two constants. -/
theorem count_read (V : Valuation τ sig (Elt F)) :
    rd k0 (after opsCount V) = key0 (F := F) (V (Proc.devRef .tc main_v14))
    ∧ rd k1 (after opsCount V) = key1 (F := F) (V (Proc.devRef .tc main_v14))
    ∧ rd k2 (after opsCount V) = key2 (F := F) (V (Proc.devRef .tc main_v14))
    ∧ rd2 s0 s1 (after opsCount V) = startFn (F := F) (V (Proc.devRef .tc main_v14))
    ∧ after opsCount V (Proc.devRef .tc main_call1_call0_v1) = tiny (F := F)
    ∧ after opsCount V (Proc.devRef .tc main_call1_call0_v2) = one (F := F) := by
  unfold rd2 rd
  simp only [opsCount, hostOps0_3, List.take_succ_cons, List.take_zero, TRef.binary, TRef.nullary, TRef.ternary, TRef.unary, TRef.reshape, TRef.toBuf, TRef.ofBuf, cast_eq]
  refine ⟨?_, ?_, ?_, Prod.ext ?_ ?_, ?_, ?_⟩ <;> after_results_simp <;> rfl

/-- The rounds' stretch computes `wordsFn`. -/
theorem gen_read (V : Valuation τ sig (Elt F)) : rd2 w0 w1 (after opsGen V) = wordsFn (rd k0 V) (rd k1 V) (rd k2 V) (rd2 s0 s1 V) := by
  simp (disch := decide) only [opsGen, opsGen0, opsGen1, opsGen2, opsGen3, opsGen4, after_append, rd2_inject, rd2_round, rd_round, rd_inject, wordsFn, genA, genB]

/-- The last stretch computes `noiseFn`. -/
theorem bits_read (V : Valuation τ sig (Elt F)) (h1 : V (Proc.devRef .tc main_call1_call0_v1) = tiny (F := F)) (h2 : V (Proc.devRef .tc main_call1_call0_v2) = one (F := F)) :
    after opsBits V (Proc.devRef .tc main_v15) = noiseFn (F := F) (rd2 w0 w1 V) := by
  unfold noiseFn fracFn
  rw [← h1, ← h2]
  unfold rd2 rd
  simp only [opsBits, hostOps0_3, List.drop_succ_cons, List.drop_zero, TRef.binary, TRef.nullary, TRef.ternary, TRef.unary, TRef.reshape, TRef.toBuf, TRef.ofBuf, cast_eq]
  after_results_simp

/-- The three stretches together: the noise. -/
theorem noise_read (V : Valuation τ sig (Elt F)) :
    after hostOps0_3 V (Proc.devRef .tc main_v15) = noise (F := F) (V (Proc.devRef .tc main_v14)) := by
  rw [stretch_eq, after_append, after_append]
  obtain ⟨e0, e1, e2, e3, e4, e5⟩ := count_read V
  rw [bits_read _ ((opsGen_tidy.keep _ _ (Or.inl (by decide))).trans e4) ((opsGen_tidy.keep _ _ (Or.inl (by decide))).trans e5), gen_read, e0, e1, e2, e3]
  rfl

end Cert.KerRun

end
-- ==== Proof.KerHost.lean ====
/-
  WHAT THE KERNEL IS GIVEN: the five arrays its windows read, as functions of the program's arguments.
-/
module

public import proofs.«01_k».proof.Proof.KerNoise
public import proofs.«01_k».proof.Proof.Gen.KernelIdeal.Frame.Runs
public import Idealize.ShloMosaic.Lib.Pipeline.Frame

@[expose] public section

set_option maxRecDepth 20000
set_option maxHeartbeats 4000000

noncomputable section

namespace Cert.KerHost

open Cert.KernelIdeal Cert.KernelIdeal.Gen Idealize.ShloMosaic Idealize.ShloMosaic.TcCoe Idealize.SL.Sem Idealize.ShloMosaic.StableHlo Cert.Noise

variable {F : FTy → Type} [FloatOps F]

theorem tidy0 : Tidy 4 12 (hostOps0 (F := F)) := by
  simp only [hostOps0, tidy_cons, tidy_nil, tidy_nullary, tidy_unary, tidy_binary, tidy_ternary, tidy_reshape]
  and_intros <;> decide
theorem tidy1 : Tidy 12 14 (hostOps0_1 (F := F)) := by
  simp only [hostOps0_1, tidy_cons, tidy_nil, TRef.nullary, TRef.unary, TRef.binary, TRef.ternary, TRef.reshape, tidy_nullary,
    tidy_unary, tidy_binary, tidy_ternary, tidy_reshape]
  and_intros <;> decide
theorem tidy2 : Tidy 14 26 (hostOps0_2 (F := F)) := by
  simp only [hostOps0_2, tidy_cons, tidy_nil, tidy_nullary, tidy_unary, tidy_binary, tidy_ternary, tidy_reshape]
  and_intros <;> decide
theorem tidy4 : Tidy 293 301 (hostOps0_4 (F := F)) := by
  simp only [hostOps0_4, tidy_cons, tidy_nil, tidy_nullary, tidy_unary, tidy_binary, tidy_ternary, tidy_reshape]
  and_intros <;> decide

/-- The embeddings, a row a (sentence, position, context) triple. -/
def embs (x : Vec F S1024x5x4x128 .f32) : Vec F S20480x128 .f32 := shapeCast S20480x128 x shapeCasts_S1024x5x4x128_S20480x128
/-- The targets, a row of 1024 a grid point. -/
def targets (x : Vec F S1024x5x4 .i32) : Vec F S20x1x1024 .i32 := shapeCast S20x1x1024 x shapeCasts_S1024x5x4_S20x1x1024
/-- The output layer, padded with zero rows. -/
def layer (x : Vec F S1000x128 .f32) : Vec F S1024x128 .f32 :=
  Host.scatter scatter_S1024x128_S1_S1000x128_01_n_0_0 (fun _ b => b)
    (broadcastInDim S1024x128 ![] bcast_S_S1024x128 (constant S_ .f32 0x00000000#32 : FVec F S_ .f32))
    (broadcastInDim S1 ![] bcast_S_S1 (constantI S_ 32 0#32)) x
/-- The frequencies, padded with zeros, in every column. -/
def freqs (x : Vec F S1000 .f32) : Vec F S1024x128 .f32 :=
  broadcastInDim S1024x128 ![0, 1] bcast_S1024x1_S1024x128_0_1 (broadcastInDim S1024x1 ![0] bcast_S1024_S1024x1_0
    (pad S1024 ![0] ![24] ![0] x (sitofp .f32 (constantI S_ 32 0#32) : FVec F S_ .f32) pads_S1000_S1024_0240 h_S_))
/-- The noise, padded with zero rows, a matrix a grid point. -/
def noises (x : Vec F S20480x1000 .f32) : Vec F S20x1024x1024 .f32 :=
  transpose S20x1024x1024 [1, 0, 2] (shapeCast S1024x20x1024
    (Host.scatter scatter_S1024x20480_S1_S1000x20480_01_n_0_0 (fun _ b => b)
      (broadcastInDim S1024x20480 ![] bcast_S_S1024x20480 (constant S_ .f32 0x00000000#32 : FVec F S_ .f32))
      (broadcastInDim S1 ![] bcast_S_S1 (constantI S_ 32 0#32))
      (transpose S1000x20480 [1, 0] x transposes_S20480x1000_S1000x20480_1_0)) shapeCasts_S1024x20480_S1024x20x1024)
    transposes_S1024x20x1024_S20x1024x1024_1_0_2

section reads
variable (W : Valuation τ sig (Elt F))

theorem read0_0 : after hostOps0 W (Proc.devRef .tc main_v0) = embs (F := F) (W (Proc.devRef .tc main_arg0)) := by
  simp only [hostOps0]; after_results_simp; rfl
theorem read0_1 : after hostOps0 W (Proc.devRef .tc main_v1) = targets (F := F) (W (Proc.devRef .tc main_arg1)) := by
  simp only [hostOps0]; after_results_simp; rfl
theorem read0_4 : after hostOps0 W (Proc.devRef .tc main_v4) = layer (F := F) (W (Proc.devRef .tc main_arg2)) := by
  simp only [hostOps0]; after_results_simp; rfl
theorem read0_c : after hostOps0 W (Proc.devRef .tc main_c_0) = (constantI S_ 32 0#32 : Vec F S_ .i32) := by
  simp only [hostOps0]; after_results_simp; try rfl
theorem read1_5 : after hostOps0_1 W (Proc.devRef .tc main_v5) = (pad S1024 ![0] ![24] ![0] (W (Proc.devRef .tc main_arg3))
    (sitofp .f32 (W (Proc.devRef .tc main_c_0)) : FVec F S_ .f32) pads_S1000_S1024_0240 h_S_ : Vec F S1024 .f32) := by
  simp only [hostOps0_1, TRef.binary, TRef.unary, TRef.toBuf, TRef.ofBuf, cast_eq]; after_results_simp; try rfl
theorem read2_7 : after hostOps0_2 W (Proc.devRef .tc main_v7) = (broadcastInDim S1024x128 ![0, 1] bcast_S1024x1_S1024x128_0_1
    (broadcastInDim S1024x1 ![0] bcast_S1024_S1024x1_0 (W (Proc.devRef .tc main_v5) : Vec F S1024 .f32)) : Vec F S1024x128 .f32) := by
  simp only [hostOps0_2]; after_results_simp; try rfl
theorem read2_14 : after hostOps0_2 W (Proc.devRef .tc main_v14) = key (F := F) := by
  simp only [hostOps0_2]; after_results_simp; try rfl
theorem read4_21 : after hostOps0_4 W (Proc.devRef .tc main_v21) = noises (F := F) (W (Proc.devRef .tc main_v15)) := by
  simp only [hostOps0_4]; after_results_simp; try rfl
end reads

variable (m : (ℓ : Loc nD τ sig) → Buf (Elt F) ℓ) (c : Dev nD)

theorem V_eq (b : Ref sig .tc) : V m c b = after hostOps0_4 (after hostOps0_3 (after hostOps0_2 (after hostOps0_1
    (after hostOps0 (fun b => m (c, b)))))) (Proc.devRef .tc b) := by
  unfold V V0
  simp only [List.flatten_cons, List.flatten_nil, List.append_nil, after_append]

theorem V_v0 : V m c main_v0 = embs (F := F) (m ((c : Thread nD τ).loc main_arg0)) := by
  rw [V_eq, tidy4.keep _ _ (Or.inl (by decide)), KerRun.stretch_tidy.keep _ _ (Or.inl (by decide)),
    tidy2.keep _ _ (Or.inl (by decide)), tidy1.keep _ _ (Or.inl (by decide)), read0_0]
theorem V_v1 : V m c main_v1 = targets (F := F) (m ((c : Thread nD τ).loc main_arg1)) := by
  rw [V_eq, tidy4.keep _ _ (Or.inl (by decide)), KerRun.stretch_tidy.keep _ _ (Or.inl (by decide)),
    tidy2.keep _ _ (Or.inl (by decide)), tidy1.keep _ _ (Or.inl (by decide)), read0_1]
theorem V_v4 : V m c main_v4 = layer (F := F) (m ((c : Thread nD τ).loc main_arg2)) := by
  rw [V_eq, tidy4.keep _ _ (Or.inl (by decide)), KerRun.stretch_tidy.keep _ _ (Or.inl (by decide)),
    tidy2.keep _ _ (Or.inl (by decide)), tidy1.keep _ _ (Or.inl (by decide)), read0_4]
theorem V_v7 : V m c main_v7 = freqs (F := F) (m ((c : Thread nD τ).loc main_arg3)) := by
  rw [V_eq, tidy4.keep _ _ (Or.inl (by decide)), KerRun.stretch_tidy.keep _ _ (Or.inl (by decide)), read2_7, read1_5,
    read0_c, tidy0.keep _ _ (Or.inl (by decide))]
  rfl
theorem V_v21 : V m c main_v21 = noises (F := F) (noise (F := F) key) := by
  rw [V_eq, read4_21, KerRun.noise_read, read2_14]

end Cert.KerHost

end
-- ==== Proof.KerWindows.lean ====
/-
  WHAT THE WINDOWS' BLOCKS HOLD: each entry of each block, from the program's arguments.
-/
module

public import proofs.«01_k».proof.Proof.KerHost
public import proofs.«01_k».proof.Proof.KerBlock
public import proofs.«01_k».proof.Proof.Rows
public import Idealize.ShloMosaic.Lib.Pointwise
public import Idealize.ShloMosaic.Lib.Routing.OpsSet
public import Idealize.ShloMosaic.Lib.KernelVsHost
public import Idealize.ShloMosaic.PureOps.Ideal.Laws

@[expose] public section

set_option maxRecDepth 20000
set_option maxHeartbeats 1000000

noncomputable section

namespace Cert.KerWindows

open Cert.KernelIdeal Cert.KernelIdeal.Gen Idealize.ShloMosaic Idealize.ShloMosaic.TcCoe Cert.KerHost Cert.Rows

/-- The layer's padded rows: its own, then zeros. -/
theorem layer_apply (x : FVec Ideal S1000x128 .f32) (v : Fin 1024) (d : Fin 128) :
    layer (F := Ideal) x (ix2 v d) = if h : v.val < 1000 then x (ix2 ⟨v.val, h⟩ d) else (0 : EReal) := by
  unfold layer
  split
  · rename_i h
    refine Routing.scatter_set_hit _ _ _ _ _ _ (fun k hk => ?_) (ix2 ⟨v.val, h⟩ d) ?_
    · have e := (Routing.resultIdx?_eq_some _ _ _ _).mp hk
      have e0 : (0 : Int) + ((k 0).val : Int) = (v.val : Int) := e 0
      have e1 : (0 : Int) + ((k 1).val : Int) = (d.val : Int) := e 1
      refine congrArg x (funext fun a => Fin.ext ?_)
      match a with
      | ⟨0, _⟩ => show (k 0).val = v.val; omega
      | ⟨1, _⟩ => show (k 1).val = d.val; omega
    · refine (Routing.resultIdx?_eq_some _ _ _ _).mpr fun a => ?_
      match a with
      | ⟨0, _⟩ => show (0 : Int) + (v.val : Int) = (v.val : Int); omega
      | ⟨1, _⟩ => show (0 : Int) + (d.val : Int) = (d.val : Int); omega
  · rename_i h
    rw [Routing.scatter_set_miss _ _ _ _ _ fun k hk => ?_]
    · exact Ideal.ofBits_zero_f32
    · have e0 : (0 : Int) + ((k 0).val : Int) = (v.val : Int) := (Routing.resultIdx?_eq_some _ _ _ _).mp hk 0
      have : (k 0).val < 1000 := (k 0).isLt
      omega

/-- The frequencies' padded column. -/
theorem freqs_apply (x : FVec Ideal S1000 .f32) (v : Fin 1024) (d : Fin 128) :
    freqs (F := Ideal) x (ix2 v d) = if h : v.val < 1000 then x (ix1 ⟨v.val, h⟩) else (0 : EReal) := by
  unfold freqs
  split
  · rename_i h
    refine (?_ : _ = pad S1024 ![0] ![24] ![0] x (sitofp .f32 (constantI S_ 32 0#32) : FVec Ideal S_ .f32)
      pads_S1000_S1024_0240 h_S_ (ix1 v)).trans (pad_apply_of_inside _ _ _ _ _ _ _ _ _ fun a => ?_)
    · pointwise
    · match a with
      | ⟨0, _⟩ => show v.val = 0 + v.val * (0 + 1); omega
  · rename_i h
    refine (?_ : _ = pad S1024 ![0] ![24] ![0] x (sitofp .f32 (constantI S_ 32 0#32) : FVec Ideal S_ .f32)
      pads_S1000_S1024_0240 h_S_ (ix1 v)).trans ((pad_apply_of_not_inside _ _ _ _ _ _ _ _ 0 fun hc => ?_).trans ?_)
    · pointwise
    · have : (v.val - 0) / (0 + 1) < 1000 := hc.2.2
      omega
    · show (((0#32 : BitVec 32).toInt : ℝ) : EReal) = 0
      simp

/-- The noise's padded matrices. -/
theorem noises_apply (x : FVec Ideal S20480x1000 .f32) (t : Fin 20) (v b : Fin 1024) :
    noises (F := Ideal) x (ix3 t v b) = if h : v.val < 1000 then x (ix2 (at' t b) ⟨v.val, h⟩) else (0 : EReal) := by
  unfold noises
  refine (?_ : _ = (Host.scatter scatter_S1024x20480_S1_S1000x20480_01_n_0_0 (fun _ b => b)
      (broadcastInDim S1024x20480 ![] bcast_S_S1024x20480 (constant S_ .f32 0x00000000#32 : FVec Ideal S_ .f32))
      (broadcastInDim S1 ![] bcast_S_S1 (constantI S_ 32 0#32))
      (transpose S1000x20480 [1, 0] x transposes_S20480x1000_S1000x20480_1_0)) (ix2 v (at' t b))).trans ?_
  · pointwise
  split
  · rename_i h
    refine (Routing.scatter_set_hit _ _ _ _ _ (transpose S1000x20480 [1, 0] x transposes_S20480x1000_S1000x20480_1_0
      (ix2 ⟨v.val, h⟩ (at' t b))) (fun k hk => ?_) (ix2 ⟨v.val, h⟩ (at' t b)) ?_).trans ?_
    · have e := (Routing.resultIdx?_eq_some _ _ _ _).mp hk
      have e0 : (0 : Int) + ((k 0).val : Int) = (v.val : Int) := e 0
      have e1 : (0 : Int) + ((k 1).val : Int) = ((at' t b).val : Int) := e 1
      refine congrArg (transpose S1000x20480 [1, 0] x transposes_S20480x1000_S1000x20480_1_0) (funext fun a => Fin.ext ?_)
      match a with
      | ⟨0, _⟩ => show (k 0).val = v.val; omega
      | ⟨1, _⟩ => show (k 1).val = (at' t b).val; omega
    · refine (Routing.resultIdx?_eq_some _ _ _ _).mpr fun a => ?_
      match a with
      | ⟨0, _⟩ => show (0 : Int) + (v.val : Int) = (v.val : Int); omega
      | ⟨1, _⟩ => show (0 : Int) + ((at' t b).val : Int) = ((at' t b).val : Int); omega
    · pointwise
  · rename_i h
    rw [Routing.scatter_set_miss _ _ _ _ _ fun k hk => ?_]
    · exact Ideal.ofBits_zero_f32
    · have e0 : (0 : Int) + ((k 0).val : Int) = (v.val : Int) := (Routing.resultIdx?_eq_some _ _ _ _).mp hk 0
      have : (k 0).val < 1000 := (k 0).isLt
      omega

theorem embs_apply (x : FVec Ideal S1024x5x4x128 .f32) (n : Fin 20480) (d : Fin 128) :
    embs (F := Ideal) x (ix2 n d) = x (ix4 (sen n) (pos n) (ctx n) d) := by
  unfold embs
  refine congrArg x (Shape.reshapeEquiv_eq_of_vals _ _ _ _ _ (rowMajor_val4 _ 2560 512 128 rfl rfl rfl)
    (rowMajor_val2 _ 128 rfl) ?_)
  show n.val / 20 * 2560 + n.val / 4 % 5 * 512 + n.val % 4 * 128 + d.val = n.val * 128 + d.val
  omega

theorem targets_apply (x : IVec S1024x5x4 32) (t : Fin 20) (b : Fin 1024) :
    targets (F := Ideal) x (ix3 t 0 b) = x (ix3 (sen (at' t b)) (pos (at' t b)) (ctx (at' t b))) := by
  unfold targets
  refine congrArg x (Shape.reshapeEquiv_eq_of_vals _ _ _ _ _ (rowMajor_val3 _ 20 4 rfl rfl)
    (rowMajor_val3 _ 1024 1024 rfl rfl) ?_)
  show (t.val * 1024 + b.val) / 20 * 20 + (t.val * 1024 + b.val) / 4 % 5 * 4 + (t.val * 1024 + b.val) % 4
    = t.val * 1024 + 0 * 1024 + b.val
  omega

section blocks

/-- A grid point among the twenty. -/
abbrev pt (t : Fin cfg0.N) : Fin 20 := ⟨t.val, lt_of_lt_of_eq t.isLt N_0⟩

theorem index0 : ∀ t : Fin cfg0.N, win0_0.index t 0 = t.val ∧ win0_0.index t 1 = 0 ∧ win0_0.index t 2 = 0 := by decide +kernel
theorem index1 : ∀ t : Fin cfg0.N, win0_1.index t 0 = t.val ∧ win0_1.index t 1 = 0 ∧ win0_1.index t 2 = 0 := by decide +kernel
theorem index2 : ∀ t : Fin cfg0.N, win0_2.index t 0 = 0 ∧ win0_2.index t 1 = 0 := by decide +kernel
theorem index3 : ∀ t : Fin cfg0.N, win0_3.index t 0 = 0 ∧ win0_3.index t 1 = 0 := by decide +kernel
theorem index4 : ∀ t : Fin cfg0.N, win0_4.index t 0 = t.val ∧ win0_4.index t 1 = 0 := by decide +kernel

theorem read0 (t : Fin cfg0.N) (X : Vec Ideal S20x1x1024 .i32) (b : Fin 1024) :
    (((cfg0.win 0).blk t).view.read (Elt Ideal) X : Vec Ideal S1x1x1024 .i32) (ix3 0 0 b) = X (ix3 (pt t) 0 b) := by
  obtain ⟨h0, h1, h2⟩ := index0 t
  rw [View.read_apply]
  refine congrArg X (funext fun a => Fin.ext ?_)
  match a with
  | ⟨0, _⟩ => show win0_0.index t 0 * 1 + 1 * 0 = t.val; omega
  | ⟨1, _⟩ => show win0_0.index t 1 * 1 + 1 * 0 = 0; omega
  | ⟨2, _⟩ => show win0_0.index t 2 * 1024 + 1 * b.val = b.val; omega

theorem read1 (t : Fin cfg0.N) (X : Vec Ideal S20x1024x1024 .f32) (v b : Fin 1024) :
    (((cfg0.win 1).blk t).view.read (Elt Ideal) X : Vec Ideal S1x1024x1024 .f32) (ix3 0 v b) = X (ix3 (pt t) v b) := by
  obtain ⟨h0, h1, h2⟩ := index1 t
  rw [View.read_apply]
  refine congrArg X (funext fun a => Fin.ext ?_)
  match a with
  | ⟨0, _⟩ => show win0_1.index t 0 * 1 + 1 * 0 = t.val; omega
  | ⟨1, _⟩ => show win0_1.index t 1 * 1024 + 1 * v.val = v.val; omega
  | ⟨2, _⟩ => show win0_1.index t 2 * 1024 + 1 * b.val = b.val; omega

theorem read2 (t : Fin cfg0.N) (X : Vec Ideal S1024x128 .f32) (v : Fin 1024) (d : Fin 128) :
    (((cfg0.win 2).blk t).view.read (Elt Ideal) X : Vec Ideal S1024x128 .f32) (ix2 v d) = X (ix2 v d) := by
  obtain ⟨h0, h1⟩ := index2 t
  rw [View.read_apply]
  refine congrArg X (funext fun a => Fin.ext ?_)
  match a with
  | ⟨0, _⟩ => show win0_2.index t 0 * 1024 + 1 * v.val = v.val; omega
  | ⟨1, _⟩ => show win0_2.index t 1 * 128 + 1 * d.val = d.val; omega

theorem read3 (t : Fin cfg0.N) (X : Vec Ideal S1024x128 .f32) (v : Fin 1024) (d : Fin 128) :
    (((cfg0.win 3).blk t).view.read (Elt Ideal) X : Vec Ideal S1024x128 .f32) (ix2 v d) = X (ix2 v d) := by
  obtain ⟨h0, h1⟩ := index3 t
  rw [View.read_apply]
  refine congrArg X (funext fun a => Fin.ext ?_)
  match a with
  | ⟨0, _⟩ => show win0_3.index t 0 * 1024 + 1 * v.val = v.val; omega
  | ⟨1, _⟩ => show win0_3.index t 1 * 128 + 1 * d.val = d.val; omega

theorem read4 (t : Fin cfg0.N) (X : Vec Ideal S20480x128 .f32) (b : Fin 1024) (d : Fin 128) :
    (((cfg0.win 4).blk t).view.read (Elt Ideal) X : Vec Ideal S1024x128 .f32) (ix2 b d) = X (ix2 (at' (pt t) b) d) := by
  obtain ⟨h0, h1⟩ := index4 t
  rw [View.read_apply]
  refine congrArg X (funext fun a => Fin.ext ?_)
  match a with
  | ⟨0, _⟩ => show win0_4.index t 0 * 1024 + 1 * b.val = t.val * 1024 + b.val; omega
  | ⟨1, _⟩ => show win0_4.index t 1 * 128 + 1 * d.val = d.val; omega

variable (m : (ℓ : Loc nD τ sig) → Buf (Elt Ideal) ℓ) (c : Dev nD) (t : Fin cfg0.N)

theorem blk0 (X : IVec S1024x5x4 32) (hX : V m c main_v1 = targets (F := Ideal) X) (b : Fin 1024) :
    (iblk m c 0 t : IVec S1x1x1024 32) (ix3 0 0 b) = X (ix3 (sen (at' (pt t) b)) (pos (at' (pt t) b)) (ctx (at' (pt t) b))) :=
  (read0 t (V m c main_v1) b).trans ((congrFun hX _).trans (targets_apply X (pt t) b))

theorem blk1 (X : FVec Ideal S20480x1000 .f32) (hX : V m c main_v21 = noises (F := Ideal) X) (v b : Fin 1024) :
    (iblk m c 1 t : FVec Ideal S1x1024x1024 .f32) (ix3 0 v b)
      = if h : v.val < 1000 then X (ix2 (at' (pt t) b) ⟨v.val, h⟩) else (0 : EReal) :=
  (read1 t (V m c main_v21) v b).trans ((congrFun hX _).trans (noises_apply X (pt t) v b))

theorem blk2 (X : FVec Ideal S1000x128 .f32) (hX : V m c main_v4 = layer (F := Ideal) X) (v : Fin 1024) (d : Fin 128) :
    (iblk m c 2 t : FVec Ideal S1024x128 .f32) (ix2 v d) = if h : v.val < 1000 then X (ix2 ⟨v.val, h⟩ d) else (0 : EReal) :=
  (read2 t (V m c main_v4) v d).trans ((congrFun hX _).trans (layer_apply X v d))

theorem blk3 (X : FVec Ideal S1000 .f32) (hX : V m c main_v7 = freqs (F := Ideal) X) (v : Fin 1024) (d : Fin 128) :
    (iblk m c 3 t : FVec Ideal S1024x128 .f32) (ix2 v d) = if h : v.val < 1000 then X (ix1 ⟨v.val, h⟩) else (0 : EReal) :=
  (read3 t (V m c main_v7) v d).trans ((congrFun hX _).trans (freqs_apply X v d))

theorem blk4 (X : FVec Ideal S1024x5x4x128 .f32) (hX : V m c main_v0 = embs (F := Ideal) X) (b : Fin 1024) (d : Fin 128) :
    (iblk m c 4 t : FVec Ideal S1024x128 .f32) (ix2 b d)
      = X (ix4 (sen (at' (pt t) b)) (pos (at' (pt t) b)) (ctx (at' (pt t) b)) d) :=
  (read4 t (V m c main_v0) b d).trans ((congrFun hX _).trans (embs_apply X (at' (pt t) b) d))

end blocks

end Cert.KerWindows

end
-- ==== Proof.KerArray.lean ====
/-
  WHAT THE RESULT HOLDS: the sum of the twenty points' numbers.
-/
module

public import proofs.«01_k».proof.Proof.KerBlock
public import proofs.«01_k».proof.Proof.Gen.KernelIdeal.Run
public import Idealize.ShloMosaic.Lib.ValueIdx
public import Idealize.ShloMosaic.PureOps.Ideal.Laws

@[expose] public section

set_option maxRecDepth 20000

noncomputable section

namespace Cert.KerArray

open Cert.KernelIdeal Cert.KernelIdeal.Gen Idealize.ShloMosaic Idealize.ShloMosaic.TcCoe Idealize.SL.Sem
open Idealize.ShloMosaic.Pipeline (Dat)
open Cert.KerBlock

variable (m : (ℓ : Loc nD τ sig) → Buf (Elt Ideal) ℓ)

/-- Point `t`'s number. -/
def num (c : Dev nD) (t : Fin cfg0.N) : EReal :=
  point (F := Ideal) (iblk m c 0 t) (iblk m c 1 t) (iblk m c 2 t) (firstCol (iblk m c 3 t)) (iblk m c 4 t)

/-- The running sum after point `n`. -/
def run (c : Dev nD) : (n : ℕ) → n < cfg0.N → EReal
  | 0, h => num m c ⟨0, h⟩
  | n + 1, h => run c n (Nat.lt_of_succ_lt h) + num m c ⟨n + 1, h⟩

theorem run_eq (c : Dev nD) : ∀ (n : ℕ) (h : n < cfg0.N),
    run m c n h = ∑ k : Fin (n + 1), num m c ⟨k.val, lt_of_lt_of_le k.isLt h⟩
  | 0, h => (Fin.sum_univ_one fun k : Fin 1 => num m c ⟨k.val, lt_of_lt_of_le k.isLt h⟩).symm
  | n + 1, h => by
    rw [Fin.sum_univ_castSucc, run, run_eq c n (Nat.lt_of_succ_lt h)]
    rfl

/-- Every entry of the output's staging buffer after point `n` is the running sum. -/
theorem outsAt_eq (c : Dev nD) : ∀ (n : ℕ) (h : n < cfg0.N), outsAt0 m c n h = fun _ => run m c n h
  | 0, h => by
    refine (outsAt0_A m c ⟨0, h⟩ rfl).trans ((out_A ..).trans (funext fun y => ?_))
    show Ideal.ofBits .f32 0x00000000#32 + num m c ⟨0, h⟩ = _
    rw [Ideal.ofBits_zero_f32, zero_add]; rfl
  | n + 1, h => by
    have hN : cfg0.N = 20 := N_0
    have hB : ¬(⟨n + 1, h⟩ : Fin cfg0.N).val % 20 = 0 := by dsimp only; omega
    rw [outsAt0_B m c ⟨n + 1, h⟩ hB, out_B]
    refine funext fun y => ?_
    show outsAt0 m c n _ y + num m c ⟨n + 1, h⟩ = _
    rw [outsAt_eq c n]; rfl

theorem last : 19 < cfg0.N := by rw [show cfg0.N = 20 from N_0]; decide

/-- The result array after the run. -/
def result (c : Dev nD) : Buf (Elt Ideal) ((c : Thread nD τ).loc main_v22) := fun _ => run m c 19 last

theorem flushed_eq (c : Dev nD) (t : Fin cfg0.N) (hf : (cfg0.win 5).flush t = true) :
    (dats m 0 c).flushed 5 t = ((cfg0.win 5).blk t).view.read (Elt Ideal) (result m c) := by
  have hN : cfg0.N = 20 := N_0
  have h19 : t.val = 19 := by have := (flush0_5 t).mp hf; have := t.isLt; omega
  obtain rfl : t = ⟨19, last⟩ := Fin.ext h19
  show (cfg0.win 5).cut (grid0.coords ⟨19, last⟩) ((dats m 0 c).after 5 ⟨19, last⟩) = _
  rw [after0_5, outsAt_eq]
  rfl

theorem final (c : Dev nD) : (dats m 0 c).arrAt 5 cfg0.N = result m c :=
  (dats m 0 c).arrAt_eq_of_cover 5 (result m c) (flushed_eq m c) fun i =>
    ⟨⟨19, last⟩, (flush0_5 ⟨19, last⟩).mpr rfl, by
      show i ∈ ((View.whole main_v22).slice (win0_5.rect ⟨19, last⟩)).set
      rw [View.set_slice_whole, Rect.mem_set_unit]
      intro a
      have h0 : (i 0 : Nat) < 8 := (i 0).isLt
      have h1 : (i 1 : Nat) < 128 := (i 1).isLt
      match a with
      | ⟨0, _⟩ => show win0_5.index ⟨19, last⟩ 0 * win0_5.size 0 ≤ (i 0 : Nat) ∧ (i 0 : Nat) < win0_5.index ⟨19, last⟩ 0 * win0_5.size 0 + win0_5.xsize (grid0.coords ⟨19, last⟩) 0
                  rw [show win0_5.index ⟨19, last⟩ 0 * win0_5.size 0 = 0 from by decide +kernel, show win0_5.xsize (grid0.coords ⟨19, last⟩) 0 = 8 from by decide +kernel]; omega
      | ⟨1, _⟩ => show win0_5.index ⟨19, last⟩ 1 * win0_5.size 1 ≤ (i 1 : Nat) ∧ (i 1 : Nat) < win0_5.index ⟨19, last⟩ 1 * win0_5.size 1 + win0_5.xsize (grid0.coords ⟨19, last⟩) 1
                  rw [show win0_5.index ⟨19, last⟩ 1 * win0_5.size 1 = 0 from by decide +kernel, show win0_5.xsize (grid0.coords ⟨19, last⟩) 1 = 128 from by decide +kernel]; omega⟩

/-- The program's result: the sum of the points' numbers. -/
theorem main_result (c : Dev nD) :
    (shapeCast S_ (extractStridedSlice S1x1 ![0, 0] (Value.reg_main_v22 m c) slices_S8x128_S1x1_0_0) shapeCasts_S1x1_S_
      : FVec Ideal S_ .f32) = fun _ => ∑ t : Fin 20, num m c ⟨t.val, lt_of_lt_of_le t.isLt last⟩ := by
  rw [Value.reg_main_v22, final]
  funext y
  exact run_eq m c 19 last

end Cert.KerArray

end
-- ==== Proof.KerPoint.lean ====
/-
  WHAT ONE GRID POINT COMPUTES, at the reals.
-/
module

public import proofs.«01_k».proof.Proof.KerRound
public import proofs.«01_k».proof.Proof.KerWindows
public import proofs.«01_k».proof.Proof.KerArray

@[expose] public section

set_option maxRecDepth 20000
set_option maxHeartbeats 1000000

noncomputable section

namespace Cert.KerPoint

open Cert.KernelIdeal Cert.KernelIdeal.Gen Idealize.ShloMosaic Idealize.ShloMosaic.TcCoe Cert.KerBlock Cert.KerRound Cert.Rows Cert.Spec

/-- The first 1000 of 1024 rows are the vocabulary's. -/
theorem inVocab (v : Fin 1024) : IntOp.cmpi CmpIPredicate.slt (BitVec.ofNat 32 v.val) 1000#32 = if v.val < 1000 then 1#1 else 0#1 := by
  show BitVec.ofBool (decide ((BitVec.ofNat 32 v.val).toInt < (1000#32 : BitVec 32).toInt)) = _
  rw [toInt_small v.val v.isLt.le, show (1000#32 : BitVec 32).toInt = 1000 from by decide]
  split
  · rename_i h; rw [decide_eq_true (by omega)]; rfl
  · rename_i h; rw [decide_eq_false (by omega)]; rfl

/-- A row's weight in the kernel's padded column: none off the vocabulary or where the frequency isn't positive. -/
def padded (r : Fin 1000 → ℝ) (v : Fin 1024) : ℝ :=
  if h : v.val < 1000 then (if 0 < r ⟨v.val, h⟩ then weight (r ⟨v.val, h⟩) else 0) else 0

theorem padded_nonneg (r : Fin 1000 → ℝ) (v : Fin 1024) : 0 ≤ padded r v := by
  unfold padded
  split
  · split
    · exact (weight_pos _).le
    · exact le_rfl
  · exact le_rfl

theorem padded_pos (r : Fin 1000 → ℝ) (v : Fin 1024) : 0 < padded r v ↔ ∃ h : v.val < 1000, 0 < r ⟨v.val, h⟩ := by
  unfold padded
  split
  · rename_i h
    split
    · rename_i h'; exact ⟨fun _ => ⟨h, h'⟩, fun _ => weight_pos _⟩
    · rename_i h'; exact ⟨fun h0 => absurd h0 (lt_irrefl _), fun ⟨_, h0⟩ => absurd h0 h'⟩
  · rename_i h; exact ⟨fun h0 => absurd h0 (lt_irrefl _), fun ⟨h0, _⟩ => absurd h0 h⟩

/-- The kernel's total of the weights. -/
def total (r : Fin 1000 → ℝ) : ℝ := ∑ v, padded r v

theorem total_pos (r : Fin 1000 → ℝ) (v : Fin 1000) (hv : 0 < r v) : 0 < total r := by
  refine Finset.sum_pos' (fun v _ => padded_nonneg r v) ⟨⟨v.val, by omega⟩, Finset.mem_univ _, ?_⟩
  exact (padded_pos _ _).mpr ⟨v.isLt, hv⟩

theorem weight_term (w : EReal) (r : Fin 1000 → ℝ) (v : Fin 1024)
    (hw : w = if h : v.val < 1000 then ((r ⟨v.val, h⟩ : ℝ) : EReal) else 0) :
    Scalar.select (IntOp.cmpi CmpIPredicate.slt (BitVec.ofNat 32 v.val) 1000#32)
      (if 0 < w then Ideal.exp (Ideal.ofBits FTy.f32 1061158912#32 * Ideal.log (if 0 < w then w else 1)) else 0) 0
      = ((padded r v : ℝ) : EReal) := by
  rw [inVocab]
  unfold padded
  split
  · rename_i h
    rw [dif_pos h] at hw
    rw [hw, three_quarters]
    show (if _ then _ else (0 : EReal)) = _
    by_cases hp : 0 < r ⟨v.val, h⟩
    · have hp' : (0 : EReal) < ((r ⟨v.val, h⟩ : ℝ) : EReal) := by exact_mod_cast hp
      rw [if_pos hp', if_pos hp', if_pos hp, Ideal.log_coe, if_neg (not_le.mpr hp), ← EReal.coe_mul, Ideal.exp_coe]
      rfl
    · have hp' : ¬ (0 : EReal) < ((r ⟨v.val, h⟩ : ℝ) : EReal) := by exact_mod_cast hp
      rw [if_neg hp', if_neg hp]; rfl
  · rfl

theorem pay3_apply (w : FVec Ideal S1024x1 .f32) (r : Fin 1000 → ℝ)
    (hw : ∀ v : Fin 1024, w (ix2 v 0) = if h : v.val < 1000 then ((r ⟨v.val, h⟩ : ℝ) : EReal) else 0) (hz : 0 < total r)
    (v : Fin 1024) : k0_pay3 (F := Ideal) w (ix2 v 0)
      = if 0 < padded r v then ((Real.log (padded r v) - Real.log (total r) : ℝ) : EReal) else ⊥ := by
  unfold k0_pay3 k0_pay2
  pointwise
  have hs : (∑ x : Fin 1024, ∑ x_1 : Fin 1, FloatOps.absf (F := Ideal) (φ := .f32)
      (Scalar.select (IntOp.cmpi CmpIPredicate.slt (BitVec.ofNat 32 x.val) 1000#32)
      (if 0 < w (ix2 x 0) then Ideal.exp (Ideal.ofBits FTy.f32 1061158912#32 * Ideal.log (if 0 < w (ix2 x 0) then w (ix2 x 0) else 1)) else 0) 0))
      = ((total r : ℝ) : EReal) := by
    unfold total
    rw [← coe_sum]
    refine Finset.sum_congr rfl fun x _ => ?_
    rw [Fin.sum_univ_one, weight_term _ r x (hw x)]
    exact (abs_coe _).trans (by rw [abs_of_nonneg (padded_nonneg r x)])
  rw [weight_term _ r v (hw v), hs, bot_bits, logit _ _ hz]

/-- A row's word is not the target's. -/
theorem score_apply (x0 : IVec S1x1x1024 32) (x1 : FVec Ideal S1x1024x1024 .f32) (w : FVec Ideal S1024x1 .f32)
    (r : Fin 1000 → ℝ)
    (hw : ∀ v : Fin 1024, w (ix2 v 0) = if h : v.val < 1000 then ((r ⟨v.val, h⟩ : ℝ) : EReal) else 0) (hz : 0 < total r)
    (b : Fin 1024) (k : Fin 1000) (hk : x0 (ix3 0 0 b) = BitVec.ofNat 32 k.val) (g : Fin 1000 → ℝ)
    (hg : ∀ v : Fin 1024, x1 (ix3 0 v b) = if h : v.val < 1000 then ((g ⟨v.val, h⟩ : ℝ) : EReal) else 0) (v : Fin 1024) :
    score (F := Ideal) x0 x1 w (ix2 v b) = if h : v.val < 1000 then
      Spec.score ((⟨v.val, h⟩ : Fin 1000) ≠ k ∧ 0 < r ⟨v.val, h⟩) (g ⟨v.val, h⟩ + Real.log (weight (r ⟨v.val, h⟩)))
        (Real.log (total r)) else ⊥ := by
  unfold KerBlock.score k0_pay6 k0_pay5 k0_pay4 k0_pay2
  pointwise
  rw [inVocab, hk, pay3_apply w r hw hz, hg, bot_bits]
  by_cases h : v.val < 1000
  · rw [if_pos h, dif_pos h, dif_pos h]
    by_cases e : (⟨v.val, h⟩ : Fin 1000) = k
    · have e' : IntOp.cmpi CmpIPredicate.ne (BitVec.ofNat 32 v.val) (BitVec.ofNat 32 k.val) = 0#1 := by
        rw [← e]
        show BitVec.ofBool (BitVec.ofNat 32 v.val != BitVec.ofNat 32 v.val) = _
        rw [bne_self_eq_false]; rfl
      rw [e']
      exact (show _ = (⊥ : EReal) from rfl).trans (if_neg fun hc => hc.1 e).symm
    · have e' : IntOp.cmpi CmpIPredicate.ne (BitVec.ofNat 32 v.val) (BitVec.ofNat 32 k.val) = 1#1 := by
        have hne : BitVec.ofNat 32 v.val ≠ BitVec.ofNat 32 k.val := fun q => e (by
          have hn : v.val % 2 ^ 32 = k.val % 2 ^ 32 := by
            simpa only [BitVec.toNat_ofNat] using congrArg (fun w : BitVec 32 => w.toNat) q
          apply Fin.ext; show v.val = k.val; omega)
        show BitVec.ofBool (BitVec.ofNat 32 v.val != BitVec.ofNat 32 k.val) = _
        rw [bne_iff_ne.mpr hne]; rfl
      rw [e']
      show ((g ⟨v.val, h⟩ : ℝ) : EReal) + (if 0 < padded r v then _ else _) = _
      have hpad : padded r v = if 0 < r ⟨v.val, h⟩ then weight (r ⟨v.val, h⟩) else 0 := by unfold padded; rw [dif_pos h]
      by_cases hp : 0 < r ⟨v.val, h⟩
      · rw [if_pos ((padded_pos r v).mpr ⟨h, hp⟩), hpad, if_pos hp, ← EReal.coe_add, ← add_sub_assoc]
        exact (if_pos (c := (⟨v.val, h⟩ : Fin 1000) ≠ k ∧ 0 < r ⟨v.val, h⟩) ⟨e, hp⟩).symm
      · rw [if_neg (fun q => hp ((padded_pos r v).mp q).2)]
        exact (EReal.add_bot _).trans (if_neg (c := (⟨v.val, h⟩ : Fin 1000) ≠ k ∧ 0 < r ⟨v.val, h⟩) fun q => hp q.2).symm
  · rw [if_neg h, dif_neg h, dif_neg h]
    have : ∀ q : BitVec 1, IntOp.andi 0#1 q = 0#1 := by decide
    rw [this]; rfl

theorem pay7_apply (x2 x4 : FVec Ideal S1024x128 .f32) (v b : Fin 1024) :
   k0_pay7 (F := Ideal) x2 x4 (ix2 v b) = dot (fun d => x2 (ix2 v d)) fun d => x4 (ix2 b d) := by
  unfold k0_pay7
  pointwise
  rfl

theorem firstCol_apply (x : FVec Ideal S1024x128 .f32) (v : Fin 1024) :
   firstCol (F := Ideal) x (ix2 v 0) = x (ix2 v 0) := by
  unfold firstCol
  pointwise

theorem posLoss_eq (x0 : IVec S1x1x1024 32) (a : FVec Ideal S1024x1024 .f32) (k : Fin 1024 → Fin 1024)
    (hk : ∀ b, x0 (ix3 0 0 b) = BitVec.ofNat 32 (k b).val) :
    posLoss (F := Ideal) x0 a = ∑ b : Fin 1024, soft (0 - a (ix2 (k b) b)) := by
  unfold posLoss
  rw [loss_eq]
  refine Finset.sum_congr rfl fun b _ => congrArg soft ?_
  show Ideal.ofBits .f32 0#32 - marked _ a (ix2 0 b) = _
  rw [Ideal.ofBits_zero_f32, marked_apply _ a b (k b) fun v => ?_]
  show IntOp.cmpi CmpIPredicate.eq (rows (ix2 v b)) (broadcastTo S1024x1024 (k0_pay4 (F := Ideal) x0) broadcasts_S1x1024_S1024x1024 (ix2 v b)) = _
  unfold rows k0_pay4
  pointwise
  rw [hk]
  show BitVec.ofBool (BitVec.ofNat 32 v.val == BitVec.ofNat 32 (k b).val) = _
  split
  · rename_i h; rw [h]; simp
  · rename_i h
    rw [beq_eq_false_iff_ne.mpr fun q => h (by
      have hn : v.val % 2 ^ 32 = (k b).val % 2 ^ 32 := by
        simpa only [BitVec.toNat_ofNat] using congrArg (fun w : BitVec 32 => w.toNat) q
      apply Fin.ext; omega)]
    rfl

/-- A row's scores over the kernel's padded vocabulary: `k` is the row's target, `g` its noise. -/
def scores (r : Fin 1000 → ℝ) (k : Fin 1000) (g : Fin 1000 → ℝ) (v : Fin 1024) : EReal :=
  if h : v.val < 1000 then Spec.score ((⟨v.val, h⟩ : Fin 1000) ≠ k ∧ 0 < r ⟨v.val, h⟩)
    (g ⟨v.val, h⟩ + Real.log (weight (r ⟨v.val, h⟩))) (Real.log (total r)) else ⊥

/-- The padded layer's product with an embedding. -/
def product (L : FVec Ideal S1000x128 .f32) (e : Fin 128 → EReal) (v : Fin 1024) : EReal :=
  dot (fun d => if h : v.val < 1000 then L (ix2 ⟨v.val, h⟩ d) else 0) e

theorem thousandth : Ideal.ofBits .f32 981467136#32 = ((1 / 1024 : ℝ) : EReal) := by
  simp [Ideal.ofBits, Ideal.ieee, -EReal.coe_mul]
  norm_num

/-- A row of the embeddings. -/
abbrev emb (E : FVec Ideal S1024x5x4x128 .f32) (n : Fin 20480) (d : Fin 128) : EReal := E (ix4 (sen n) (pos n) (ctx n) d)

/-- A block's number: its rows' losses at the target, and a share of those at the five chosen. -/
theorem point_eq (x0 : IVec S1x1x1024 32) (x1 : FVec Ideal S1x1024x1024 .f32) (x2 x3 x4 : FVec Ideal S1024x128 .f32)
    (L : FVec Ideal S1000x128 .f32) (h2 : ∀ (v : Fin 1024) (d : Fin 128), x2 (ix2 v d) = if h : v.val < 1000 then L (ix2 ⟨v.val, h⟩ d) else 0)
    (e : Fin 1024 → Fin 128 → EReal) (h4 : ∀ b d, x4 (ix2 b d) = e b d)
    (k : Fin 1024 → Fin 1000) (h0 : ∀ b, x0 (ix3 0 0 b) = BitVec.ofNat 32 (k b).val)
    (r : Fin 1000 → ℝ) (h3 : ∀ v : Fin 1024, x3 (ix2 v 0) = if h : v.val < 1000 then ((r ⟨v.val, h⟩ : ℝ) : EReal) else 0)
    (hz : 0 < total r) (g : Fin 1024 → Fin 1000 → ℝ)
    (h1 : ∀ v b : Fin 1024, x1 (ix3 0 v b) = if h : v.val < 1000 then ((g b ⟨v.val, h⟩ : ℝ) : EReal) else 0) :
    point (F := Ideal) x0 x1 x2 (firstCol x3) x4
      = ∑ b : Fin 1024, soft (0 - product L (e b) ⟨(k b).val, by omega⟩)
        + (∑ q : Fin 5, ∑ b : Fin 1024, soft (product L (e b) (Select.pick (scores r (k b) (g b)) q.val))) * ((1 / 1024 : ℝ) : EReal) := by
  have hprod : ∀ v b : Fin 1024, k0_pay7 (F := Ideal) x2 x4 (ix2 v b) = product L (e b) v := fun v b => by
    rw [pay7_apply]
    unfold product
    congr 1
    · funext d; exact h2 v d
    · funext d; exact h4 b d
  have hcol : ∀ b : Fin 1024, col (KerBlock.score (F := Ideal) x0 x1 (firstCol x3)) b = scores r (k b) (g b) := fun b =>
    funext fun v => score_apply _ _ _ r (fun v => (firstCol_apply _ v).trans (h3 v)) hz b (k b) (h0 b) _ (fun v => h1 v b) v
  have hp := posLoss_eq x0 (k0_pay7 (F := Ideal) x2 x4) (fun b => ⟨(k b).val, by omega⟩) h0
  have hn := negLoss_eq (KerBlock.score (F := Ideal) x0 x1 (firstCol x3)) (k0_pay7 (F := Ideal) x2 x4)
  simp only [hprod, hcol] at hp hn
  unfold point
  rw [Ideal.scalar_addf_def, Ideal.scalar_mulf_def, hp, hn]
  exact congrArg (fun z : EReal => _ + _ * z) thousandth

section
variable (m : (ℓ : Loc nD τ sig) → Buf (Elt Ideal) ℓ) (c : Dev nD)

/-- A grid point's number. -/
theorem num_eq (E : FVec Ideal S1024x5x4x128 .f32) (hE : V m c main_v0 = KerHost.embs (F := Ideal) E)
    (T : IVec S1024x5x4 32) (hT : V m c main_v1 = KerHost.targets (F := Ideal) T)
    (L : FVec Ideal S1000x128 .f32) (hL : V m c main_v4 = KerHost.layer (F := Ideal) L)
    (W : FVec Ideal S1000 .f32) (hW : V m c main_v7 = KerHost.freqs (F := Ideal) W)
    (N : FVec Ideal S20480x1000 .f32) (hN : V m c main_v21 = KerHost.noises (F := Ideal) N)
    (k : Fin 20480 → Fin 1000) (hk : ∀ n, T (ix3 (sen n) (pos n) (ctx n)) = BitVec.ofNat 32 (k n).val)
    (r : Fin 1000 → ℝ) (hr : ∀ v, W (ix1 v) = ((r v : ℝ) : EReal)) (hz : 0 < total r)
    (g : Fin 20480 → Fin 1000 → ℝ) (hg : ∀ n v, N (ix2 n v) = ((g n v : ℝ) : EReal)) (t : Fin cfg0.N) :
    KerArray.num m c t = ∑ b : Fin 1024, soft (0 - product L (emb E (at' (KerWindows.pt t) b)) ⟨(k (at' (KerWindows.pt t) b)).val, by omega⟩)
      + (∑ q : Fin 5, ∑ b : Fin 1024, soft (product L (emb E (at' (KerWindows.pt t) b))
          (Select.pick (scores r (k (at' (KerWindows.pt t) b)) (g (at' (KerWindows.pt t) b))) q.val))) * ((1 / 1024 : ℝ) : EReal) :=
  point_eq _ _ _ _ _ L (KerWindows.blk2 m c t L hL) (fun b => emb E (at' (KerWindows.pt t) b)) (KerWindows.blk4 m c t E hE)
    (fun b => k (at' (KerWindows.pt t) b)) (fun b => (KerWindows.blk0 m c t T hT b).trans (hk _)) r
    (fun v => (KerWindows.blk3 m c t W hW v 0).trans (by simp only [hr])) hz (fun b => g (at' (KerWindows.pt t) b))
    (fun v b => (KerWindows.blk1 m c t N hN v b).trans (by simp only [hg]))

end

end Cert.KerPoint

end
-- ==== Proof.RefNoise.lean ====
/-
  The reference's noise is `Noise.noise` of its key.
-/
module

public import proofs.«01_k».proof.Proof.RefKeep
public import proofs.«01_k».proof.Proof.Noise

@[expose] public section

set_option maxRecDepth 20000
set_option maxHeartbeats 4000000

noncomputable section

namespace Cert.RefRun

open Cert.ReferenceIdeal Cert.ReferenceIdeal.Gen Idealize.ShloMosaic Idealize.ShloMosaic.TcCoe Idealize.SL.Sem Idealize.ShloMosaic.StableHlo Cert.Noise

variable {F : FTy → Type} [FloatOps F]

abbrev k0 : TRef sig ⟨S0, .i32⟩ := .of main_call3_call0_v4
abbrev k1 : TRef sig ⟨S0, .i32⟩ := .of main_call3_call0_v6
abbrev k2 : TRef sig ⟨S0, .i32⟩ := .of main_call3_call0_call0_v1
abbrev w0 : TRef sig ⟨SN, .i32⟩ := .of main_call3_call0_v18_0
abbrev w1 : TRef sig ⟨SN, .i32⟩ := .of main_call3_call0_v18_1
abbrev s0 : TRef sig ⟨SN, .i32⟩ := .of main_call3_call0_call0_v3
abbrev s1 : TRef sig ⟨SN, .i32⟩ := .of main_call3_call0_call0_v5

/-- What the counters' stretch leaves: the key's words, the pair the rounds start from, and two constants. -/
theorem count_read (V : Valuation τ sig (Elt F)) :
    rd k0 (after opsCount V) = key0 (F := F) (V (Proc.devRef .tc main_v14))
    ∧ rd k1 (after opsCount V) = key1 (F := F) (V (Proc.devRef .tc main_v14))
    ∧ rd k2 (after opsCount V) = key2 (F := F) (V (Proc.devRef .tc main_v14))
    ∧ rd2 s0 s1 (after opsCount V) = startFn (F := F) (V (Proc.devRef .tc main_v14))
    ∧ after opsCount V (Proc.devRef .tc main_call3_call0_v1) = tiny (F := F)
    ∧ after opsCount V (Proc.devRef .tc main_call3_call0_v2) = one (F := F) := by
  unfold rd2 rd
  simp only [opsCount, TRef.binary, TRef.nullary, TRef.ternary, TRef.unary, TRef.reshape, TRef.toBuf, TRef.ofBuf, cast_eq]
  refine ⟨?_, ?_, ?_, Prod.ext ?_ ?_, ?_, ?_⟩ <;> after_results_simp <;> rfl

/-- The rounds' stretch computes `wordsFn`. -/
theorem gen_read (V : Valuation τ sig (Elt F)) : rd2 w0 w1 (after opsGen V) = wordsFn (rd k0 V) (rd k1 V) (rd k2 V) (rd2 s0 s1 V) := by
  simp (disch := decide) only [opsGen, opsGen0, opsGen1, opsGen2, opsGen3, opsGen4, after_append, rd2_inject, rd2_round, rd_round, rd_inject, wordsFn, genA, genB]

/-- The last stretch computes `noiseFn`. -/
theorem bits_read (V : Valuation τ sig (Elt F)) (h1 : V (Proc.devRef .tc main_call3_call0_v1) = tiny (F := F)) (h2 : V (Proc.devRef .tc main_call3_call0_v2) = one (F := F)) :
    after opsBits V (Proc.devRef .tc main_v43) = noiseFn (F := F) (rd2 w0 w1 V) := by
  unfold noiseFn fracFn
  rw [← h1, ← h2]
  unfold rd2 rd
  simp only [opsBits, TRef.binary, TRef.nullary, TRef.ternary, TRef.unary, TRef.reshape, TRef.toBuf, TRef.ofBuf, cast_eq]
  after_results_simp

/-- The three stretches together: the noise. -/
theorem noise_read (V : Valuation τ sig (Elt F)) :
    after opsBits (after opsGen (after opsCount V)) (Proc.devRef .tc main_v43) = noise (F := F) (V (Proc.devRef .tc main_v14)) := by
  obtain ⟨e0, e1, e2, e3, e4, e5⟩ := count_read V
  rw [bits_read _ ((opsGen_tidy.keep _ _ (Or.inl (by decide))).trans e4) ((opsGen_tidy.keep _ _ (Or.inl (by decide))).trans e5), gen_read, e0, e1, e2, e3]
  rfl

end Cert.RefRun

end
-- ==== Proof.RefForms.lean ====
/-
  THE REFERENCE AS A CHAIN OF FUNCTIONS: the distribution, the rows taken from the layer, the products, the masked logits, the best five and the loss, each
  read off its stretch of operations.
-/
module

public import proofs.«01_k».proof.Proof.RefNoise

@[expose] public section

set_option maxRecDepth 20000
set_option maxHeartbeats 4000000

noncomputable section

namespace Cert.RefRun

open Cert.ReferenceIdeal Cert.ReferenceIdeal.Gen Idealize.ShloMosaic Idealize.ShloMosaic.TcCoe Idealize.SL.Sem Idealize.ShloMosaic.StableHlo Cert.Noise

variable {F : FTy → Type} [FloatOps F]

/-- The weights: frequencies to the power three quarters. -/
def weights (W : FVec F S1000 .f32) : FVec F S1000 .f32 := Host.powf W (broadcastInDim S1000 ![] bcast_S_S1000 (constant S_ .f32 0x3F400000#32))
/-- The distribution: weights over the sum of their sizes. -/
def dist (W : FVec F S1000 .f32) : FVec F S1000 .f32 :=
  Host.divf (weights W) (broadcastInDim S1000 ![] bcast_S_S1000
    (Host.reduceAdd (Host.absf (weights W)) (constant S_ .f32 0x00000000#32) reducesTo_S1000_S_d0 h_S_))

/-- Targets counted from the end when negative, with a trailing axis of one. -/
def wrap3 (T : IVec S1024x5x4 32) : IVec S1024x5x4x1 32 :=
  broadcastInDim S1024x5x4x1 ![0, 1, 2] bcast_S1024x5x4_S1024x5x4x1_0_1_2
    (select (cmpi .slt T (broadcastInDim S1024x5x4 ![] bcast_S_S1024x5x4 (constantI S_ 32 0#32)))
      (addi T (broadcastInDim S1024x5x4 ![] bcast_S_S1024x5x4 (constantI S_ 32 1000#32))) T)
/-- Whether a wrapped target lies in the vocabulary. -/
def inside3 (J : IVec S1024x5x4x1 32) : IVec S1024x5x4 1 :=
  Host.reduce IntOp.andi
    (andi (cmpi .sge J (broadcastInDim S1024x5x4x1 ![] bcast_S_S1024x5x4x1 (constantI S_ 32 0#32)))
      (cmpi .sle J (broadcastInDim S1024x5x4x1 ![0, 1, 2, 3] bcast_S1x1x1x1_S1024x5x4x1_0_1_2_3
        (broadcastInDim S1x1x1x1 ![3] bcast_S1_S1x1x1x1_3 (constantI S1 32 999#32)))))
    (constantI S_ 1 1#1) reducesTo_S1024x5x4x1_S1024x5x4_d3 h_S_
/-- The layer's rows at the targets. -/
def take3 (L : FVec F S1000x128 .f32) (T : IVec S1024x5x4 32) : FVec F S1024x5x4x128 .f32 :=
  select (broadcastInDim S1024x5x4x128 ![0, 1, 2] bcast_S1024x5x4_S1024x5x4x128_0_1_2 (inside3 (wrap3 T)))
    (Host.gather gather_S1000x128_S1024x5x4x1_S1024x5x4x128_3_0_n_n_0_3_1128 L (wrap3 T))
    (broadcastInDim S1024x5x4x128 ![] bcast_S_S1024x5x4x128 (constant S_ .f32 0x7FC00000#32))
/-- The positive products. -/
def posDots (E : FVec F S1024x5x4x128 .f32) (L : FVec F S1000x128 .f32) (T : IVec S1024x5x4 32) : FVec F S1024x5x4 .f32 :=
  Host.dotGeneral dot_S1024x5x4x128_S1024x5x4x128_S1024x5x4_3_3_n_n_012_012 none E (take3 L T)

theorem pos_read (V : Valuation τ sig (Elt F)) :
    after opsPos V (Proc.devRef .tc main_v5) = dist (F := F) (V (Proc.devRef .tc main_arg3))
    ∧ after opsPos V (Proc.devRef .tc main_v7) = posDots (F := F) (V (Proc.devRef .tc main_arg0)) (V (Proc.devRef .tc main_arg2)) (V (Proc.devRef .tc main_arg1)) := by
  simp only [opsPos, TRef.binary, TRef.nullary, TRef.ternary, TRef.unary, TRef.reshape, TRef.toBuf, TRef.ofBuf, cast_eq]
  refine ⟨?_, ?_⟩ <;> after_results_simp <;> rfl

/-- The distribution once per row. -/
def spread (D : FVec F S1000 .f32) : FVec F S20480x1000 .f32 :=
  shapeCast S20480x1000 (broadcastInDim S20480x1x1x1000 ![0, 1, 2, 3] bcast_S1x1x1x1000_S20480x1x1x1000_0_1_2_3
    (shapeCast S1x1x1x1000 (broadcastInDim S1x1000 ![1] bcast_S1000_S1x1000_1 D) shapeCasts_S1x1000_S1x1x1x1000)) shapeCasts_S20480x1x1x1000_S20480x1000
/-- A column of words, counted from `n` when negative. -/
def wrapped (n : BitVec 32) (x : IVec S20480 32) : IVec S20480 32 :=
  select (cmpi .slt x (broadcastInDim S20480 ![] bcast_S_S20480 (constantI S_ 32 0#32)))
    (addi x (broadcastInDim S20480 ![] bcast_S_S20480 (constantI S_ 32 n))) x
/-- Where each row is struck. -/
def strikes (T : IVec S1024x5x4 32) : IVec S20480x2 32 :=
  pairCols (F := F) (broadcastInDim S20480x1 ![0] bcast_S20480_S20480x1_0 (wrapped 20480#32 (iotaInDim S20480 32 0)))
    (broadcastInDim S20480x1 ![0] bcast_S20480_S20480x1_0 (wrapped 1000#32 (shapeCast S20480 T shapeCasts_S1024x5x4_S20480)))
/-- The distribution with each row's target struck out. -/
def struck (D : FVec F S1000 .f32) (T : IVec S1024x5x4 32) : FVec F S20480x1000 .f32 :=
  Host.scatter scatter_S20480x1000_S20480x2_S20480_n_01_01_1 (fun _ b => b) (spread D) (strikes (F := F) T)
    (broadcastInDim S20480 ![] bcast_S_S20480 (constant S_ .f32 0x00000000#32))
/-- Logarithms of the positive entries, minus infinity elsewhere. -/
def logs (P : FVec F S20480x1000 .f32) : FVec F S20480x1000 .f32 :=
  select (cmpf .ogt P (broadcastInDim S20480x1000 ![] bcast_S_S20480x1000 (constant S_ .f32 0x00000000#32)))
    (Host.log (select (cmpf .ogt P (broadcastInDim S20480x1000 ![] bcast_S_S20480x1000 (constant S_ .f32 0x00000000#32))) P
      (broadcastInDim S20480x1000 ![] bcast_S_S20480x1000 (constant S_ .f32 0x3F800000#32))))
    (broadcastInDim S20480x1000 ![] bcast_S_S20480x1000 (constant S_ .f32 0xFF800000#32))

theorem logit_read (V : Valuation τ sig (Elt F)) :
    after opsLogit V (Proc.devRef .tc main_v14) = key (F := F)
    ∧ after opsLogit V (Proc.devRef .tc main_v42) = logs (F := F) (struck (F := F) (V (Proc.devRef .tc main_v5)) (V (Proc.devRef .tc main_arg1))) := by
  simp only [opsLogit, TRef.binary, TRef.nullary, TRef.ternary, TRef.unary, TRef.reshape, TRef.toBuf, TRef.ofBuf, cast_eq]
  refine ⟨?_, ?_⟩ <;> after_results_simp <;> rfl

theorem top_read (V : Valuation τ sig (Elt F)) :
    after opsTop V (Proc.devRef .tc main_v44) = (addf (V (Proc.devRef .tc main_v42)) (V (Proc.devRef .tc main_v43)) : FVec F S20480x1000 .f32) := by
  simp only [opsTop]
  after_results_simp

/-- The best five of each row. -/
def bests (S : FVec F S20480x1000 .f32) : IVec S1024x5x4x5 32 :=
  shapeCast S1024x5x4x5 ((Host.topK S20480x5 1 (FloatOps.cmpfTotal .gt) S sliceFits_S20480x1000_S20480x5).2) shapeCasts_S20480x5_S1024x5x4x5
/-- Indices counted from the end when negative, with a trailing axis of one. -/
def wrap4 (T : IVec S1024x5x4x5 32) : IVec S1024x5x4x5x1 32 :=
  broadcastInDim S1024x5x4x5x1 ![0, 1, 2, 3] bcast_S1024x5x4x5_S1024x5x4x5x1_0_1_2_3
    (select (cmpi .slt T (broadcastInDim S1024x5x4x5 ![] bcast_S_S1024x5x4x5 (constantI S_ 32 0#32)))
      (addi T (broadcastInDim S1024x5x4x5 ![] bcast_S_S1024x5x4x5 (constantI S_ 32 1000#32))) T)
/-- Whether a wrapped index lies in the vocabulary. -/
def inside4 (J : IVec S1024x5x4x5x1 32) : IVec S1024x5x4x5 1 :=
  Host.reduce IntOp.andi
    (andi (cmpi .sge J (broadcastInDim S1024x5x4x5x1 ![] bcast_S_S1024x5x4x5x1 (constantI S_ 32 0#32)))
      (cmpi .sle J (broadcastInDim S1024x5x4x5x1 ![0, 1, 2, 3, 4] bcast_S1x1x1x1x1_S1024x5x4x5x1_0_1_2_3_4
        (broadcastInDim S1x1x1x1x1 ![4] bcast_S1_S1x1x1x1x1_4 (constantI S1 32 999#32)))))
    (constantI S_ 1 1#1) reducesTo_S1024x5x4x5x1_S1024x5x4x5_d4 h_S_
/-- The layer's rows at the indices. -/
def take4 (L : FVec F S1000x128 .f32) (T : IVec S1024x5x4x5 32) : FVec F S1024x5x4x5x128 .f32 :=
  select (broadcastInDim S1024x5x4x5x128 ![0, 1, 2, 3] bcast_S1024x5x4x5_S1024x5x4x5x128_0_1_2_3 (inside4 (wrap4 T)))
    (Host.gather gather_S1000x128_S1024x5x4x5x1_S1024x5x4x5x128_4_0_n_n_0_4_1128 L (wrap4 T))
    (broadcastInDim S1024x5x4x5x128 ![] bcast_S_S1024x5x4x5x128 (constant S_ .f32 0x7FC00000#32))
/-- The negative products. -/
def negDots (E : FVec F S1024x5x4x128 .f32) (L : FVec F S1000x128 .f32) (T : IVec S1024x5x4x5 32) : FVec F S1024x5x4x5 .f32 :=
  Host.dotGeneral dot_S1024x5x4x128_S1024x5x4x5x128_S1024x5x4x5_3_4_n_3_012_012 none E (take4 L T)

theorem neg_read (V : Valuation τ sig (Elt F)) :
    after opsNeg V (Proc.devRef .tc main_v47) = negDots (F := F) (V (Proc.devRef .tc main_arg0)) (V (Proc.devRef .tc main_arg2)) (bests (F := F) (V (Proc.devRef .tc main_v44)))
    ∧ after opsNeg V (Proc.devRef .tc main_v48) = (Host.negf (V (Proc.devRef .tc main_v7)) : FVec F S1024x5x4 .f32) := by
  simp only [opsNeg, TRef.binary, TRef.nullary, TRef.ternary, TRef.unary, TRef.reshape, TRef.toBuf, TRef.ofBuf, cast_eq]
  refine ⟨?_, ?_⟩ <;> after_results_simp <;> rfl

/-- The reference's softplus of an array whose zero array is `z`. -/
def softs {s : Shape} (z x : FVec F s .f32) : FVec F s .f32 :=
  select (cmpf .une (subf x z) (subf x z)) (addf x z)
    (addf (maximumf x z) (Host.log1p (Host.exp (Host.negf (Host.absf (subf x z))))))
/-- The loss of the positive and negative products. -/
def loss (P : FVec F S1024x5x4 .f32) (N : FVec F S1024x5x4x5 .f32) : FVec F S_ .f32 :=
  addf (Host.reduceAdd (softs (broadcastInDim S1024x5x4 ![] bcast_S_S1024x5x4 (constant S_ .f32 0x00000000#32)) P) (constant S_ .f32 0x00000000#32)
      reducesTo_S1024x5x4_S_d0_1_2 h_S_)
    (Host.divf (Host.reduceAdd (softs (broadcastInDim S1024x5x4x5 ![] bcast_S_S1024x5x4x5 (constant S_ .f32 0x00000000#32)) N)
      (constant S_ .f32 0x00000000#32) reducesTo_S1024x5x4x5_S_d0_1_2_3 h_S_) (constant S_ .f32 0x44800000#32))

theorem loss_read (V : Valuation τ sig (Elt F)) :
    after opsLoss V (Proc.devRef .tc main_v54) = loss (F := F) (V (Proc.devRef .tc main_v48)) (V (Proc.devRef .tc main_v47)) := by
  simp only [opsLoss, TRef.binary, TRef.nullary, TRef.ternary, TRef.unary, TRef.reshape, TRef.toBuf, TRef.ofBuf, cast_eq]
  after_results_simp
  rfl

/-- The reference's result. -/
def result (E : FVec F S1024x5x4x128 .f32) (T : IVec S1024x5x4 32) (L : FVec F S1000x128 .f32) (W : FVec F S1000 .f32) (N : FVec F S20480x1000 .f32) :
    FVec F S_ .f32 :=
  loss (Host.negf (posDots E L T)) (negDots E L (bests (addf (logs (struck (dist W) T)) N)))

/-- What the whole program leaves in its result. -/
theorem final_read (m : (ℓ : Loc nD τ sig) → Buf (Elt F) ℓ) (c : Dev nD) :
    final m c (Proc.devRef .tc main_v54) = result (F := F) (m ((c.tc : Thread nD τ).loc main_arg0)) (m ((c.tc : Thread nD τ).loc main_arg1))
      (m ((c.tc : Thread nD τ).loc main_arg2)) (m ((c.tc : Thread nD τ).loc main_arg3)) (noise (F := F) key) := by
  unfold final result
  rw [ops_eq]
  simp only [after_append]
  rw [loss_read, (neg_read _).1, (neg_read _).2, top_read,
    opsTop_tidy.keep _ main_arg0 (Or.inl (by decide)), opsTop_tidy.keep _ main_arg2 (Or.inl (by decide)),
    opsTop_tidy.keep _ main_v7 (Or.inl (by decide)), noise_read,
    opsBits_tidy.keep _ main_arg0 (Or.inl (by decide)), opsBits_tidy.keep _ main_arg2 (Or.inl (by decide)),
    opsBits_tidy.keep _ main_v7 (Or.inl (by decide)), opsBits_tidy.keep _ main_v42 (Or.inl (by decide)),
    opsGen_tidy.keep _ main_arg0 (Or.inl (by decide)), opsGen_tidy.keep _ main_arg2 (Or.inl (by decide)),
    opsGen_tidy.keep _ main_v7 (Or.inl (by decide)), opsGen_tidy.keep _ main_v42 (Or.inl (by decide)),
    opsCount_tidy.keep _ main_arg0 (Or.inl (by decide)), opsCount_tidy.keep _ main_arg2 (Or.inl (by decide)),
    opsCount_tidy.keep _ main_v7 (Or.inl (by decide)), opsCount_tidy.keep _ main_v42 (Or.inl (by decide)),
    (logit_read _).1, (logit_read _).2,
    opsLogit_tidy.keep _ main_arg0 (Or.inl (by decide)), opsLogit_tidy.keep _ main_arg2 (Or.inl (by decide)),
    opsLogit_tidy.keep _ main_v7 (Or.inl (by decide)),
    (pos_read _).1, (pos_read _).2,
    opsPos_tidy.keep _ main_arg0 (Or.inl (by decide)), opsPos_tidy.keep _ main_arg1 (Or.inl (by decide)),
    opsPos_tidy.keep _ main_arg2 (Or.inl (by decide))]

end Cert.RefRun

end
-- ==== Proof.RefTake.lean ====
/-
  THE REFERENCE'S ROWS: at indices inside the vocabulary, taking from the layer is reading its row; and a product is a sum over the row.
-/
module

public import proofs.«01_k».proof.Proof.RefForms
public import proofs.«01_k».proof.Proof.Spec
public import Idealize.ShloMosaic.Lib.Pointwise
public import Idealize.ShloMosaic.Lib.ReduceAll

@[expose] public section

set_option maxRecDepth 20000
set_option maxHeartbeats 4000000

noncomputable section

namespace Cert.RefRun

open Cert.ReferenceIdeal Cert.ReferenceIdeal.Gen Idealize.ShloMosaic

/-- What wrapping, testing and clamping make of a word below 1000. -/
theorem small_word (k : Nat) (hk : k < 1000) :
    IntOp.cmpi .slt (BitVec.ofNat 32 k) 0#32 = 0#1 ∧ IntOp.cmpi .sge (BitVec.ofNat 32 k) 0#32 = 1#1
    ∧ IntOp.cmpi .sle (BitVec.ofNat 32 k) 999#32 = 1#1 ∧ min (BitVec.ofNat 32 k).toInt.toNat 999 = k := by
  have h : (BitVec.ofNat 32 k).toInt = k := by
    rw [BitVec.toInt_eq_toNat_of_lt (by rw [BitVec.toNat_ofNat]; omega), BitVec.toNat_ofNat]
    omega
  refine ⟨?_, ?_, ?_, ?_⟩
  · show BitVec.ofBool ((BitVec.ofNat 32 k).slt 0#32) = 0#1
    rw [BitVec.slt_eq_decide, decide_eq_false (by rw [h]; simp)]
    rfl
  · show BitVec.ofBool ((0#32).sle (BitVec.ofNat 32 k)) = 1#1
    rw [BitVec.sle_eq_decide, decide_eq_true (by rw [h]; simp)]
    rfl
  · show BitVec.ofBool ((BitVec.ofNat 32 k).sle 999#32) = 1#1
    rw [BitVec.sle_eq_decide, decide_eq_true (by rw [h]; show (k : Int) ≤ 999; omega)]
    rfl
  · rw [h]; omega

theorem wrap3_apply (T : IVec S1024x5x4 32) (k : S1024x5x4.Idx → Nat) (hk : ∀ i, k i < 1000) (hT : ∀ i, T i = BitVec.ofNat 32 (k i))
    (s : Fin 1024) (p : Fin 5) (q : Fin 4) (z : Fin 1) : wrap3 T (ix4 s p q z) = BitVec.ofNat 32 (k (ix3 s p q)) := by
  unfold wrap3
  pointwise
  rw [hT, (small_word _ (hk _)).1]
  rfl

theorem inside3_apply (J : IVec S1024x5x4x1 32) (k : S1024x5x4x1.Idx → Nat) (hk : ∀ i, k i < 1000) (hJ : ∀ i, J i = BitVec.ofNat 32 (k i))
    (i : S1024x5x4.Idx) : inside3 J i = 1#1 := by
  unfold inside3
  refine Host.reduce_andi_one _ _ _ _ _ rfl fun j => ?_
  show IntOp.andi (IntOp.cmpi .sge (J j) 0#32) (IntOp.cmpi .sle (J j) 999#32) = 1#1
  rw [hJ, (small_word _ (hk _)).2.1, (small_word _ (hk _)).2.2.1]
  rfl

theorem gather3_apply (L : FVec Ideal S1000x128 .f32) (J : IVec S1024x5x4x1 32) (s : Fin 1024) (p : Fin 5) (q : Fin 4) (d : Fin 128) :
    Host.gather gather_S1000x128_S1024x5x4x1_S1024x5x4x128_3_0_n_n_0_3_1128 L J (ix4 s p q d)
      = L (ix2 ⟨min (J (ix4 s p q 0)).toInt.toNat 999, by omega⟩ d) := by
  unfold Host.gather
  refine congrArg L (funext fun a => Fin.ext ?_)
  match a with
  | ⟨0, _⟩ =>
    show GatherDims.start _ _ J 0 + GatherDims.batchCoord _ _ 0 + GatherDims.offCoord _ _ 0 = _
    rw [GatherDims.batchCoord_eq_zero _ _ _ List.not_mem_nil, GatherDims.offCoord_eq_zero _ _ _ (by decide)]
    unfold GatherDims.start
    rw [dif_pos (by decide)]
    show min (J _).toInt.toNat 999 = min (J _).toInt.toNat 999
    refine congrArg (fun j => min (J j).toInt.toNat 999) (funext fun b => Fin.ext ?_)
    match b with
    | ⟨0, _⟩ => rfl
    | ⟨1, _⟩ => rfl
    | ⟨2, _⟩ => rfl
    | ⟨3, _⟩ => rfl
  | ⟨1, _⟩ =>
    show GatherDims.start _ _ J 1 + GatherDims.batchCoord _ _ 1 + GatherDims.offCoord _ _ 1 = d.val
    rw [GatherDims.batchCoord_eq_zero _ _ _ List.not_mem_nil]
    unfold GatherDims.start GatherDims.offCoord
    rw [dif_neg (by decide), dif_pos (by decide)]
    exact (Nat.zero_add _).trans rfl

theorem take3_apply (L : FVec Ideal S1000x128 .f32) (T : IVec S1024x5x4 32) (k : S1024x5x4.Idx → Fin 1000)
    (hT : ∀ i, T i = BitVec.ofNat 32 (k i).val) (s : Fin 1024) (p : Fin 5) (q : Fin 4) (d : Fin 128) :
    take3 L T (ix4 s p q d) = L (ix2 (k (ix3 s p q)) d) := by
  have hw : ∀ j, wrap3 T j = BitVec.ofNat 32 (k (ix3 (j 0) (j 1) (j 2))).val := fun j => by
    have hj : j = ix4 (j 0) (j 1) (j 2) (j 3) := by
      funext b
      match b with
      | ⟨0, _⟩ => rfl
      | ⟨1, _⟩ => rfl
      | ⟨2, _⟩ => rfl
      | ⟨3, _⟩ => rfl
    rw [hj]
    exact wrap3_apply T (fun i => (k i).val) (fun i => (k i).isLt) hT _ _ _ _
  have hM := inside3_apply (wrap3 T) _ (fun i => (k _).isLt) hw
  have hG := gather3_apply L (wrap3 T)
  unfold take3
  generalize inside3 (wrap3 T) = M at hM ⊢
  generalize Host.gather _ L (wrap3 T) = G at hG ⊢
  pointwise
  rw [hM, hG]
  show L _ = _
  refine congrArg L (congrArg (fun x : Fin 1000 => ix2 x d) (Fin.ext ?_))
  show min (wrap3 T (ix4 s p q 0)).toInt.toNat 999 = _
  rw [hw]
  exact (small_word _ (k _).isLt).2.2.2

theorem posDots_apply (E : FVec Ideal S1024x5x4x128 .f32) (L : FVec Ideal S1000x128 .f32) (T : IVec S1024x5x4 32) (k : S1024x5x4.Idx → Fin 1000)
    (hT : ∀ i, T i = BitVec.ofNat 32 (k i).val) (s : Fin 1024) (p : Fin 5) (q : Fin 4) :
    posDots E L T (ix3 s p q) = Spec.dot (fun d => L (ix2 (k (ix3 s p q)) d)) (fun d => E (ix4 s p q d)) := by
  unfold posDots
  generalize hR : take3 L T = R
  have h : ∀ d, R (ix4 s p q d) = L (ix2 (k (ix3 s p q)) d) := fun d => by rw [← hR]; exact take3_apply L T k hT s p q d
  unfold Spec.dot
  pointwise
  refine Finset.sum_congr rfl fun d _ => ?_
  rw [← h d]
  exact mul_comm _ _

theorem wrap4_apply (T : IVec S1024x5x4x5 32) (k : S1024x5x4x5.Idx → Nat) (hk : ∀ i, k i < 1000) (hT : ∀ i, T i = BitVec.ofNat 32 (k i))
    (s : Fin 1024) (p : Fin 5) (q : Fin 4) (r : Fin 5) (z : Fin 1) : wrap4 T (ix5 s p q r z) = BitVec.ofNat 32 (k (ix4 s p q r)) := by
  unfold wrap4
  pointwise
  rw [hT, (small_word _ (hk _)).1]
  rfl

theorem inside4_apply (J : IVec S1024x5x4x5x1 32) (k : S1024x5x4x5x1.Idx → Nat) (hk : ∀ i, k i < 1000) (hJ : ∀ i, J i = BitVec.ofNat 32 (k i))
    (i : S1024x5x4x5.Idx) : inside4 J i = 1#1 := by
  unfold inside4
  refine Host.reduce_andi_one _ _ _ _ _ rfl fun j => ?_
  show IntOp.andi (IntOp.cmpi .sge (J j) 0#32) (IntOp.cmpi .sle (J j) 999#32) = 1#1
  rw [hJ, (small_word _ (hk _)).2.1, (small_word _ (hk _)).2.2.1]
  rfl

theorem gather4_apply (L : FVec Ideal S1000x128 .f32) (J : IVec S1024x5x4x5x1 32) (s : Fin 1024) (p : Fin 5) (q : Fin 4) (r : Fin 5) (d : Fin 128) :
    Host.gather gather_S1000x128_S1024x5x4x5x1_S1024x5x4x5x128_4_0_n_n_0_4_1128 L J (ix5 s p q r d)
      = L (ix2 ⟨min (J (ix5 s p q r 0)).toInt.toNat 999, by omega⟩ d) := by
  unfold Host.gather
  refine congrArg L (funext fun a => Fin.ext ?_)
  match a with
  | ⟨0, _⟩ =>
    show GatherDims.start _ _ J 0 + GatherDims.batchCoord _ _ 0 + GatherDims.offCoord _ _ 0 = _
    rw [GatherDims.batchCoord_eq_zero _ _ _ List.not_mem_nil, GatherDims.offCoord_eq_zero _ _ _ (by decide)]
    unfold GatherDims.start
    rw [dif_pos (by decide)]
    show min (J _).toInt.toNat 999 = min (J _).toInt.toNat 999
    refine congrArg (fun j => min (J j).toInt.toNat 999) (funext fun b => Fin.ext ?_)
    match b with
    | ⟨0, _⟩ => rfl
    | ⟨1, _⟩ => rfl
    | ⟨2, _⟩ => rfl
    | ⟨3, _⟩ => rfl
    | ⟨4, _⟩ => rfl
  | ⟨1, _⟩ =>
    show GatherDims.start _ _ J 1 + GatherDims.batchCoord _ _ 1 + GatherDims.offCoord _ _ 1 = d.val
    rw [GatherDims.batchCoord_eq_zero _ _ _ List.not_mem_nil]
    unfold GatherDims.start GatherDims.offCoord
    rw [dif_neg (by decide), dif_pos (by decide)]
    exact (Nat.zero_add _).trans rfl

theorem take4_apply (L : FVec Ideal S1000x128 .f32) (T : IVec S1024x5x4x5 32) (k : S1024x5x4x5.Idx → Fin 1000)
    (hT : ∀ i, T i = BitVec.ofNat 32 (k i).val) (s : Fin 1024) (p : Fin 5) (q : Fin 4) (r : Fin 5) (d : Fin 128) :
    take4 L T (ix5 s p q r d) = L (ix2 (k (ix4 s p q r)) d) := by
  have hw : ∀ j, wrap4 T j = BitVec.ofNat 32 (k (ix4 (j 0) (j 1) (j 2) (j 3))).val := fun j => by
    have hj : j = ix5 (j 0) (j 1) (j 2) (j 3) (j 4) := by
      funext b
      match b with
      | ⟨0, _⟩ => rfl
      | ⟨1, _⟩ => rfl
      | ⟨2, _⟩ => rfl
      | ⟨3, _⟩ => rfl
      | ⟨4, _⟩ => rfl
    rw [hj]
    exact wrap4_apply T (fun i => (k i).val) (fun i => (k i).isLt) hT _ _ _ _ _
  have hM := inside4_apply (wrap4 T) _ (fun i => (k _).isLt) hw
  have hG := gather4_apply L (wrap4 T)
  unfold take4
  generalize inside4 (wrap4 T) = M at hM ⊢
  generalize Host.gather _ L (wrap4 T) = G at hG ⊢
  pointwise
  rw [hM, hG]
  show L _ = _
  refine congrArg L (congrArg (fun x : Fin 1000 => ix2 x d) (Fin.ext ?_))
  show min (wrap4 T (ix5 s p q r 0)).toInt.toNat 999 = _
  rw [hw]
  exact (small_word _ (k _).isLt).2.2.2

theorem negDots_apply (E : FVec Ideal S1024x5x4x128 .f32) (L : FVec Ideal S1000x128 .f32) (T : IVec S1024x5x4x5 32) (k : S1024x5x4x5.Idx → Fin 1000)
    (hT : ∀ i, T i = BitVec.ofNat 32 (k i).val) (s : Fin 1024) (p : Fin 5) (q : Fin 4) (r : Fin 5) :
    negDots E L T (ix4 s p q r) = Spec.dot (fun d => L (ix2 (k (ix4 s p q r)) d)) (fun d => E (ix4 s p q d)) := by
  unfold negDots
  generalize hR : take4 L T = R
  have h : ∀ d, R (ix5 s p q r d) = L (ix2 (k (ix4 s p q r)) d) := fun d => by rw [← hR]; exact take4_apply L T k hT s p q r d
  unfold Spec.dot
  pointwise
  refine Finset.sum_congr rfl fun d _ => ?_
  rw [← h d]
  exact mul_comm _ _

end Cert.RefRun

end
-- ==== Proof.RefTop.lean ====
/-
  THE REFERENCE'S BEST FIVE: the indices of a row are the first places of its stable descending order.
-/
module

public import proofs.«01_k».proof.Proof.RefForms
public import proofs.«01_k».proof.Proof.Rows
public import Idealize.ShloMosaic.Lib.Pointwise

@[expose] public section

set_option maxRecDepth 20000
set_option maxHeartbeats 4000000

noncomputable section

namespace Cert.RefRun

open Cert.ReferenceIdeal Cert.ReferenceIdeal.Gen Idealize.ShloMosaic Cert.Rows

/-- The indices a sort by the first operand carries. -/
theorem sort_apply {α : Type} {s : Shape} (a : Fin s.rank) (gt : α → α → BitVec 1) (S : s.Idx → α) (j : s.Idx) :
    (Host.sort2 s a.val (fun l r => gt l.1 r.1) S (fun i => if hd : a.val < s.rank then iotaInDim s 32 ⟨a.val, hd⟩ i else 0#32 : IVec s 32)).2 j
      = BitVec.ofNat 32 (sortedFrom (fun k k' => gt (S (j.along a k)) (S (j.along a k')) == 1#1) (j a)).val := by
  unfold Host.sort2
  rw [dif_pos a.isLt]
  dsimp only
  rw [dif_pos a.isLt]
  unfold iotaInDim Shape.Idx.along
  rw [Function.update_self]

/-- The indices of the first places of an axis. -/
theorem topK_snd {α : Type} {s t : Shape} (a : Fin s.rank) (gt : α → α → BitVec 1) (S : s.Idx → α) (h : s.Slices (fun _ => 0) t) (j : t.Idx) :
    ∃ i : s.Idx, (∀ b, (i b).val = 0 + (j (b.cast h.1.symm)).val) ∧ (Host.topK t a.val gt S h).2 j
      = BitVec.ofNat 32 (sortedFrom (fun k k' => gt (S (i.along a k)) (S (i.along a k')) == 1#1) (i a)).val :=
  ⟨_, fun _ => rfl, sort_apply a gt S _⟩

/-- The indices of a row of scores. -/
theorem topK_apply (S : FVec Ideal S20480x1000 .f32) (n : Fin 20480) (r : Fin 5) :
    (Host.topK S20480x5 1 (FloatOps.cmpfTotal .gt) S sliceFits_S20480x1000_S20480x5).2 (ix2 n r)
      = BitVec.ofNat 32 (sortedFrom (fun k k' : Fin 1000 => decide (S (ix2 n k') < S (ix2 n k))) (r.castLE (by decide))).val := by
  have ha : ∀ (j : S20480x1000.Idx) (k : Fin 1000), j 0 = n → j.along 1 k = ix2 n k := fun j k h => funext fun a => by
    match a with
    | ⟨0, _⟩ => exact h
    | ⟨1, _⟩ => rfl
  have hb : ∀ x y : EReal, ((FloatOps.cmpfTotal (F := Ideal) (φ := .f32) .gt x y) == 1#1) = decide (y < x) := fun x y => by
    show (BitVec.ofBool (decide (y < x)) == 1#1) = _
    by_cases h : y < x
    · rw [decide_eq_true h]; rfl
    · rw [decide_eq_false h]; rfl
  obtain ⟨i, hi, e⟩ := topK_snd (s := S20480x1000) (1 : Fin 2) (FloatOps.cmpfTotal (F := Ideal) (φ := .f32) .gt) S sliceFits_S20480x1000_S20480x5 (ix2 n r)
  refine e.trans ?_
  have h0 : i 0 = n := Fin.ext ((hi 0).trans (Nat.zero_add _))
  have h1 : i 1 = r.castLE (by decide) := Fin.ext ((hi 1).trans (Nat.zero_add _))
  have hB : (fun k k' : Fin 1000 => FloatOps.cmpfTotal (F := Ideal) (φ := .f32) .gt (S (i.along 1 k)) (S (i.along 1 k')) == 1#1)
      = fun k k' : Fin 1000 => decide (S (ix2 n k') < S (ix2 n k)) := funext fun k => funext fun k' => by
    rw [ha _ k h0, ha _ k' h0]
    exact hb _ _
  exact congrArg (fun k : Fin 1000 => BitVec.ofNat 32 k.val)
    ((congrArg (fun B => sortedFrom (n := 1000) B (i 1)) hB).trans (congrArg (sortedFrom (n := 1000) _) h1))

theorem flat4 (x : IVec S20480x5 32) (s : Fin 1024) (p : Fin 5) (q : Fin 4) (r : Fin 5) :
    (shapeCast S1024x5x4x5 x shapeCasts_S20480x5_S1024x5x4x5 : IVec S1024x5x4x5 32) (ix4 s p q r) = x (ix2 (row s p q) r) := by
  pointwise

theorem bests_apply (S : FVec Ideal S20480x1000 .f32) (s : Fin 1024) (p : Fin 5) (q : Fin 4) (r : Fin 5) :
    bests S (ix4 s p q r)
      = BitVec.ofNat 32 (sortedFrom (fun k k' : Fin 1000 => decide (S (ix2 (row s p q) k') < S (ix2 (row s p q) k))) (r.castLE (by decide))).val := by
  rw [← topK_apply]
  unfold bests
  exact flat4 _ s p q r

end Cert.RefRun

end
-- ==== Proof.RefLogit.lean ====
/-
  THE REFERENCE'S MASKED LOGITS over the ideal values: at a row and an entry, `log (p / Z)` if the entry is not the row's target and has positive weight,
  and minus infinity otherwise.
-/
module

public import proofs.«01_k».proof.Proof.RefForms
public import proofs.«01_k».proof.Proof.Spec
public import proofs.«01_k».proof.Proof.Rows
public import Idealize.ShloMosaic.Lib.Pointwise
public import Idealize.ShloMosaic.Lib.Routing.OpsSet

@[expose] public section

set_option maxRecDepth 20000
set_option maxHeartbeats 4000000

noncomputable section

namespace Cert.RefRun

open Cert.ReferenceIdeal Cert.ReferenceIdeal.Gen Idealize.ShloMosaic Cert.Rows

/-- A frequency's weight as the reference computes it: its three-quarter power. -/
def power (r : ℝ) : ℝ := Real.rpow r (3 / 4)

theorem power_pos {r : ℝ} (h : 0 < r) : power r = Spec.weight r := by
  unfold power Spec.weight
  show r ^ (3 / 4 : ℝ) = _
  rw [Real.rpow_def_of_pos h, mul_comm]

theorem power_nonpos {r : ℝ} (h : r ≤ 0) : power r ≤ 0 := by
  unfold power
  show r ^ (3 / 4 : ℝ) ≤ 0
  rcases h.lt_or_eq with h | h
  · rw [Real.rpow_def_of_neg h]
    refine mul_nonpos_of_nonneg_of_nonpos (Real.exp_pos _).le ?_
    refine (Real.cos_neg_of_pi_div_two_lt_of_lt ?_ ?_).le <;> nlinarith [Real.pi_pos]
  · rw [h, Real.zero_rpow (by norm_num)]

theorem power_pos_iff (r : ℝ) : 0 < power r ↔ 0 < r := by
  refine ⟨fun h => ?_, fun h => ?_⟩
  · by_contra hr
    exact absurd (power_nonpos (not_lt.mp hr)) (not_le.mpr h)
  · rw [power_pos h]
    exact Spec.weight_pos r

/-- The sum of the sizes of the powers. -/
def mass (r : Fin 1000 → ℝ) : ℝ := ∑ v, |power (r v)|

theorem mass_pos (r : Fin 1000 → ℝ) (v : Fin 1000) (hv : 0 < r v) : 0 < mass r :=
  Finset.sum_pos' (fun _ _ => abs_nonneg _) ⟨v, Finset.mem_univ _, abs_pos.mpr ((power_pos_iff _).mpr hv).ne'⟩

theorem weights_apply (W : FVec Ideal S1000 .f32) (r : Fin 1000 → ℝ) (hr : ∀ v, W (ix1 v) = ((r v : ℝ) : EReal)) (v : Fin 1000) :
    weights W (ix1 v) = ((power (r v) : ℝ) : EReal) := by
  show Ideal.pow (W (ix1 v)) (Ideal.ofBits .f32 0x3F400000#32) = _
  rw [hr, show (0x3F400000#32 : BitVec 32) = 1061158912#32 from rfl, Spec.three_quarters, Ideal.pow_coe_coe]
  rfl

theorem dist_apply (W : FVec Ideal S1000 .f32) (r : Fin 1000 → ℝ) (hr : ∀ v, W (ix1 v) = ((r v : ℝ) : EReal)) (v : Fin 1000) :
    dist W (ix1 v) = Ideal.div ((power (r v) : ℝ) : EReal) ((mass r : ℝ) : EReal) := by
  have hw := weights_apply W r hr
  unfold dist
  generalize weights W = P at hw ⊢
  have hs : ∑ k : Fin 1000, Host.absf P (ix1 k) = ((mass r : ℝ) : EReal) := by
    unfold mass
    rw [← Spec.coe_sum]
    refine Finset.sum_congr rfl fun k _ => ?_
    show max (P (ix1 k)) (-(P (ix1 k))) = _
    rw [hw, Spec.abs_coe]
  rw [← hs, ← hw]
  pointwise

theorem spread_apply (D : FVec Ideal S1000 .f32) (n : Fin 20480) (v : Fin 1000) : spread D (ix2 n v) = D (ix1 v) := by
  unfold spread
  pointwise

theorem wrapped_apply (n : BitVec 32) (x : IVec S20480 32) (i : S20480.Idx) (k : Nat) (hk : k < 2 ^ 31) (h : x i = BitVec.ofNat 32 k) :
    wrapped n x i = BitVec.ofNat 32 k := by
  have hs : IntOp.cmpi .slt (BitVec.ofNat 32 k) 0#32 = 0#1 := by
    show BitVec.ofBool ((BitVec.ofNat 32 k).slt 0#32) = 0#1
    have e : (BitVec.ofNat 32 k).toInt = k := by
      rw [BitVec.toInt_eq_toNat_of_lt (by rw [BitVec.toNat_ofNat]; omega), BitVec.toNat_ofNat]
      omega
    rw [BitVec.slt_eq_decide, decide_eq_false (by rw [e]; simp)]
    rfl
  show Scalar.select (IntOp.cmpi .slt (x i) 0#32) _ (x i) = _
  rw [h, hs]
  rfl

theorem targets_flat (T : IVec S1024x5x4 32) (n : Fin 20480) :
    (shapeCast S20480 T shapeCasts_S1024x5x4_S20480 : IVec S20480 32) (ix1 n) = T (ix3 (sen n) (pos n) (ctx n)) := by
  pointwise

theorem pairCols_apply (a b : IVec S20480x1 32) (n : Fin 20480) :
    pairCols (F := Ideal) a b (ix2 n (0 : Fin 2)) = a (ix2 n 0) ∧ pairCols (F := Ideal) a b (ix2 n (1 : Fin 2)) = b (ix2 n 0) := by
  unfold pairCols
  refine ⟨?_, ?_⟩
  · pointwise
  · pointwise

theorem strikes_apply (T : IVec S1024x5x4 32) (k : Fin 20480 → Fin 1000) (hk : ∀ n, T (ix3 (sen n) (pos n) (ctx n)) = BitVec.ofNat 32 (k n).val) (n : Fin 20480) :
    strikes (F := Ideal) T (ix2 n (0 : Fin 2)) = BitVec.ofNat 32 n.val ∧ strikes (F := Ideal) T (ix2 n (1 : Fin 2)) = BitVec.ofNat 32 (k n).val := by
  have h0 := wrapped_apply 20480#32 (iotaInDim S20480 32 0) (ix1 n) n.val (by omega) rfl
  have h1 := wrapped_apply 1000#32 (shapeCast S20480 T shapeCasts_S1024x5x4_S20480) (ix1 n) (k n).val (by omega) ((targets_flat T n).trans (hk n))
  unfold strikes
  generalize wrapped 20480#32 (iotaInDim S20480 32 0) = a at h0 ⊢
  generalize wrapped 1000#32 (shapeCast S20480 T shapeCasts_S1024x5x4_S20480) = b at h1 ⊢
  rw [(pairCols_apply _ _ n).1, (pairCols_apply _ _ n).2, ← h0, ← h1]
  refine ⟨?_, ?_⟩ <;> pointwise

/-- Where the update of a row lands: the row and column its two words name. -/
theorem scatter_start (J : IVec S20480x2 32) (j : S20480.Idx) :
    scatter_S20480x1000_S20480x2_S20480_n_01_01_1.start j J 0 = (J (ix2 (j 0) (0 : Fin 2))).toInt
    ∧ scatter_S20480x1000_S20480x2_S20480_n_01_01_1.start j J 1 = (J (ix2 (j 0) (1 : Fin 2))).toInt := by
  unfold ScatterDims.start
  refine ⟨?_, ?_⟩
  · rw [dif_pos (by decide)]
    refine congrArg (fun i => (J i).toInt) (funext fun b => Fin.ext ?_)
    match b with
    | ⟨0, _⟩ => rfl
    | ⟨1, _⟩ => rfl
  · rw [dif_pos (by decide)]
    refine congrArg (fun i => (J i).toInt) (funext fun b => Fin.ext ?_)
    match b with
    | ⟨0, _⟩ => rfl
    | ⟨1, _⟩ => rfl

theorem lands (J : IVec S20480x2 32) (k : Fin 20480 → Fin 1000) (hJ : ∀ n : Fin 20480, J (ix2 n (0 : Fin 2)) = BitVec.ofNat 32 n.val ∧ J (ix2 n (1 : Fin 2)) = BitVec.ofNat 32 (k n).val)
    (m n : Fin 20480) (v : Fin 1000) :
    scatter_S20480x1000_S20480x2_S20480_n_01_01_1.resultIdx? (ix1 m) J = some (ix2 n v) ↔ m = n ∧ k m = v := by
  have hi : ∀ w : Nat, w < 2 ^ 31 → (BitVec.ofNat 32 w).toInt = w := fun w hw => by
    rw [BitVec.toInt_eq_toNat_of_lt (by rw [BitVec.toNat_ofNat]; omega), BitVec.toNat_ofNat]
    omega
  have h0 := (scatter_start J (ix1 m)).1.trans ((congrArg BitVec.toInt (hJ m).1).trans (hi _ (by omega)))
  have h1 := (scatter_start J (ix1 m)).2.trans ((congrArg BitVec.toInt (hJ m).2).trans (hi _ (by omega)))
  rw [Routing.resultIdx?_eq_some]
  refine ⟨fun e => ?_, fun e a => ?_⟩
  · have e0 : scatter_S20480x1000_S20480x2_S20480_n_01_01_1.start (ix1 m) J 0 + ((0 : Nat) : Int) = (n.val : Int) := e 0
    have e1 : scatter_S20480x1000_S20480x2_S20480_n_01_01_1.start (ix1 m) J 1 + ((0 : Nat) : Int) = (v.val : Int) := e 1
    rw [h0] at e0
    rw [h1] at e1
    exact ⟨Fin.ext (by omega), Fin.ext (by omega)⟩
  · obtain ⟨rfl, rfl⟩ := e
    match a with
    | ⟨0, _⟩ =>
      show scatter_S20480x1000_S20480x2_S20480_n_01_01_1.start (ix1 m) J 0 + ((0 : Nat) : Int) = (m.val : Int)
      rw [h0]; omega
    | ⟨1, _⟩ =>
      show scatter_S20480x1000_S20480x2_S20480_n_01_01_1.start (ix1 m) J 1 + ((0 : Nat) : Int) = ((k m).val : Int)
      rw [h1]; omega

theorem struck_apply (D : FVec Ideal S1000 .f32) (T : IVec S1024x5x4 32) (k : Fin 20480 → Fin 1000)
    (hk : ∀ n, T (ix3 (sen n) (pos n) (ctx n)) = BitVec.ofNat 32 (k n).val) (n : Fin 20480) (v : Fin 1000) :
    struck D T (ix2 n v) = if v = k n then 0 else D (ix1 v) := by
  have hl := lands (strikes (F := Ideal) T) k (strikes_apply T k hk)
  have h1 : ∀ j : S20480.Idx, j = ix1 (j 0) := fun j => funext fun b => by
    match b with
    | ⟨0, _⟩ => rfl
  unfold struck
  split
  · rename_i h
    refine Routing.scatter_set_hit _ _ _ _ _ _ (fun j _ => ?_) (ix1 n) ((hl n n v).mpr ⟨rfl, h.symm⟩)
    exact Ideal.ofBits_zero_f32
  · rename_i h
    rw [Routing.scatter_set_miss _ _ _ _ _ fun j hj => ?_]
    · exact spread_apply D n v
    · rw [h1 j] at hj
      obtain ⟨a, b⟩ := (hl _ n v).mp hj
      exact h (by rw [← b, a])

theorem logs_apply (P : FVec Ideal S20480x1000 .f32) (i : S20480x1000.Idx) :
    logs P i = if 0 < P i then Ideal.log (if 0 < P i then P i else Ideal.ofBits .f32 0x3F800000#32) else ⊥ := by
  unfold logs
  rw [← Spec.bot_bits]
  pointwise

/-- A row's masked logits. -/
theorem logits_apply (W : FVec Ideal S1000 .f32) (r : Fin 1000 → ℝ) (hr : ∀ v, W (ix1 v) = ((r v : ℝ) : EReal)) (hz : 0 < mass r) (T : IVec S1024x5x4 32)
    (k : Fin 20480 → Fin 1000) (hk : ∀ n, T (ix3 (sen n) (pos n) (ctx n)) = BitVec.ofNat 32 (k n).val) (n : Fin 20480) (v : Fin 1000) :
    logs (struck (dist W) T) (ix2 n v) = Spec.score (v ≠ k n ∧ 0 < r v) (Real.log (Spec.weight (r v))) (Real.log (mass r)) := by
  rw [logs_apply, struck_apply _ T k hk]
  unfold Spec.score
  by_cases h : v = k n
  · rw [if_pos h, if_neg (lt_irrefl _), if_neg fun q => q.1 h]
  · rw [if_neg h, dist_apply W r hr, Spec.logit _ _ hz]
    by_cases hp : 0 < r v
    · rw [if_pos ((power_pos_iff _).mpr hp), if_pos ⟨h, hp⟩, power_pos hp]
    · rw [if_neg fun q => hp ((power_pos_iff _).mp q), if_neg fun q => hp q.2]

/-- A row's scores: its masked logits plus its noise. -/
theorem row_scores (W : FVec Ideal S1000 .f32) (r : Fin 1000 → ℝ) (hr : ∀ v, W (ix1 v) = ((r v : ℝ) : EReal)) (hz : 0 < mass r) (T : IVec S1024x5x4 32)
    (k : Fin 20480 → Fin 1000) (hk : ∀ n, T (ix3 (sen n) (pos n) (ctx n)) = BitVec.ofNat 32 (k n).val)
    (N : FVec Ideal S20480x1000 .f32) (g : Fin 20480 → Fin 1000 → ℝ) (hg : ∀ n v, N (ix2 n v) = ((g n v : ℝ) : EReal)) (n : Fin 20480) (v : Fin 1000) :
    (addf (logs (struck (dist W) T)) N : FVec Ideal S20480x1000 .f32) (ix2 n v)
      = Spec.score (v ≠ k n ∧ 0 < r v) (g n v + Real.log (Spec.weight (r v))) (Real.log (mass r)) := by
  have h := logits_apply W r hr hz T k hk n v
  generalize logs (struck (dist W) T) = P at h ⊢
  show P (ix2 n v) + N (ix2 n v) = _
  rw [h, hg]
  unfold Spec.score
  by_cases hm : v ≠ k n ∧ 0 < r v
  · rw [if_pos hm, if_pos hm, ← EReal.coe_add]
    congr 1
    ring
  · rw [if_neg hm, if_neg hm, EReal.bot_add]

end Cert.RefRun

end
-- ==== Proof.RefLoss.lean ====
/-
  THE REFERENCE'S LOSS over the ideal values: the sum of softplus of the positive products, plus the mean over the batch of that of the negative ones.
-/
module

public import proofs.«01_k».proof.Proof.RefForms
public import proofs.«01_k».proof.Proof.Spec
public import Idealize.ShloMosaic.Lib.Pointwise

@[expose] public section

set_option maxRecDepth 20000
set_option maxHeartbeats 4000000

noncomputable section

namespace Cert.RefRun

open Cert.ReferenceIdeal Cert.ReferenceIdeal.Gen Idealize.ShloMosaic

/-- Softplus as the reference writes it. -/
theorem soft_eq (x : EReal) :
    Scalar.select (FloatOps.cmpf (F := Ideal) (φ := .f32) .une (x - 0) (x - 0)) (x + 0) (max x 0 + Ideal.log1p (Ideal.exp (-(max (x - 0) (-(x - 0)))))) = Spec.soft x := by
  have h : FloatOps.cmpf (F := Ideal) (φ := .f32) .une (x - 0) (x - 0) = 0#1 := by
    show BitVec.ofBool _ = _
    simp
  rw [h]
  unfold Spec.soft
  rw [sub_zero, zero_sub]
  rfl

theorem softs_apply {s : Shape} (z x : FVec Ideal s .f32) (hz : ∀ i, z i = 0) (i : s.Idx) : softs z x i = Spec.soft (x i) := by
  rw [← soft_eq, ← hz i]
  rfl

theorem loss_apply (P : FVec Ideal S1024x5x4 .f32) (N : FVec Ideal S1024x5x4x5 .f32) (i : S_.Idx) :
    loss P N i = (∑ s : Fin 1024, ∑ p : Fin 5, ∑ q : Fin 4, Spec.soft (P (ix3 s p q)))
      + Ideal.div (∑ s : Fin 1024, ∑ p : Fin 5, ∑ q : Fin 4, ∑ r : Fin 5, Spec.soft (N (ix4 s p q r))) ((1024 : ℝ) : EReal) := by
  have hz3 : ∀ i, (broadcastInDim S1024x5x4 ![] bcast_S_S1024x5x4 (constant S_ .f32 0x00000000#32) : FVec Ideal S1024x5x4 .f32) i = 0 := fun i => Ideal.ofBits_zero_f32
  have hz4 : ∀ i, (broadcastInDim S1024x5x4x5 ![] bcast_S_S1024x5x4x5 (constant S_ .f32 0x00000000#32) : FVec Ideal S1024x5x4x5 .f32) i = 0 := fun i => Ideal.ofBits_zero_f32
  have h3 := softs_apply _ P hz3
  have h4 := softs_apply _ N hz4
  have hk : Ideal.ofBits .f32 0x44800000#32 = ((1024 : ℝ) : EReal) := by
    simp [Ideal.ofBits, Ideal.ieee, -EReal.coe_mul]
    norm_num
  unfold loss
  generalize softs _ P = A at h3 ⊢
  generalize softs _ N = B at h4 ⊢
  rw [← hk]
  simp only [← h3, ← h4]
  have hs : Host.reduceAdd B (constant S_ .f32 0x00000000#32) reducesTo_S1024x5x4x5_S_d0_1_2_3 h_S_ i
      = ∑ s : Fin 1024, ∑ p : Fin 5, ∑ q : Fin 4, ∑ r : Fin 5, B (ix4 s p q r) := by
    rw [← sum_idx4 B]
    refine (Ideal.hostReduceAdd_total _ (fun b => b.elim0) _ _ _).trans ?_
    show Ideal.ofBits .f32 0x00000000#32 + _ = _
    rw [Ideal.ofBits_zero_f32, zero_add]
  rw [← hs]
  generalize Host.reduceAdd B _ _ _ = R
  pointwise

end Cert.RefRun

end
-- ==== Proof.Equal.lean ====
/-
  THE TWO RESULTS ARE ONE NUMBER: the sum over the grid points of the kernel's numbers is the reference's loss.
-/
module

public import proofs.«01_k».proof.Proof.KerPoint
public import proofs.«01_k».proof.Proof.RefTake
public import proofs.«01_k».proof.Proof.RefTop
public import proofs.«01_k».proof.Proof.RefLogit
public import proofs.«01_k».proof.Proof.RefLoss

@[expose] public section

set_option maxRecDepth 20000
set_option maxHeartbeats 1000000

noncomputable section

namespace Cert.Equal

open Idealize.ShloMosaic Cert.Rows Cert.Spec Cert.KerPoint

abbrev SE : Shape := ⟨4, ![1024, 5, 4, 128]⟩
abbrev ST : Shape := ⟨3, ![1024, 5, 4]⟩
abbrev SL : Shape := ⟨2, ![1000, 128]⟩
abbrev SW : Shape := ⟨1, ![1000]⟩
abbrev SN : Shape := ⟨2, ![20480, 1000]⟩

/-- Scores compare alike whatever the logarithm taken from all of them. -/
theorem score_lt (p q : Prop) [Decidable p] [Decidable q] (a b z z' : ℝ) :
    Spec.score p a z < Spec.score q b z ↔ Spec.score p a z' < Spec.score q b z' := by
  unfold Spec.score
  by_cases hp : p <;> by_cases hq : q <;> simp only [hp, hq, if_true, if_false]
  · rw [EReal.coe_lt_coe_iff, EReal.coe_lt_coe_iff]
    constructor <;> intro h <;> linarith
  · simp
  · exact iff_of_true (EReal.bot_lt_coe (b - z)) (EReal.bot_lt_coe (b - z'))

/-- With six positive frequencies, at least five entries may be drawn. -/
theorem five (r : Fin 1000 → ℝ) (k : Fin 1000) (g : Fin 1000 → ℝ) (h6 : 6 ≤ (Finset.univ.filter fun v => 0 < r v).card) :
    5 ≤ (Finset.univ.filter fun i => scores r k g i ≠ ⊥).card := by
  have h : 5 ≤ ((Finset.univ.filter fun v => 0 < r v).erase k).card := by
    have := Finset.pred_card_le_card_erase (s := Finset.univ.filter fun v => 0 < r v) (a := k)
    omega
  refine h.trans (Finset.card_le_card_of_injOn (fun v => v.castLE (by decide)) (fun v hv => ?_) fun a _ b _ e => ?_)
  · have hv' := Finset.mem_erase.mp (Finset.mem_coe.mp hv)
    have hr : 0 < r v := (Finset.mem_filter.mp hv'.2).2
    refine Finset.mem_coe.mpr (Finset.mem_filter.mpr ⟨Finset.mem_univ _, ?_⟩)
    unfold scores Spec.score
    rw [dif_pos (show (v.castLE (by decide) : Fin 1024).val < 1000 from v.isLt)]
    exact fun q => absurd ((if_pos (c := v ≠ k ∧ 0 < r v) ⟨hv'.1, hr⟩).symm.trans q) (EReal.coe_ne_bot _)
  · exact Fin.ext (congrArg (fun x : Fin 1024 => x.val) e)

/-- A place of the reference's order is the kernel's choice of that round. -/
theorem place (r : Fin 1000 → ℝ) (k : Fin 1000) (g : Fin 1000 → ℝ) (h6 : 6 ≤ (Finset.univ.filter fun v => 0 < r v).card) (z : ℝ)
    (s : Fin 1000 → EReal) (hs : ∀ v, s v = Spec.score (v ≠ k ∧ 0 < r v) (g v + Real.log (weight (r v))) z) (q : Fin 5) :
    (sortedFrom (fun a b : Fin 1000 => decide (s b < s a)) (q.castLE (by decide))).val = (Select.pick (scores r k g) q.val).val := by
  refine Select.sortedFrom_eq_pick (by decide : 1000 ≤ 1024) (scores r k g) s (fun v w => ?_) (fun v hv => ?_) 5 (five r k g h6) (by decide) q
  · have hc : ∀ v : Fin 1000, scores r k g (v.castLE (by decide)) = Spec.score (v ≠ k ∧ 0 < r v) (g v + Real.log (weight (r v))) (Real.log (total r)) :=
      fun v => dif_pos (show (v.castLE (by decide) : Fin 1024).val < 1000 from v.isLt)
    rw [hc, hc, hs, hs]
    exact score_lt _ _ _ _ _ _
  · exact dif_neg (by omega)

/-- The padded layer's product at an entry of the vocabulary. -/
theorem product_in (L : FVec Ideal SL .f32) (e : Fin 128 → EReal) (v : Fin 1024) (c : Fin 1000) (h : c.val = v.val) :
    product L e v = dot (fun d => L (ix2 c d)) e := by
  unfold product
  refine congrArg (fun f => dot f e) (funext fun d => ?_)
  rw [dif_pos (show v.val < 1000 by omega)]
  exact congrArg (fun x : Fin 1000 => L (ix2 x d)) (Fin.ext h.symm)

/-- A positive real factor comes out of a sum. -/
theorem sum_mul {ι : Type} (s : Finset ι) (f : ι → EReal) : ∑ i ∈ s, f i * ((1 / 1024 : ℝ) : EReal) = (∑ i ∈ s, f i) * ((1 / 1024 : ℝ) : EReal) := by
  classical
  induction s using Finset.induction_on with
  | empty => simp
  | insert a s ha ih =>
    rw [Finset.sum_insert ha, Finset.sum_insert ha, ih,
      EReal.right_distrib_of_nonneg_of_ne_top (by exact_mod_cast (by norm_num : (0 : ℝ) ≤ 1 / 1024)) (EReal.coe_ne_top _)]

/-- Sums over the grid points, and over the triples. -/
theorem regroup (A : Fin 20480 → EReal) (B : Fin 20480 → Fin 5 → EReal) :
    ∑ t : Fin 20, (∑ b : Fin 1024, A (at' t b) + (∑ q : Fin 5, ∑ b : Fin 1024, B (at' t b) q) * ((1 / 1024 : ℝ) : EReal))
      = (∑ s : Fin 1024, ∑ p : Fin 5, ∑ q : Fin 4, A (row s p q))
        + Ideal.div (∑ s : Fin 1024, ∑ p : Fin 5, ∑ q : Fin 4, ∑ r : Fin 5, B (row s p q) r) ((1024 : ℝ) : EReal) := by
  have h : ∑ t : Fin 20, ∑ q : Fin 5, ∑ b : Fin 1024, B (at' t b) q = ∑ n, ∑ r, B n r := by
    rw [← sum_points]
    exact Finset.sum_congr rfl fun t _ => Finset.sum_comm
  rw [Finset.sum_add_distrib, sum_points A, sum_triples A, sum_triples fun n => ∑ r, B n r, Ideal.div_coe (by norm_num : (1024 : ℝ) ≠ 0), sum_mul, h]

theorem sen_row (s : Fin 1024) (p : Fin 5) (q : Fin 4) : sen (row s p q) = s := Fin.ext (by show (s.val * 20 + p.val * 4 + q.val) / 20 = s.val; omega)
theorem pos_row (s : Fin 1024) (p : Fin 5) (q : Fin 4) : pos (row s p q) = p := Fin.ext (by show (s.val * 20 + p.val * 4 + q.val) / 4 % 5 = p.val; omega)
theorem ctx_row (s : Fin 1024) (p : Fin 5) (q : Fin 4) : ctx (row s p q) = q := Fin.ext (by show (s.val * 20 + p.val * 4 + q.val) % 4 = q.val; omega)

/-- The reference's choice at a row and a place. -/
def choice (S : FVec Ideal SN .f32) (n : Fin 20480) (q : Fin 5) : Fin 1000 :=
  sortedFrom (fun a b : Fin 1000 => decide (S (ix2 n b) < S (ix2 n a))) (q.castLE (by decide))

/-- The reference's result, as sums over the triples. -/
theorem result_eq (E : FVec Ideal SE .f32) (T : IVec ST 32) (L : FVec Ideal SL .f32) (W : FVec Ideal SW .f32) (N : FVec Ideal SN .f32)
    (k : Fin 20480 → Fin 1000) (hk : ∀ n, T (ix3 (sen n) (pos n) (ctx n)) = BitVec.ofNat 32 (k n).val)
    (S : FVec Ideal SN .f32) (hS : S = addf (Cert.RefRun.logs (Cert.RefRun.struck (Cert.RefRun.dist W) T)) N) (i : Cert.ReferenceIdeal.S_.Idx) :
    Cert.RefRun.result E T L W N i
      = (∑ s : Fin 1024, ∑ p : Fin 5, ∑ q : Fin 4, soft (0 - dot (fun d => L (ix2 (k (row s p q)) d)) (emb E (row s p q))))
        + Ideal.div (∑ s : Fin 1024, ∑ p : Fin 5, ∑ q : Fin 4, ∑ r : Fin 5,
            soft (dot (fun d => L (ix2 (choice S (row s p q) r) d)) (emb E (row s p q)))) ((1024 : ℝ) : EReal) := by
  have ht : ∀ s p q, T (ix3 s p q) = BitVec.ofNat 32 (k (row s p q)).val := fun s p q => by
    have h := hk (row s p q)
    rw [sen_row, pos_row, ctx_row] at h
    exact h
  have hT : ∀ j : ST.Idx, T j = BitVec.ofNat 32 (k (row (j 0) (j 1) (j 2))).val := fun j => by
    have hj : j = ix3 (j 0) (j 1) (j 2) := funext fun a => by
      match a with
      | ⟨0, _⟩ => rfl
      | ⟨1, _⟩ => rfl
      | ⟨2, _⟩ => rfl
    exact (congrArg T hj).trans (ht (j 0) (j 1) (j 2))
  have he : ∀ s p q, emb E (row s p q) = fun d => E (ix4 s p q d) := fun s p q => funext fun d => by
    unfold emb
    rw [sen_row, pos_row, ctx_row]
  have hB : ∀ j : Cert.ReferenceIdeal.S1024x5x4x5.Idx,
      Cert.RefRun.bests S j = BitVec.ofNat 32 (choice S (row (j 0) (j 1) (j 2)) (j 3)).val := fun j => by
    have hj : j = ix4 (j 0) (j 1) (j 2) (j 3) := funext fun a => by
      match a with
      | ⟨0, _⟩ => rfl
      | ⟨1, _⟩ => rfl
      | ⟨2, _⟩ => rfl
      | ⟨3, _⟩ => rfl
    exact (congrArg (Cert.RefRun.bests S) hj).trans (Cert.RefRun.bests_apply S (j 0) (j 1) (j 2) (j 3))
  have hP : ∀ s p q, Cert.RefRun.posDots E L T (ix3 s p q) = dot (fun d => L (ix2 (k (row s p q)) d)) fun d => E (ix4 s p q d) := Cert.RefRun.posDots_apply E L T (fun j => k (row (j 0) (j 1) (j 2))) hT
  have hN : ∀ s p q r, Cert.RefRun.negDots E L (Cert.RefRun.bests S) (ix4 s p q r)
      = dot (fun d => L (ix2 (choice S (row s p q) r) d)) fun d => E (ix4 s p q d) := Cert.RefRun.negDots_apply E L (Cert.RefRun.bests S) (fun j => choice S (row (j 0) (j 1) (j 2)) (j 3)) hB
  unfold Cert.RefRun.result
  rw [← hS]
  generalize Cert.RefRun.posDots E L T = P at hP ⊢
  generalize Cert.RefRun.negDots E L (Cert.RefRun.bests S) = Q at hN ⊢
  rw [Cert.RefRun.loss_apply]
  simp only [he]
  have h1 : ∀ s p q, (Host.negf P : FVec Ideal ST .f32) (ix3 s p q) = 0 - dot (fun d => L (ix2 (k (row s p q)) d)) fun d => E (ix4 s p q d) := fun s p q => by
    rw [zero_sub, ← hP s p q]
    rfl
  simp only [h1, hN]

/-- The kernel's sum over its grid points is the reference's result. -/
theorem equal (E : FVec Ideal SE .f32) (T : IVec ST 32) (L : FVec Ideal SL .f32) (W : FVec Ideal SW .f32) (N : FVec Ideal SN .f32)
    (k : Fin 20480 → Fin 1000) (hk : ∀ n, T (ix3 (sen n) (pos n) (ctx n)) = BitVec.ofNat 32 (k n).val)
    (r : Fin 1000 → ℝ) (hr : ∀ v, W (ix1 v) = ((r v : ℝ) : EReal)) (h6 : 6 ≤ (Finset.univ.filter fun v => 0 < r v).card)
    (g : Fin 20480 → Fin 1000 → ℝ) (hg : ∀ n v, N (ix2 n v) = ((g n v : ℝ) : EReal)) (i : Cert.ReferenceIdeal.S_.Idx) :
    ∑ t : Fin 20, (∑ b : Fin 1024, soft (0 - product L (emb E (at' t b)) ⟨(k (at' t b)).val, by omega⟩)
      + (∑ q : Fin 5, ∑ b : Fin 1024, soft (product L (emb E (at' t b)) (Select.pick (scores r (k (at' t b)) (g (at' t b))) q.val)))
        * ((1 / 1024 : ℝ) : EReal))
      = Cert.RefRun.result E T L W N i := by
  obtain ⟨v0, hv0⟩ : ∃ v, 0 < r v := by
    obtain ⟨v, hv⟩ := Finset.card_pos.mp (show 0 < (Finset.univ.filter fun v => 0 < r v).card by omega)
    exact ⟨v, (Finset.mem_filter.mp hv).2⟩
  have hz : 0 < Cert.RefRun.mass r := Cert.RefRun.mass_pos r v0 hv0
  have hs := Cert.RefRun.row_scores W r hr hz T k hk N g hg
  obtain ⟨S, hS⟩ : ∃ S : FVec Ideal SN .f32, S = addf (Cert.RefRun.logs (Cert.RefRun.struck (Cert.RefRun.dist W) T)) N := ⟨_, rfl⟩
  rw [result_eq E T L W N k hk S hS i]
  rw [← hS] at hs
  have hA : ∀ n, product L (emb E n) ⟨(k n).val, by omega⟩ = dot (fun d => L (ix2 (k n) d)) (emb E n) := fun n =>
    product_in L _ _ (k n) rfl
  have hB : ∀ n (q : Fin 5), product L (emb E n) (Select.pick (scores r (k n) (g n)) q.val) = dot (fun d => L (ix2 (choice S n q) d)) (emb E n) := fun n q =>
    product_in L _ _ (choice S n q) (place r (k n) (g n) h6 _ (fun v => S (ix2 n v)) (hs n) q)
  simp only [hA, hB]
  exact regroup (fun n => soft (0 - dot (fun d => L (ix2 (k n) d)) (emb E n))) fun n q => soft (dot (fun d => L (ix2 (choice S n q) d)) (emb E n))

end Cert.Equal

end
-- ==== Proof.lean ====
/-
  THE CERTIFICATE: the frames of the three programs, the idealization, and the two programs' one result.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Run
public import proofs.«01_k».proof.Proof.Gen.ReferenceIdeal
public import proofs.«01_k».proof.Proof.RefKeep
public import proofs.«01_k».proof.Proof.NoiseFinite
public import proofs.«01_k».proof.Proof.Samplable
public import proofs.«01_k».proof.Proof.Equal
public import Idealize.ShloMosaic.Adequacy
public import Idealize.ShloMosaic.Init

@[expose] public section

set_option maxRecDepth 20000

noncomputable section

namespace Cert.Proof

open Idealize.ShloMosaic Idealize.ShloMosaic.TcCoe Idealize.SL.Sem

/-- The kernel's sum over its grid points is the reference's result of the same arguments. -/
theorem same (m : (ℓ : Loc Cert.KernelIdeal.nD Cert.KernelIdeal.τ Cert.KernelIdeal.sig) → Buf (Elt Ideal) ℓ) (c : Dev Cert.KernelIdeal.nD)
    (h : Cert.Pre_samplable.fn (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) = fun _ => 1#1) (i : Cert.ReferenceIdeal.S_.Idx) :
    ∑ t : Fin 20, Cert.KerArray.num m c ⟨t.val, lt_of_lt_of_le t.isLt Cert.KerArray.last⟩
      = Cert.RefRun.result (F := Ideal) (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3)) (Cert.Noise.noise (F := Ideal) Cert.Noise.key) i := by
  obtain ⟨k, r, hk, hr, h6⟩ := Cert.Samplable.read _ _ _ _ (fun a => a.elim0) (congrFun h _)
  obtain ⟨g, hg⟩ := Cert.NoiseFinite.noise_real
  have hE := Cert.KerHost.V_v0 m c
  have hT := Cert.KerHost.V_v1 m c
  have hL := Cert.KerHost.V_v4 m c
  have hW := Cert.KerHost.V_v7 m c
  have hN := Cert.KerHost.V_v21 m c
  generalize Cert.Noise.noise (F := Ideal) Cert.Noise.key = N at hg hN ⊢
  obtain ⟨v, hv⟩ : ∃ v, 0 < r v := by
    obtain ⟨v, hv⟩ := Finset.card_pos.mp (show 0 < (Finset.univ.filter fun v => 0 < r v).card by omega)
    exact ⟨v, (Finset.mem_filter.mp hv).2⟩
  rw [← Cert.Equal.equal _ _ _ _ N k hk r hr h6 (fun n v => g (ix2 n v)) (fun n v => hg _) i]
  exact Finset.sum_congr rfl fun t _ => Cert.KerPoint.num_eq m c _ hE _ hT _ hL _ hW N hN k hk r hr (Cert.KerPoint.total_pos r v hv)
    (fun n v => g (ix2 n v)) (fun n v => hg _) _

theorem value : Cert.algebraic_KernelIdeal_ReferenceIdeal_pre_samplable (hPre_samplable := Cert.Samplable.facts) := by
  intro m ρ m' ρ' hpre hargs
  refine ⟨fun c => Cert.RefRun.result (F := Ideal) (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg2))
    (m' ((c.tc : Thread Cert.ReferenceIdeal.nD Cert.ReferenceIdeal.τ).loc Cert.ReferenceIdeal.main_arg3)) (Cert.Noise.noise (F := Ideal) Cert.Noise.key), ?_, ?_⟩
  · refine (θ_run _ _ _).mono (fun r hr c => ⟨((hr c).1.trans (Cert.KerArray.main_result m c)).trans ?_, (hr c).2⟩) (Cert.KernelIdeal.Value.run m ρ)
    obtain ⟨h0, h1, h2, h3⟩ := hargs c
    funext i
    beta_reduce
    rw [h0, h1, h2, h3]
    exact same m c (hpre c) i
  · exact (θ_run _ _ _).mono (fun r hr c => ⟨(hr.1 c).1.trans (Cert.RefRun.final_read m' c), (hr.1 c).2⟩) (Cert.RefRun.run m' ρ')

theorem claim : Cert.Claim :=
  ⟨Cert.Kernel.Gen.facts, Cert.KernelIdeal.Gen.facts, Cert.ReferenceIdeal.Gen.facts, Cert.Samplable.facts,
    fun m ρ _ => Cert.Kernel.Gen.frame m ρ, fun m ρ _ => Cert.KernelIdeal.Gen.frame m ρ, fun m ρ _ => Cert.KernelIdeal.Gen.frame m ρ,
    fun m ρ _ => (θ_run _ _ _).mono (fun _ h => ⟨fun c => (h.1 c).2, h.2⟩) (Cert.RefRun.run m ρ),
    fun m ρ _ => (θ_run _ _ _).mono (fun _ h => ⟨fun c => (h.1 c).2, h.2⟩) (Cert.RefRun.run m ρ), trivial, value⟩

end Cert.Proof

end
